-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "inv_bias1" .f32 0x3FC48605#32 ((8388608 / 5463681 : ℝ) : EReal)
  ∧ IdealRules.named_const.Statement Cert.Kernel10Ideal.κ "inv_bias2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "inv_bias1" .f32 0x3FC48605#32 ((8388608 / 5463681 : ℝ) : EReal)
  ∧ IdealRules.named_const.Statement Cert.Kernel11Ideal.κ "inv_bias2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "inv_bias1" .f32 0x3FC48605#32 ((8388608 / 5463681 : ℝ) : EReal)
  ∧ IdealRules.named_const.Statement Cert.Kernel12Ideal.κ "inv_bias2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "inv_bias1" .f32 0x3FC48605#32 ((8388608 / 5463681 : ℝ) : EReal)
  ∧ IdealRules.named_const.Statement Cert.Kernel13Ideal.κ "inv_bias2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "inv_bias1" .f32 0x3FC48605#32 ((8388608 / 5463681 : ℝ) : EReal)
  ∧ IdealRules.named_const.Statement Cert.Kernel14Ideal.κ "inv_bias2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "inv_bias1" .f32 0x3FC48605#32 ((8388608 / 5463681 : ℝ) : EReal)
  ∧ IdealRules.named_const.Statement Cert.Kernel15Ideal.κ "inv_bias2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "inv_bias1" .f32 0x3FC48605#32 ((8388608 / 5463681 : ℝ) : EReal)
  ∧ IdealRules.named_const.Statement Cert.Kernel16Ideal.κ "inv_bias2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "inv_bias1" .f32 0x3FC48605#32 ((8388608 / 5463681 : ℝ) : EReal)
  ∧ IdealRules.named_const.Statement Cert.Kernel17Ideal.κ "inv_bias2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "inv_bias1" .f32 0x3FC48605#32 ((8388608 / 5463681 : ℝ) : EReal)
  ∧ IdealRules.named_const.Statement Cert.Kernel18Ideal.κ "inv_bias2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "inv_bias1" .f32 0x3FC48605#32 ((8388608 / 5463681 : ℝ) : EReal)
  ∧ IdealRules.named_const.Statement Cert.Kernel19Ideal.κ "inv_bias2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_v17) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_v19) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v18) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v52) = v0 c
          ∧ r.2.mem ((c.tc : Thread Cert.Reference26Ideal.nD Cert.Reference26Ideal.τ).loc Cert.Reference26Ideal.main_v51) = v1 c
          ∧ r.2.mem ((c.tc : Thread Cert.Reference26Ideal.nD Cert.Reference26Ideal.τ).loc Cert.Reference26Ideal.main_v53) = v2 c
          ∧ r.2.mem ((c.tc : Thread Cert.Reference26Ideal.nD Cert.Reference26Ideal.τ).loc Cert.Reference26Ideal.main_v54) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S4096x1024 .f32) (main_arg1 : FVec F S4096x4096 .bf16) (main_arg2 : FVec F S1x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Kernel.lean ====
abbrev S4096x1024 : Shape := ⟨2, ![4096, 1024]⟩
abbrev S4096x4096 : Shape := ⟨2, ![4096, 4096]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1024 : Shape := ⟨2, ![4096, 1024]⟩
abbrev S4096x4096 : Shape := ⟨2, ![4096, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Kernel2.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x4096 : Shape := ⟨2, ![512, 4096]⟩
abbrev S1x1024x1024 : Shape := ⟨3, ![1, 1024, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x1024x1024 : Shape := ⟨3, ![4, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x4224 : Shape := ⟨2, ![4096, 4224]⟩
abbrev S1024x4224 : Shape := ⟨2, ![1024, 4224]⟩
abbrev S4096x1024 : Shape := ⟨2, ![4096, 1024]⟩
abbrev S1x1024 : Shape := ⟨2, ![1, 1024]⟩
abbrev S512x4224 : Shape := ⟨2, ![512, 4224]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x4224 : Shape := ⟨2, ![4096, 4224]⟩
abbrev S1024x4224 : Shape := ⟨2, ![1024, 4224]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4224, .f32⟩
  | .hbm, ⟨27, _⟩ => ⟨S4096x4224, .f32⟩
  | .hbm, ⟨28, _⟩ => ⟨S4096x4224, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4x1024x1024 : Shape := ⟨3, ![4, 1024, 1024]⟩
abbrev S4096x4096 : Shape := ⟨2, ![4096, 4096]⟩
abbrev S512x1024 : Shape := ⟨2, ![512, 1024]⟩
abbrev S1x1024x1024 : Shape := ⟨3, ![1, 1024, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x1024, .bf16⟩
  | .hbm, ⟨4, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x4096 : Shape := ⟨2, ![4096, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference15Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x1024x1024 : Shape := ⟨3, ![4, 1024, 1024]⟩
abbrev S4x512x1024 : Shape := ⟨3, ![4, 512, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel16Ideal.lean ====
abbrev S4x1024x1024 : Shape := ⟨3, ![4, 1024, 1024]⟩
abbrev S4x512x1024 : Shape := ⟨3, ![4, 512, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S4x1024x1024 : Shape := ⟨3, ![4, 1024, 1024]⟩
abbrev S4x512x1024 : Shape := ⟨3, ![4, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S_, .f32⟩
  | .hbm, ⟨7, _⟩ => ⟨S4x1024x1024, .f32⟩
  | .hbm, ⟨8, _⟩ => ⟨S4x1024x1024, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S_, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S2x1024x1028 : Shape := ⟨3, ![2, 1024, 1028]⟩
abbrev S2x512x1028 : Shape := ⟨3, ![2, 512, 1028]⟩
abbrev S1x256x1028 : Shape := ⟨3, ![1, 256, 1028]⟩
abbrev S256x1028 : Shape := ⟨2, ![256, 1028]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x512x1028, .f32⟩
  | .hbm, ⟨4, _⟩ => ⟨S2x512x1028, .f32⟩
  | .hbm, ⟨5, _⟩ => ⟨S2x1024x1028, .f32⟩
  | .hbm, ⟨6, _⟩ => ⟨S2x1024x1028, .f32⟩
  | .hbm, ⟨7, _⟩ => ⟨S2x1024x1028, .f32⟩
  | .hbm, ⟨8, _⟩ => ⟨S2x1024x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .f32⟩
  | .local _ .vmem, ⟨7, _⟩ => ⟨S1x256x1028, .f32⟩
  | .local _ .vmem, ⟨8, _⟩ => ⟨S1x256x1028, .f32⟩
  | .local _ .vmem, ⟨9, _⟩ => ⟨S1x256x1028, .f32⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel17Ideal.lean ====
abbrev S2x1024x1028 : Shape := ⟨3, ![2, 1024, 1028]⟩
abbrev S2x512x1028 : Shape := ⟨3, ![2, 512, 1028]⟩
abbrev S1x256x1028 : Shape := ⟨3, ![1, 256, 1028]⟩
abbrev S256x1028 : Shape := ⟨2, ![256, 1028]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x512x1028, .f32⟩
  | .hbm, ⟨4, _⟩ => ⟨S2x512x1028, .f32⟩
  | .hbm, ⟨5, _⟩ => ⟨S2x1024x1028, .f32⟩
  | .hbm, ⟨6, _⟩ => ⟨S2x1024x1028, .f32⟩
  | .hbm, ⟨7, _⟩ => ⟨S2x1024x1028, .f32⟩
  | .hbm, ⟨8, _⟩ => ⟨S2x1024x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .f32⟩
  | .local _ .vmem, ⟨7, _⟩ => ⟨S1x256x1028, .f32⟩
  | .local _ .vmem, ⟨8, _⟩ => ⟨S1x256x1028, .f32⟩
  | .local _ .vmem, ⟨9, _⟩ => ⟨S1x256x1028, .f32⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S2x1024x1028 : Shape := ⟨3, ![2, 1024, 1028]⟩
abbrev S2x512x1028 : Shape := ⟨3, ![2, 512, 1028]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x512x1028, .f32⟩
  | .hbm, ⟨4, _⟩ => ⟨S2x512x1028, .f32⟩
  | .hbm, ⟨5, _⟩ => ⟨S2x1024x1028, .f32⟩
  | .hbm, ⟨6, _⟩ => ⟨S_, .f32⟩
  | .hbm, ⟨7, _⟩ => ⟨S2x1024x1028, .f32⟩
  | .hbm, ⟨8, _⟩ => ⟨S2x1024x1028, .f32⟩
  | .hbm, ⟨9, _⟩ => ⟨S_, .f32⟩
  | .hbm, ⟨10, _⟩ => ⟨S2x1024x1028, .f32⟩
  | .hbm, ⟨11, _⟩ => ⟨S2x1024x1028, .f32⟩
  | .hbm, ⟨12, _⟩ => ⟨S2x1024x1028, .f32⟩
  | .hbm, ⟨13, _⟩ => ⟨S_, .f32⟩
  | .hbm, ⟨14, _⟩ => ⟨S2x1024x1028, .f32⟩
  | .hbm, ⟨15, _⟩ => ⟨S2x1024x1028, .f32⟩
  | .hbm, ⟨16, _⟩ => ⟨S2x1024x1028, .f32⟩
  | .hbm, ⟨17, _⟩ => ⟨S_, .f32⟩
  | .hbm, ⟨18, _⟩ => ⟨S2x1024x1028, .f32⟩
  | .hbm, ⟨19, _⟩ => ⟨S2x1024x1028, .f32⟩
  | .hbm, ⟨20, _⟩ => ⟨S2x1024x1028, .f32⟩
  | .hbm, ⟨21, _⟩ => ⟨S_, .f32⟩
  | .hbm, ⟨22, _⟩ => ⟨S2x1024x1028, .f32⟩
  | .hbm, ⟨23, _⟩ => ⟨S2x1024x1028, .f32⟩
  | .hbm, ⟨24, _⟩ => ⟨S_, .f32⟩
  | .hbm, ⟨25, _⟩ => ⟨S2x1024x1028, .f32⟩
  | .hbm, ⟨26, _⟩ => ⟨S2x1024x1028, .f32⟩
  | .hbm, ⟨27, _⟩ => ⟨S2x1024x1028, .f32⟩
  | .hbm, ⟨28, _⟩ => ⟨S_, .f32⟩
  | .hbm, ⟨29, _⟩ => ⟨S2x1024x1028, .f32⟩
  | .hbm, ⟨30, _⟩ => ⟨S2x1024x1028, .f32⟩
  | .hbm, ⟨31, _⟩ => ⟨S2x1024x1028, .f32⟩
  | .hbm, ⟨32, _⟩ => ⟨S_, .f32⟩
  | .hbm, ⟨33, _⟩ => ⟨S2x1024x1028, .f32⟩
  | .hbm, ⟨34, _⟩ => ⟨S2x1024x1028, .f32⟩
  | .hbm, ⟨35, _⟩ => ⟨S2x1024x1028, .f32⟩
  | .hbm, ⟨36, _⟩ => ⟨S_, .f32⟩
  | .hbm, ⟨37, _⟩ => ⟨S2x1024x1028, .f32⟩
  | .hbm, ⟨38, _⟩ => ⟨S2x1024x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S2x256x1024 : Shape := ⟨3, ![2, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel18Ideal.lean ====
abbrev S2x256x1024 : Shape := ⟨3, ![2, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2x256x1024 : Shape := ⟨3, ![2, 256, 1024]⟩
abbrev S2x128x1024 : Shape := ⟨3, ![2, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S2x1024x1024 : Shape := ⟨3, ![2, 1024, 1024]⟩
abbrev S2x512x1024 : Shape := ⟨3, ![2, 512, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel19Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference19Ideal.lean ====
abbrev S2x1024x1024 : Shape := ⟨3, ![2, 1024, 1024]⟩
abbrev S2x512x1024 : Shape := ⟨3, ![2, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S_, .f32⟩
  | .hbm, ⟨7, _⟩ => ⟨S2x1024x1024, .f32⟩
  | .hbm, ⟨8, _⟩ => ⟨S2x1024x1024, .f32⟩
  | .hbm, ⟨9, _⟩ => ⟨S_, .f32⟩
  | .hbm, ⟨10, _⟩ => ⟨S2x1024x1024, .f32⟩
  | .hbm, ⟨11, _⟩ => ⟨S2x1024x1024, .f32⟩
  | .hbm, ⟨12, _⟩ => ⟨S2x1024x1024, .f32⟩
  | .hbm, ⟨13, _⟩ => ⟨S_, .f32⟩
  | .hbm, ⟨14, _⟩ => ⟨S2x1024x1024, .f32⟩
  | .hbm, ⟨15, _⟩ => ⟨S2x1024x1024, .f32⟩
  | .hbm, ⟨16, _⟩ => ⟨S2x1024x1024, .f32⟩
  | .hbm, ⟨17, _⟩ => ⟨S_, .f32⟩
  | .hbm, ⟨18, _⟩ => ⟨S2x1024x1024, .f32⟩
  | .hbm, ⟨19, _⟩ => ⟨S2x1024x1024, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | .hbm, ⟨24, _⟩ => ⟨S_, .f32⟩
  | .hbm, ⟨25, _⟩ => ⟨S2x1024x1024, .f32⟩
  | .hbm, ⟨26, _⟩ => ⟨S2x1024x1024, .f32⟩
  | .hbm, ⟨27, _⟩ => ⟨S2x1024x1024, .f32⟩
  | .hbm, ⟨28, _⟩ => ⟨S_, .f32⟩
  | .hbm, ⟨29, _⟩ => ⟨S2x1024x1024, .f32⟩
  | .hbm, ⟨30, _⟩ => ⟨S2x1024x1024, .f32⟩
  | .hbm, ⟨31, _⟩ => ⟨S2x1024x1024, .f32⟩
  | .hbm, ⟨32, _⟩ => ⟨S_, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1024x1024, .f32⟩
  | .hbm, ⟨38, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S1024x4224 : Shape := ⟨2, ![1024, 4224]⟩
abbrev S4096x4224 : Shape := ⟨2, ![4096, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .bf16⟩
  | .hbm, ⟨3, _⟩ => ⟨S4096x1024, .bf16⟩
  | .hbm, ⟨4, _⟩ => ⟨S4096x4224, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x1024, .bf16⟩
  | .local _ .vmem, ⟨5, _⟩ => ⟨S512x1024, .bf16⟩
  | .local _ .vmem, ⟨6, _⟩ => ⟨S512x4224, .bf16⟩
  | .local _ .vmem, ⟨7, _⟩ => ⟨S512x4224, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel20Ideal.lean ====
abbrev S4096x1024 : Shape := ⟨2, ![4096, 1024]⟩
abbrev S1x1024 : Shape := ⟨2, ![1, 1024]⟩
abbrev S1024x4224 : Shape := ⟨2, ![1024, 4224]⟩
abbrev S4096x4224 : Shape := ⟨2, ![4096, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .bf16⟩
  | .hbm, ⟨3, _⟩ => ⟨S4096x1024, .bf16⟩
  | .hbm, ⟨4, _⟩ => ⟨S4096x4224, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x1024, .bf16⟩
  | .local _ .vmem, ⟨5, _⟩ => ⟨S512x1024, .bf16⟩
  | .local _ .vmem, ⟨6, _⟩ => ⟨S512x4224, .bf16⟩
  | .local _ .vmem, ⟨7, _⟩ => ⟨S512x4224, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S4096x1024 : Shape := ⟨2, ![4096, 1024]⟩
abbrev S1x1024 : Shape := ⟨2, ![1, 1024]⟩
abbrev S1024x4224 : Shape := ⟨2, ![1024, 4224]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4224, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4224, .f32⟩
  | .hbm, ⟨22, _⟩ => ⟨S4096x4224, .f32⟩
  | .hbm, ⟨23, _⟩ => ⟨S4096x4224, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S4x1024x1024 : Shape := ⟨3, ![4, 1024, 1024]⟩
abbrev S4096x4096 : Shape := ⟨2, ![4096, 4096]⟩
abbrev S512x1024 : Shape := ⟨2, ![512, 1024]⟩
abbrev S1x1024x1024 : Shape := ⟨3, ![1, 1024, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x1024, .bf16⟩
  | .hbm, ⟨4, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4096x1024 : Shape := ⟨2, ![4096, 1024]⟩
abbrev S1x1024 : Shape := ⟨2, ![1, 1024]⟩
abbrev S4x1024x1024 : Shape := ⟨3, ![4, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S1024x4096 : Shape := ⟨2, ![1024, 4096]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4x1024x1024, .f32⟩
  | .hbm, ⟨21, _⟩ => ⟨S1024x4x1024, .f32⟩
  | .hbm, ⟨22, _⟩ => ⟨S1024x4096, .f32⟩
  | .hbm, ⟨23, _⟩ => ⟨S4096x1024, .bf16⟩
  | .hbm, ⟨24, _⟩ => ⟨S4096x4096, .f32⟩
  | .hbm, ⟨25, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel23Ideal.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S4096x4224 : Shape := ⟨2, ![4096, 4224]⟩
abbrev S1024x4224 : Shape := ⟨2, ![1024, 4224]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4224, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x1024 : Shape := ⟨2, ![4096, 1024]⟩
abbrev S4096x4224 : Shape := ⟨2, ![4096, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S_, .f32⟩
  | .hbm, ⟨3, _⟩ => ⟨S1024x4224, .f32⟩
  | .hbm, ⟨4, _⟩ => ⟨S4096x1024, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4096x1024 : Shape := ⟨2, ![4096, 1024]⟩
abbrev S4096x4096 : Shape := ⟨2, ![4096, 4096]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4096x1024 : Shape := ⟨2, ![4096, 1024]⟩
abbrev S4096x4096 : Shape := ⟨2, ![4096, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x128, .f32⟩
  | .hbm, ⟨73, _⟩ => ⟨S4096x1024, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel27.lean ====
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .local _ .vmem, ⟨0, _⟩ => ⟨S8x96x1024, .f32⟩
  | .local _ .vmem, ⟨1, _⟩ => ⟨S96x1024, .f32⟩
  | _, _ => ⟨S8x96x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x96x1024 : Shape := ⟨3, ![8, 96, 1024]⟩
abbrev S_ : Shape := ⟨0, ![]⟩
abbrev S96x1024 : Shape := ⟨2, ![96, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x96x1024, .f32⟩
  | .hbm, ⟨1, _⟩ => ⟨S_, .f32⟩
  | .hbm, ⟨2, _⟩ => ⟨S96x1024, .f32⟩
  | _, _ => ⟨S8x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S4x512x1024 : Shape := ⟨3, ![4, 512, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S4x512x1024, .bf16⟩
  | .hbm, ⟨3, _⟩ => ⟨S4x512x1024, .bf16⟩
  | .hbm, ⟨4, _⟩ => ⟨S4x512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S1x256x1024, .f32⟩
  | .local _ .vmem, ⟨9, _⟩ => ⟨S1x256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel28Ideal.lean ====
abbrev S4x512x1024 : Shape := ⟨3, ![4, 512, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S4x512x1024, .bf16⟩
  | .hbm, ⟨3, _⟩ => ⟨S4x512x1024, .bf16⟩
  | .hbm, ⟨4, _⟩ => ⟨S4x512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S1x256x1024, .f32⟩
  | .local _ .vmem, ⟨9, _⟩ => ⟨S1x256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S4x512x1024, .bf16⟩
  | .hbm, ⟨3, _⟩ => ⟨S4x512x1024, .bf16⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S4x512x1024, .f32⟩
  | .hbm, ⟨8, _⟩ => ⟨S_, .f32⟩
  | .hbm, ⟨9, _⟩ => ⟨S512x1024, .f32⟩
  | .hbm, ⟨10, _⟩ => ⟨S4x512x1024, .f32⟩
  | .hbm, ⟨11, _⟩ => ⟨S_, .f32⟩
  | .hbm, ⟨12, _⟩ => ⟨S512x1024, .f32⟩
  | .hbm, ⟨13, _⟩ => ⟨S4x512x1024, .f32⟩
  | .hbm, ⟨14, _⟩ => ⟨S_, .f32⟩
  | .hbm, ⟨15, _⟩ => ⟨S512x1024, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S4x512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel29.lean ====
abbrev S4x512x1028 : Shape := ⟨3, ![4, 512, 1028]⟩
abbrev S2x512x1028 : Shape := ⟨3, ![2, 512, 1028]⟩
abbrev S4x256x1028 : Shape := ⟨3, ![4, 256, 1028]⟩
abbrev S1x256x1028 : Shape := ⟨3, ![1, 256, 1028]⟩
abbrev S256x1028 : Shape := ⟨2, ![256, 1028]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1028, .bf16⟩
  | .hbm, ⟨1, _⟩ => ⟨S4x512x1028, .bf16⟩
  | .hbm, ⟨2, _⟩ => ⟨S2x512x1028, .f32⟩
  | .local _ .vmem, ⟨0, _⟩ => ⟨S4x256x1028, .bf16⟩
  | .local _ .vmem, ⟨1, _⟩ => ⟨S4x256x1028, .bf16⟩
  | .local _ .vmem, ⟨2, _⟩ => ⟨S4x256x1028, .bf16⟩
  | .local _ .vmem, ⟨3, _⟩ => ⟨S4x256x1028, .bf16⟩
  | .local _ .vmem, ⟨4, _⟩ => ⟨S1x256x1028, .f32⟩
  | .local _ .vmem, ⟨5, _⟩ => ⟨S1x256x1028, .f32⟩
  | _, _ => ⟨S4x512x1028, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel29Ideal.lean ====
abbrev S4x512x1028 : Shape := ⟨3, ![4, 512, 1028]⟩
abbrev S2x512x1028 : Shape := ⟨3, ![2, 512, 1028]⟩
abbrev S4x256x1028 : Shape := ⟨3, ![4, 256, 1028]⟩
abbrev S1x256x1028 : Shape := ⟨3, ![1, 256, 1028]⟩
abbrev S256x1028 : Shape := ⟨2, ![256, 1028]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1028, .bf16⟩
  | .hbm, ⟨1, _⟩ => ⟨S4x512x1028, .bf16⟩
  | .hbm, ⟨2, _⟩ => ⟨S2x512x1028, .f32⟩
  | .local _ .vmem, ⟨0, _⟩ => ⟨S4x256x1028, .bf16⟩
  | .local _ .vmem, ⟨1, _⟩ => ⟨S4x256x1028, .bf16⟩
  | .local _ .vmem, ⟨2, _⟩ => ⟨S4x256x1028, .bf16⟩
  | .local _ .vmem, ⟨3, _⟩ => ⟨S4x256x1028, .bf16⟩
  | .local _ .vmem, ⟨4, _⟩ => ⟨S1x256x1028, .f32⟩
  | .local _ .vmem, ⟨5, _⟩ => ⟨S1x256x1028, .f32⟩
  | _, _ => ⟨S4x512x1028, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S4x512x1028 : Shape := ⟨3, ![4, 512, 1028]⟩
abbrev S_ : Shape := ⟨0, ![]⟩
abbrev S512x1028 : Shape := ⟨2, ![512, 1028]⟩
abbrev S1x512x1028 : Shape := ⟨3, ![1, 512, 1028]⟩
abbrev S2x512x1028 : Shape := ⟨3, ![2, 512, 1028]⟩

abbrev nBuf : Space → Nat
  | .hbm => 11
  | .vmem => 0
  | .smem => 0
  | _ => 0

abbrev bufTy : (tb : Table) → Fin (tcTables nBuf tb) → BufTy
  | .hbm, ⟨0, _⟩ => ⟨S4x512x1028, .bf16⟩
  | .hbm, ⟨1, _⟩ => ⟨S4x512x1028, .bf16⟩
  | .hbm, ⟨2, _⟩ => ⟨S4x512x1028, .f32⟩
  | .hbm, ⟨3, _⟩ => ⟨S_, .f32⟩
  | .hbm, ⟨4, _⟩ => ⟨S512x1028, .f32⟩
  | .hbm, ⟨5, _⟩ => ⟨S4x512x1028, .f32⟩
  | .hbm, ⟨6, _⟩ => ⟨S_, .f32⟩
  | .hbm, ⟨7, _⟩ => ⟨S512x1028, .f32⟩
  | .hbm, ⟨8, _⟩ => ⟨S1x512x1028, .f32⟩
  | .hbm, ⟨9, _⟩ => ⟨S1x512x1028, .f32⟩
  | .hbm, ⟨10, _⟩ => ⟨S2x512x1028, .f32⟩
  | _, _ => ⟨S4x512x1028, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel30.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel30Ideal.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S2x128x1024 : Shape := ⟨3, ![2, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .f32⟩
  | .hbm, ⟨3, _⟩ => ⟨S_, .f32⟩
  | .hbm, ⟨4, _⟩ => ⟨S128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S1x128x1024, .f32⟩
  | .hbm, ⟨10, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel31.lean ====
abbrev S4x512x1024 : Shape := ⟨3, ![4, 512, 1024]⟩
abbrev S2x512x1024 : Shape := ⟨3, ![2, 512, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S2x512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S1x256x1024, .f32⟩
  | .local _ .vmem, ⟨5, _⟩ => ⟨S1x256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩
abbrev S2x512x1024 : Shape := ⟨3, ![2, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S4x512x1024, .f32⟩
  | .hbm, ⟨3, _⟩ => ⟨S_, .f32⟩
  | .hbm, ⟨4, _⟩ => ⟨S512x1024, .f32⟩
  | .hbm, ⟨5, _⟩ => ⟨S4x512x1024, .f32⟩
  | .hbm, ⟨6, _⟩ => ⟨S_, .f32⟩
  | .hbm, ⟨7, _⟩ => ⟨S512x1024, .f32⟩
  | .hbm, ⟨8, _⟩ => ⟨S1x512x1024, .f32⟩
  | .hbm, ⟨9, _⟩ => ⟨S1x512x1024, .f32⟩
  | .hbm, ⟨10, _⟩ => ⟨S2x512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.PostBlock.lean ====
/-
  The gated norm's backward kernel, one block at a time: what its body leaves in each of its three output
  buffers, as a function of the four input blocks (the rows `x` of `o`, the rows `z` of the gate, the norm's
  weights `w`, and the rows `d` of the incoming gradient).
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Post

open Cert.KernelIdeal Cert.KernelIdeal.Gen

variable {F : FTy → Type} [FloatOps F]

/-- A store or load at offset zero in both axes is at the zero offset. -/
theorem off0 : (![0, 0] : Fin 2 → Nat) = fun _ => 0 := by funext a; fin_cases a <;> rfl

/-- The block of the gradient of `o`. -/
abbrev doBlk (x : Vec F S512x1024 .f32) (z : Vec F S512x1024 .bf16) (w : Vec F S1x1024 .f32) (d : Vec F S512x1024 .f32) :
    Vec F S512x1024 .f32 := k0_pay1 x w (k0_pay7 x) (k0_pay8 x) (k0_pay11 z d)

/-- The block of the gradient of the gate. -/
abbrev dgBlk (x : Vec F S512x1024 .f32) (z : Vec F S512x1024 .bf16) (w : Vec F S1x1024 .f32) (d : Vec F S512x1024 .f32) :
    Vec F S512x1024 .bf16 := k0_pay2 (k0_pay12 x z w d) (k0_pay13 z)

/-- The sum for the weights' gradient, one block of rows further. -/
abbrev dwStep (acc : Vec F S1x1024 .f32) (x : Vec F S512x1024 .f32) (z : Vec F S512x1024 .bf16) (d : Vec F S512x1024 .f32) :
    Vec F S1x1024 .f32 := k0_pay3 (k0_pay9 x) (k0_pay11 z d) acc

section Cases

variable (c : Dev nD) (i : grid0.Coords)
  (a1 : Memref sig .tc .vmem S512x1024 .f32) (h1 : a1.IsWhole) (a2 : Memref sig .tc .vmem S512x1024 .bf16) (h2 : a2.IsWhole)
  (a3 : Memref sig .tc .vmem S1x1024 .f32) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1x1024 .f32) (h7 : a7.IsWhole)
  (x : Vec F S512x1024 .f32) (z : Vec F S512x1024 .bf16) (w : Vec F S1x1024 .f32) (d : Vec F S512x1024 .f32) (acc : Vec F S1x1024 .f32)

theorem first_do (hc : cond0_0 i) : out0_A_4 c i a1 h1 a2 h2 a3 h3 a4 h4 a5 h5 a6 h6 a7 h7 hc x z w d = doBlk x z w d := by
  unfold out0_A_4
  rw [View.read_writes_eq_canon _ _ _ (cover0_A_4 c i a1 h1 a2 h2 a3 h3 a4 h4 a5 h5 a6 h6 a7 h7 hc x z w d)]
  unfold kernelRun0_A
  dsimp only
  sl_unfold_words
  rw [View.canon_unit_zero off0]
  simp only [View.readAt_eq_ld, h1.read_unread, h2.read_unread, h3.read_unread, h4.read_unread,
    View.ld_unit_zero (S := S512x1024) off0, View.ld_unit_zero (S := S1x1024) off0, shapeCast_self]

theorem first_dg (hc : cond0_0 i) : out0_A_5 c i a1 h1 a2 h2 a3 h3 a4 h4 a5 h5 a6 h6 a7 h7 hc x z w d = dgBlk x z w d := by
  unfold out0_A_5
  rw [View.read_writes_eq_canon _ _ _ (cover0_A_5 c i a1 h1 a2 h2 a3 h3 a4 h4 a5 h5 a6 h6 a7 h7 hc x z w d)]
  unfold kernelRun0_A
  dsimp only
  sl_unfold_words
  rw [View.canon_unit_zero off0]
  simp only [View.readAt_eq_ld, h1.read_unread, h2.read_unread, h3.read_unread, h4.read_unread,
    View.ld_unit_zero (S := S512x1024) off0, View.ld_unit_zero (S := S1x1024) off0, shapeCast_self]

theorem first_dw (hc : cond0_0 i) : out0_A_6 c i a1 h1 a2 h2 a3 h3 a4 h4 a5 h5 a6 h6 a7 h7 hc x z w d = dwStep k0_pay4 x z d := by
  unfold out0_A_6
  rw [View.read_writes_eq_canon _ _ _ (cover0_A_6 c i a1 h1 a2 h2 a3 h3 a4 h4 a5 h5 a6 h6 a7 h7 hc x z w d)]
  unfold kernelRun0_A
  dsimp only
  sl_unfold_words
  rw [View.canon_cons_unit_zero (S := S1x1024) off0, View.readCov_unit_zero (S := S1x1024) _ off0]
  simp only [View.readAt_eq_ld, h1.read_unread, h2.read_unread, h3.read_unread, h4.read_unread,
    View.ld_unit_zero (S := S512x1024) off0, View.ld_unit_zero (S := S1x1024) off0, shapeCast_self]

theorem later_do (hc : ¬cond0_0 i) : out0_B_4 c i a1 h1 a2 h2 a3 h3 a4 h4 a5 h5 a6 h6 a7 h7 hc x z w d acc = doBlk x z w d := by
  unfold out0_B_4
  rw [View.read_writes_eq_canon _ _ _ (cover0_B_4 c i a1 h1 a2 h2 a3 h3 a4 h4 a5 h5 a6 h6 a7 h7 hc x z w d acc)]
  unfold kernelRun0_B
  dsimp only
  sl_unfold_words
  rw [View.canon_unit_zero off0]
  simp only [View.readAt_eq_ld, h1.read_unread, h2.read_unread, h3.read_unread, h4.read_unread,
    View.ld_unit_zero (S := S512x1024) off0, View.ld_unit_zero (S := S1x1024) off0, shapeCast_self]

theorem later_dg (hc : ¬cond0_0 i) : out0_B_5 c i a1 h1 a2 h2 a3 h3 a4 h4 a5 h5 a6 h6 a7 h7 hc x z w d acc = dgBlk x z w d := by
  unfold out0_B_5
  rw [View.read_writes_eq_canon _ _ _ (cover0_B_5 c i a1 h1 a2 h2 a3 h3 a4 h4 a5 h5 a6 h6 a7 h7 hc x z w d acc)]
  unfold kernelRun0_B
  dsimp only
  sl_unfold_words
  rw [View.canon_unit_zero off0]
  simp only [View.readAt_eq_ld, h1.read_unread, h2.read_unread, h3.read_unread, h4.read_unread,
    View.ld_unit_zero (S := S512x1024) off0, View.ld_unit_zero (S := S1x1024) off0, shapeCast_self]

theorem later_dw (hc : ¬cond0_0 i) : out0_B_6 c i a1 h1 a2 h2 a3 h3 a4 h4 a5 h5 a6 h6 a7 h7 hc x z w d acc = dwStep acc x z d := by
  unfold out0_B_6
  rw [View.read_writes_eq_canon _ _ _ (cover0_B_6 c i a1 h1 a2 h2 a3 h3 a4 h4 a5 h5 a6 h6 a7 h7 hc x z w d acc)]
  unfold kernelRun0_B
  dsimp only
  sl_unfold_words
  rw [View.canon_unit_zero off0]
  simp only [View.readAt_eq_ld, h1.read_unread, h2.read_unread, h3.read_unread, h4.read_unread, h7.read_unread,
    View.ld_unit_zero (S := S512x1024) off0, View.ld_unit_zero (S := S1x1024) off0, shapeCast_self]

end Cases

end Cert.KernelIdeal.Post

end
-- ==== Proof.NormSpec.lean ====
/-
  The mathematics of the norm's backward pass on one row of 1024 numbers, over the extended reals.
  `rsq x` is the reciprocal root of the mean square of the row `x` plus a small constant, and `rowGrad x u` is what the
  gradient `u` of the normalised row becomes as a gradient of the row itself.
-/
module

public import Idealize.ShloMosaic.PureOps.Ideal
public import Idealize.ShloMosaic.PureOps.Ideal.Laws

@[expose] public section

noncomputable section

open Idealize.ShloMosaic

namespace Cert.Norm

/-- The number of entries of a row, as the programs write it. -/
abbrev width : EReal := Ideal.ofBits .f32 0x44800000#32

/-- The small constant under the root. -/
abbrev eps : EReal := Ideal.ofBits .f32 0x358637BD#32

/-- Minus one half. -/
abbrev negHalf : EReal := Ideal.ofBits .f32 0xBF000000#32

/-- The mean square of a row, plus the small constant. -/
def meanSq (x : Fin 1024 → EReal) : EReal := Ideal.div (∑ k, x k * x k) width + eps

/-- Its reciprocal root. -/
def rsq (x : Fin 1024 → EReal) : EReal := Ideal.rsqrt (meanSq x)

/-- How much of the row itself comes back through the root. -/
def pull (x u : Fin 1024 → EReal) : EReal :=
  Ideal.div ((∑ k, x k * u k) * (negHalf * Ideal.div (rsq x) (meanSq x))) width

/-- The gradient of the row: the gradient `u` scaled, and twice the part through the root (`y * y` has two factors). -/
def rowGrad (x u : Fin 1024 → EReal) (l : Fin 1024) : EReal := u l * rsq x + x l * pull x u + pull x u * x l

/-- The logistic function. -/
def logi (z : EReal) : EReal := Ideal.div 1 (1 + Ideal.exp (0 - z))

end Cert.Norm

end
-- ==== Proof.PostArray.lean ====
/-
  The gated norm's backward kernel, over all eight blocks of rows: what its three result arrays hold when it has run,
  in terms of the argument arrays.
-/
module

public import proofs.«01_k».proof.Proof.PostBlock
public import proofs.«01_k».proof.Proof.NormSpec
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Post

open Cert.KernelIdeal Cert.KernelIdeal.Gen Cert.KernelIdeal.Value Cert.Norm

/-! ## One block at an entry -/

section Block

variable (x : Vec Ideal S512x1024 .f32) (z : Vec Ideal S512x1024 .bf16) (w : Vec Ideal S1x1024 .f32)
  (d : Vec Ideal S512x1024 .f32) (acc : Vec Ideal S1x1024 .f32)

theorem doBlk_apply (r : Fin 512) (l : Fin 1024) : doBlk x z w d (ix2 r l)
    = rowGrad (fun k => x (ix2 r k)) (fun k => d (ix2 r k) * (z (ix2 r k) * logi (z (ix2 r k))) * w (ix2 0 k)) l := by
  unfold doBlk
  pointwise [k0_pay1, k0_pay7, k0_pay6, k0_pay8, k0_pay11, k0_pay5, k0_pay10]
  simp only [Fin.sum_univ_one, Finset.univ_unique, Finset.sum_singleton]
  rfl

theorem dgBlk_apply (r : Fin 512) (l : Fin 1024) : dgBlk x z w d (ix2 r l)
    = x (ix2 r l) * rsq (fun k => x (ix2 r k)) * w (ix2 0 l) * d (ix2 r l) * logi (z (ix2 r l))
      * (1 + z (ix2 r l) * (1 - logi (z (ix2 r l)))) := by
  unfold dgBlk
  pointwise [k0_pay2, k0_pay12, k0_pay13, k0_pay9, k0_pay7, k0_pay6, k0_pay5, k0_pay10]
  rfl

/-- What one row adds to the sum for the weights' gradient. -/
def dwRow (x d z : Fin 1024 → EReal) (l : Fin 1024) : EReal := x l * rsq x * (d l * (z l * logi (z l)))

theorem dwStep_apply (r : Fin 1) (l : Fin 1024) : dwStep acc x z d (ix2 r l)
    = acc (ix2 r l) + ∑ k : Fin 512, dwRow (fun l => x (ix2 k l)) (fun l => d (ix2 k l)) (fun l => z (ix2 k l)) l := by
  unfold dwStep
  pointwise [k0_pay3, k0_pay9, k0_pay7, k0_pay6, k0_pay11, k0_pay5, k0_pay10]
  rfl

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Column `l` of the gate's quarter of the projection. -/
abbrev gcol (l : Fin 1024) : Fin 4096 := ⟨3072 + l.val, by omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 3 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem emb4 (t : Fin cfg0.N) (r : Fin 512) (l : Fin 1024) :
    ((cfg0.win 4).blk t).view.emb (ix2 r l : S512x1024.Idx) = (ix2 (row t r) l : S4096x1024.Idx) := by
  obtain ⟨e0, e1⟩ := idx4 t
  funext a; apply Fin.ext
  match a with
  | ⟨0, _⟩ => show win0_4.index t (0 : Fin 2) * 512 + 1 * r.val = 512 * t.val + r.val; omega
  | ⟨1, _⟩ => show win0_4.index t (1 : Fin 2) * 1024 + 1 * l.val = l.val; omega

theorem emb5 (t : Fin cfg0.N) (r : Fin 512) (l : Fin 1024) :
    ((cfg0.win 5).blk t).view.emb (ix2 r l : S512x1024.Idx) = (ix2 (row t r) l : S4096x1024.Idx) := by
  obtain ⟨e0, e1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem mem4 (t : Fin cfg0.N) (r : Fin 512) (l : Fin 1024) :
    (ix2 (row t r) l : S4096x1024.Idx) ∈ ((cfg0.win 4).blk t).view.set := by
  rw [← emb4]; exact ((cfg0.win 4).blk t).view.emb_mem_set _

theorem mem5 (t : Fin cfg0.N) (r : Fin 512) (l : Fin 1024) :
    (ix2 (row t r) l : S4096x1024.Idx) ∈ ((cfg0.win 5).blk t).view.set := by
  rw [← emb5]; exact ((cfg0.win 5).blk t).view.emb_mem_set _

theorem emb6 (t : Fin cfg0.N) (r : Fin 1) (l : Fin 1024) :
    ((cfg0.win 6).blk t).view.emb (ix2 r l : S1x1024.Idx) = (ix2 r l : S1x1024.Idx) := by
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 1024 + 1 * l.val = l.val; omega

variable (m : (ℓ : Loc nD τ sig) → Buf (Elt Ideal) ℓ) (ρ : Dev nD → PrngReg)

/-- The four argument arrays. -/
abbrev argO (c : Dev nD) : Vec Ideal S4096x1024 .f32 := m ((c : Thread nD τ).loc main_arg0)
abbrev argP (c : Dev nD) : Vec Ideal S4096x4096 .bf16 := m ((c : Thread nD τ).loc main_arg1)
abbrev argW (c : Dev nD) : Vec Ideal S1x1024 .f32 := m ((c : Thread nD τ).loc main_arg2)
abbrev argD (c : Dev nD) : Vec Ideal S4096x1024 .f32 := m ((c : Thread nD τ).loc main_arg3)

theorem iblk0_apply (c : Dev nD) (t : Fin cfg0.N) (r : Fin 512) (l : Fin 1024) :
    (iblk m c 0 t : Vec Ideal S512x1024 .f32) (ix2 r l) = argO m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (r : Fin 512) (l : Fin 1024) :
    (iblk m c 1 t : Vec Ideal S512x1024 .bf16) (ix2 r l) = argP m c (ix2 (row t r) (gcol l)) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 512 + 1 * r.val = 512 * t.val + r.val; omega
  | ⟨1, _⟩ => show win0_1.index t (1 : Fin 2) * 1024 + 1 * l.val = 3072 + l.val; omega

theorem iblk2_apply (c : Dev nD) (t : Fin cfg0.N) (r : Fin 1) (l : Fin 1024) :
    (iblk m c 2 t : Vec Ideal S1x1024 .f32) (ix2 r l) = argW m c (ix2 r l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 1 + 1 * r.val = r.val; omega
  | ⟨1, _⟩ => show win0_2.index t (1 : Fin 2) * 1024 + 1 * l.val = l.val; omega

theorem iblk3_apply (c : Dev nD) (t : Fin cfg0.N) (r : Fin 512) (l : Fin 1024) :
    (iblk m c 3 t : Vec Ideal S512x1024 .f32) (ix2 r l) = argD m c (ix2 (row t r) l) := by
  obtain ⟨e0, e1⟩ := idx3 t
  show V m c main_arg3 _ = m (c.tc.loc main_arg3) _
  rw [V_main_arg3]
  congr 1; funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

/-! ## What the result arrays hold -/

/-- The gradient of `o`. -/
def resO (o : Vec Ideal S4096x1024 .f32) (p : Vec Ideal S4096x4096 .bf16) (w : Vec Ideal S1x1024 .f32)
    (d : Vec Ideal S4096x1024 .f32) : Vec Ideal S4096x1024 .f32 := fun j =>
  rowGrad (fun k => o (ix2 (j 0) k))
    (fun k => d (ix2 (j 0) k) * (p (ix2 (j 0) (gcol k)) * logi (p (ix2 (j 0) (gcol k)))) * w (ix2 0 k)) (j 1)

/-- The gradient of the gate. -/
def resG (o : Vec Ideal S4096x1024 .f32) (p : Vec Ideal S4096x4096 .bf16) (w : Vec Ideal S1x1024 .f32)
    (d : Vec Ideal S4096x1024 .f32) : Vec Ideal S4096x1024 .bf16 := fun j =>
  o (ix2 (j 0) (j 1)) * rsq (fun k => o (ix2 (j 0) k)) * w (ix2 0 (j 1)) * d (ix2 (j 0) (j 1)) * logi (p (ix2 (j 0) (gcol (j 1))))
    * (1 + p (ix2 (j 0) (gcol (j 1))) * (1 - logi (p (ix2 (j 0) (gcol (j 1))))))

/-- Row `r`'s part of the weights' gradient. -/
abbrev rowW (o : Vec Ideal S4096x1024 .f32) (p : Vec Ideal S4096x4096 .bf16) (d : Vec Ideal S4096x1024 .f32) (l : Fin 1024)
    (r : Fin 4096) : EReal :=
  dwRow (fun l => o (ix2 r l)) (fun l => d (ix2 r l)) (fun l => p (ix2 r (gcol l))) l

/-- The gradient of the weights. -/
def resW (o : Vec Ideal S4096x1024 .f32) (p : Vec Ideal S4096x4096 .bf16) (d : Vec Ideal S4096x1024 .f32) :
    Vec Ideal S1x1024 .f32 := fun j => ∑ r : Fin 4096, rowW o p d (j 1) r

theorem flushed4_eq (c : Dev nD) (t : Fin cfg0.N) : (dats m 0 c).flushed 4 t
    = ((cfg0.win 4).blk t).view.read (Elt Ideal) (resO (argO m c) (argP m c) (argW m c) (argD m c)) := by
  have key : (dats m 0 c).flushed 4 t = (cfg0.win 4).cut (grid0.coords t)
      (doBlk (iblk m c 0 t) (iblk m c 1 t) (iblk m c 2 t) (iblk m c 3 t)) := by
    by_cases h : t.val % 8 = 0
    · rw [flushed4_A m c t h, first_do]
    · rw [flushed4_B m c t h, later_do]
  rw [key]
  funext j
  obtain ⟨r, l, rfl⟩ : ∃ (r : Fin 512) (l : Fin 1024), j = (ix2 r l : S512x1024.Idx) := ⟨j 0, j 1, eq_ix2 j⟩
  show doBlk (iblk m c 0 t) (iblk m c 1 t) (iblk m c 2 t) (iblk m c 3 t) (ix2 r l) = resO _ _ _ _ (((cfg0.win 4).blk t).view.emb (ix2 r l : S512x1024.Idx))
  rw [emb4, doBlk_apply]
  simp only [iblk0_apply, iblk1_apply, iblk2_apply, iblk3_apply]
  rfl

theorem flushed5_eq (c : Dev nD) (t : Fin cfg0.N) : (dats m 0 c).flushed 5 t
    = ((cfg0.win 5).blk t).view.read (Elt Ideal) (resG (argO m c) (argP m c) (argW m c) (argD m c)) := by
  have key : (dats m 0 c).flushed 5 t = (cfg0.win 5).cut (grid0.coords t)
      (dgBlk (iblk m c 0 t) (iblk m c 1 t) (iblk m c 2 t) (iblk m c 3 t)) := by
    by_cases h : t.val % 8 = 0
    · rw [flushed5_A m c t h, first_dg]
    · rw [flushed5_B m c t h, later_dg]
  rw [key]
  funext j
  obtain ⟨r, l, rfl⟩ : ∃ (r : Fin 512) (l : Fin 1024), j = (ix2 r l : S512x1024.Idx) := ⟨j 0, j 1, eq_ix2 j⟩
  show dgBlk (iblk m c 0 t) (iblk m c 1 t) (iblk m c 2 t) (iblk m c 3 t) (ix2 r l) = resG _ _ _ _ (((cfg0.win 5).blk t).view.emb (ix2 r l : S512x1024.Idx))
  rw [emb5, dgBlk_apply]
  simp only [iblk0_apply, iblk1_apply, iblk2_apply, iblk3_apply]
  rfl

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem final4 (c : Dev nD) : (dats m 0 c).arrAt 4 cfg0.N = resO (argO m c) (argP m c) (argW m c) (argD m c) :=
  (dats m 0 c).arrAt_eq_of_cover 4 _ (fun t _ => flushed4_eq m c t) fun i => by
    obtain ⟨t, r, h⟩ := row_surj (i 0)
    refine ⟨t, flush0_4 t, ?_⟩
    have hi : i = (ix2 (row t r) (i 1) : S4096x1024.Idx) := by rw [h]; exact eq_ix2 i
    rw [hi]
    exact mem4 t r (i 1)

theorem final5 (c : Dev nD) : (dats m 0 c).arrAt 5 cfg0.N = resG (argO m c) (argP m c) (argW m c) (argD m c) :=
  (dats m 0 c).arrAt_eq_of_cover 5 _ (fun t _ => flushed5_eq m c t) fun i => by
    obtain ⟨t, r, h⟩ := row_surj (i 0)
    refine ⟨t, flush0_5 t, ?_⟩
    have hi : i = (ix2 (row t r) (i 1) : S4096x1024.Idx) := by rw [h]; exact eq_ix2 i
    rw [hi]
    exact mem5 t r (i 1)

/-- The running sum for the weights' gradient after block `n`: the first `512 * (n + 1)` rows' parts. -/
theorem sum_after (c : Dev nD) : ∀ (n : ℕ) (h : n < cfg0.N) (l : Fin 1024), (outsAt0 m c n h).2.2 (ix2 0 l)
    = ∑ t : Fin (n + 1), ∑ r : Fin 512, rowW (argO m c) (argP m c) (argD m c) l (row ⟨t.val, by omega⟩ r)
  | 0, h, l => by
    rw [show outsAt0 m c 0 h = _ from outsAt0_A m c ⟨0, h⟩ rfl]
    dsimp only
    rw [first_dw, dwStep_apply]
    simp only [iblk0_apply, iblk1_apply, iblk3_apply]
    rw [show (k0_pay4 : FVec Ideal S1x1024 .f32) (ix2 0 l) = (0 : EReal) from by pointwise [k0_pay4], zero_add]
    rw [Fin.sum_univ_one]
    rfl
  | n + 1, h, l => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [later_dw, dwStep_apply]
    simp only [iblk0_apply, iblk1_apply, iblk3_apply]
    rw [Fin.sum_univ_castSucc (n := n + 1)]
    exact congrArg₂ (· + ·) (sum_after c n (Nat.lt_of_succ_lt h) l) rfl

theorem flushed6_eq (c : Dev nD) (t : Fin cfg0.N) (hf : (cfg0.win 6).flush t = true) : (dats m 0 c).flushed 6 t
    = ((cfg0.win 6).blk t).view.read (Elt Ideal) (resW (argO m c) (argP m c) (argD m c)) := by
  have hN : cfg0.N = 8 := N_0
  have h7 : t.val = 7 := by have := (flush0_6 t).mp hf; have := t.isLt; omega
  rw [flushed6]
  funext j
  obtain ⟨r, l, rfl⟩ : ∃ (r : Fin 1) (l : Fin 1024), j = (ix2 r l : S1x1024.Idx) := ⟨j 0, j 1, eq_ix2 j⟩
  obtain rfl : r = 0 := Subsingleton.elim _ _
  show (outsAt0 m c t.val t.isLt).2.2 (ix2 0 l) = resW _ _ _ (((cfg0.win 6).blk t).view.emb (ix2 0 l : S1x1024.Idx))
  rw [emb6, sum_after]
  obtain ⟨t, ht⟩ := t
  obtain rfl : t = 7 := h7
  unfold resW
  rw [Fin.sum_univ_tiles 8 512 rfl]
  refine Finset.sum_congr rfl fun a _ => Finset.sum_congr rfl fun b _ => congrArg (rowW _ _ _ l) (Fin.ext ?_)
  exact congrArg (· + b.val) (Nat.mul_comm 512 a.val)

theorem final6 (c : Dev nD) : (dats m 0 c).arrAt 6 cfg0.N = resW (argO m c) (argP m c) (argD m c) :=
  (dats m 0 c).arrAt_eq_of_cover 6 _ (flushed6_eq m c) fun i => by
    refine ⟨t0_7, (flush0_6 t0_7).mpr rfl, ?_⟩
    have hi : i = (ix2 (i 0) (i 1) : S1x1024.Idx) := eq_ix2 i
    rw [hi, ← emb6 t0_7 (i 0) (i 1)]
    exact ((cfg0.win 6).blk t0_7).view.emb_mem_set _

/-- The kernel's run, with its three result arrays at their values. -/
theorem run : θ_run defs (onTc (τ := τ) (main (F := Ideal))) ⟨m, fun _ => 0, ρ⟩ fun r => ∀ c : Dev nD,
      r.2.mem ((c : Thread nD τ).loc main_v0_0) = resO (argO m c) (argP m c) (argW m c) (argD m c)
      ∧ r.2.mem ((c : Thread nD τ).loc main_v0_1) = resG (argO m c) (argP m c) (argW m c) (argD m c)
      ∧ r.2.mem ((c : Thread nD τ).loc main_v0_2) = resW (argO m c) (argP m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2⟩) (run_blocks m ρ)

end Cert.KernelIdeal.Post

end
-- ==== Proof.PostRef.lean ====
/-
  What the reference of the gated norm's backward pass computes at an entry: the operations `jax.vjp` wrote, read one
  after the other.
-/
module

public import proofs.«01_k».proof.Proof.Gen.ReferenceIdeal.Read
public import proofs.«01_k».proof.Proof.NormSpec
public import Idealize.ShloMosaic.Lib.Pointwise

@[expose] public section

noncomputable section

open Idealize.ShloMosaic Idealize.ShloMosaic.TcCoe Idealize.SL.Sem

namespace Cert.ReferenceIdeal.Post

open Cert.ReferenceIdeal Cert.ReferenceIdeal.Gen Cert.ReferenceIdeal.Read Cert.Norm

variable (o : Vec Ideal S4096x1024 .f32) (p : Vec Ideal S4096x4096 .bf16) (w : Vec Ideal S1x1024 .f32)
  (d : Vec Ideal S4096x1024 .f32)

/-- Entry `(r, l)` of the gate: the last quarter of the projection. -/
abbrev gate (r : Fin 4096) (l : Fin 1024) : EReal := p (ix2 r ⟨3072 + l.val, by omega⟩)

/-- The logistic function with its argument's sign changed by a negation. -/
theorem logi_neg (z : EReal) : Ideal.div 1 (1 + Ideal.exp (-z)) = logi z := by
  unfold logi; rw [sub_eq_add_neg, zero_add]

theorem val43_apply (r : Fin 4096) (l : Fin 1024) : val_main_v43 (F := Ideal) o p w d (ix2 r l)
    = rowGrad (fun k => o (ix2 r k)) (fun k => d (ix2 r k) * (gate p r k * logi (gate p r k)) * w (ix2 0 k)) l := by
  pointwise [
    val_main_v0, val_main_v1, val_main_v2, val_main_v3, val_main_cst, val_main_v4, val_main_v5, val_main_cst_0,
    val_main_v6, val_main_v7, val_main_cst_1, val_main_v8, val_main_v9, val_main_v10, val_main_v11,
    val_main_cst_2, val_main_v12, val_main_v13, val_main_v14, val_main_v15, val_main_v16, val_main_v17,
    val_main_v18, val_main_call0_v0, val_main_call0_v1, val_main_call0_cst, val_main_call0_v2, val_main_call0_v3,
    val_main_call0_cst_0, val_main_call0_v4, val_main_v19_2, val_main_call0_cst_1, val_main_call0_v6,
    val_main_call0_v7, val_main_v19_1, val_main_v19_0, val_main_v20, val_main_v21, val_main_v22,
    val_main_call1_v0, val_main_call1_v1, val_main_call1_v2, val_main_v23, val_main_v24, val_main_cst_3,
    val_main_v25, val_main_v26, val_main_v27, val_main_v28, val_main_cst_4, val_main_v29, val_main_v30,
    val_main_cst_5, val_main_v31, val_main_v32, val_main_v33, val_main_v34, val_main_v35, val_main_cst_6,
    val_main_v36, val_main_v37, val_main_cst_7, val_main_v38, val_main_v39, val_main_v40, val_main_v41,
    val_main_v42, val_main_v43, val_main_v44, val_main_v45]
  simp only [logi_neg, Finset.univ_unique, Finset.sum_singleton]
  rfl

theorem val44_apply (r : Fin 4096) (l : Fin 1024) : val_main_v44 (F := Ideal) o p w d (ix2 r l)
    = o (ix2 r l) * rsq (fun k => o (ix2 r k)) * w (ix2 0 l) * d (ix2 r l) * logi (gate p r l)
      + gate p r l * (o (ix2 r l) * rsq (fun k => o (ix2 r k)) * w (ix2 0 l) * d (ix2 r l))
        * (logi (gate p r l) * (1 - logi (gate p r l))) := by
  pointwise [
    val_main_v0, val_main_v1, val_main_v2, val_main_v3, val_main_cst, val_main_v4, val_main_v5, val_main_cst_0,
    val_main_v6, val_main_v7, val_main_cst_1, val_main_v8, val_main_v9, val_main_v10, val_main_v11,
    val_main_cst_2, val_main_v12, val_main_v13, val_main_v14, val_main_v15, val_main_v16, val_main_v17,
    val_main_v18, val_main_call0_v0, val_main_call0_v1, val_main_call0_cst, val_main_call0_v2, val_main_call0_v3,
    val_main_call0_cst_0, val_main_call0_v4, val_main_v19_2, val_main_call0_cst_1, val_main_call0_v6,
    val_main_call0_v7, val_main_v19_1, val_main_v19_0, val_main_v20, val_main_v21, val_main_v22,
    val_main_call1_v0, val_main_call1_v1, val_main_call1_v2, val_main_v23, val_main_v24, val_main_cst_3,
    val_main_v25, val_main_v26, val_main_v27, val_main_v28, val_main_cst_4, val_main_v29, val_main_v30,
    val_main_cst_5, val_main_v31, val_main_v32, val_main_v33, val_main_v34, val_main_v35, val_main_cst_6,
    val_main_v36, val_main_v37, val_main_cst_7, val_main_v38, val_main_v39, val_main_v40, val_main_v41,
    val_main_v42, val_main_v43, val_main_v44, val_main_v45]
  simp only [logi_neg]
  rfl

theorem val45_apply (r : Fin 1) (l : Fin 1024) : val_main_v45 (F := Ideal) o p d (ix2 r l)
    = ∑ k : Fin 4096, o (ix2 k l) * rsq (fun i => o (ix2 k i)) * (d (ix2 k l) * (gate p k l * logi (gate p k l))) := by
  pointwise [
    val_main_v0, val_main_v1, val_main_v2, val_main_v3, val_main_cst, val_main_v4, val_main_v5, val_main_cst_0,
    val_main_v6, val_main_v7, val_main_cst_1, val_main_v8, val_main_v9, val_main_v10, val_main_v11,
    val_main_cst_2, val_main_v12, val_main_v13, val_main_v14, val_main_v15, val_main_v16, val_main_v17,
    val_main_v18, val_main_call0_v0, val_main_call0_v1, val_main_call0_cst, val_main_call0_v2, val_main_call0_v3,
    val_main_call0_cst_0, val_main_call0_v4, val_main_v19_2, val_main_call0_cst_1, val_main_call0_v6,
    val_main_call0_v7, val_main_v19_1, val_main_v19_0, val_main_v20, val_main_v21, val_main_v22,
    val_main_call1_v0, val_main_call1_v1, val_main_call1_v2, val_main_v23, val_main_v24, val_main_cst_3,
    val_main_v25, val_main_v26, val_main_v27, val_main_v28, val_main_cst_4, val_main_v29, val_main_v30,
    val_main_cst_5, val_main_v31, val_main_v32, val_main_v33, val_main_v34, val_main_v35, val_main_cst_6,
    val_main_v36, val_main_v37, val_main_cst_7, val_main_v38, val_main_v39, val_main_v40, val_main_v41,
    val_main_v42, val_main_v43, val_main_v44, val_main_v45]
  simp only [logi_neg, Finset.univ_unique, Finset.sum_singleton]
  rfl

end Cert.ReferenceIdeal.Post

end
-- ==== Proof.Reals.lean ====
/-
  Real numbers among the extended reals: which operations stay among them and what they give there. Products distribute
  over sums only for such numbers, so the proofs that need it go through these lemmas.
-/
module

public import proofs.«01_k».proof.Proof.NormSpec

@[expose] public section

noncomputable section

open Idealize.ShloMosaic

namespace Cert.Reals

/-- `a` is a real number. -/
def IsReal (a : EReal) : Prop := ∃ r : ℝ, a = (r : EReal)

theorem isReal_coe (r : ℝ) : IsReal (r : EReal) := ⟨r, rfl⟩

theorem IsReal.add {a b : EReal} : IsReal a → IsReal b → IsReal (a + b) := by
  rintro ⟨x, rfl⟩ ⟨y, rfl⟩; exact ⟨x + y, (EReal.coe_add x y).symm⟩

theorem IsReal.mul {a b : EReal} : IsReal a → IsReal b → IsReal (a * b) := by
  rintro ⟨x, rfl⟩ ⟨y, rfl⟩; exact ⟨x * y, (EReal.coe_mul x y).symm⟩

/-- A finite sum of reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A number whose size is below infinity is real. -/
theorem isReal_of_abs_lt {a : EReal} (h : max a (-a) < ⊤) : IsReal a := by
  induction a with
  | bot => simp at h
  | top => simp at h
  | coe r => exact ⟨r, rfl⟩

theorem exp_coe (r : ℝ) : Ideal.exp (r : EReal) = (Real.exp r : EReal) := rfl

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_coe (r : ℝ) (h : 0 < r) : Ideal.rsqrt (r : EReal) = ((Real.sqrt r)⁻¹ : ℝ) := by
  show (if r < 0 then ⊥ else if r = 0 then ⊤ else (((Real.sqrt r)⁻¹ : ℝ) : EReal)) = _
  rw [if_neg (by linarith), if_neg h.ne']

theorem logi_coe (r : ℝ) : Norm.logi (r : EReal) = ((1 / (1 + Real.exp (-r)) : ℝ) : EReal) := by
  unfold Norm.logi
  have h : (0 : EReal) - (r : EReal) = ((-r : ℝ) : EReal) := by rw [← EReal.coe_zero, ← EReal.coe_sub, zero_sub]
  have h1 : (1 : EReal) = ((1 : ℝ) : EReal) := by norm_cast
  rw [h, exp_coe, h1, ← EReal.coe_add, div_coe _ _ (by positivity)]

theorem isReal_logi {a : EReal} : IsReal a → IsReal (Norm.logi a) := by
  rintro ⟨r, rfl⟩; rw [logi_coe]; exact ⟨_, rfl⟩

theorem width_eq : Norm.width = ((1024 : ℝ) : EReal) := by
  unfold Norm.width
  simp [Ideal.ofBits, Ideal.ieee, -EReal.coe_mul]; norm_num

theorem eps_pos : ∃ e : ℝ, 0 < e ∧ Norm.eps = (e : EReal) := by
  refine ⟨8796093 * 2 ^ (-43 : ℤ), by positivity, ?_⟩
  unfold Norm.eps
  simp [Ideal.ofBits, Ideal.ieee, -EReal.coe_mul]

/-- The mean square of a row of reals, plus the small constant, is a positive real. -/
theorem meanSq_pos {x : Fin 1024 → EReal} (h : ∀ k, IsReal (x k)) : ∃ e : ℝ, 0 < e ∧ Norm.meanSq x = (e : EReal) := by
  choose y hy using h
  obtain ⟨e, he, h2⟩ := eps_pos
  refine ⟨(∑ k, y k * y k) / 1024 + e, ?_, ?_⟩
  · have : 0 ≤ ∑ k, y k * y k := Finset.sum_nonneg fun k _ => mul_self_nonneg _
    positivity
  · unfold Norm.meanSq
    rw [h2, width_eq, EReal.coe_add, ← div_coe _ _ (by norm_num), coe_sum]
    simp only [hy, EReal.coe_mul]

theorem isReal_rsq {x : Fin 1024 → EReal} (h : ∀ k, IsReal (x k)) : IsReal (Norm.rsq x) := by
  obtain ⟨e, he, h2⟩ := meanSq_pos h
  unfold Norm.rsq
  rw [h2, rsqrt_coe e he]; exact ⟨_, rfl⟩

/-- The two ways of writing the derivative of `z * logi z`, for reals: `g s (1 + z (1 - s)) = g s + z g s (1 - s)`. -/
theorem gate_eq {g z : EReal} (hg : IsReal g) (hz : IsReal z) :
    g * Norm.logi z + z * g * (Norm.logi z * (1 - Norm.logi z)) = g * Norm.logi z * (1 + z * (1 - Norm.logi z)) := by
  obtain ⟨g, rfl⟩ := hg
  obtain ⟨s, hs⟩ := isReal_logi hz
  obtain ⟨z, rfl⟩ := hz
  rw [hs]
  have h1 : (1 : EReal) = ((1 : ℝ) : EReal) := by norm_cast
  rw [h1]
  norm_cast
  ring

end Cert.Reals

end
-- ==== Proof.PostClaim.lean ====
/-
  The gated norm's backward kernel and its reference agree, for arguments that are real numbers: the gradient of the gate
  is written with its factors in another order, and that needs a product to distribute over a sum.
-/
module

public import proofs.«01_k».proof.Defs
public import proofs.«01_k».proof.Proof.PostArray
public import proofs.«01_k».proof.Proof.PostRef
public import proofs.«01_k».proof.Proof.Reals
public import proofs.«01_k».proof.Proof.Gen.Pre_finite
public import Idealize.ShloMosaic.Lib.ReduceAll
public import Idealize.ShloMosaic.Lib.Claim

@[expose] public section

noncomputable section

open Idealize.ShloMosaic Idealize.ShloMosaic.TcCoe Idealize.SL.Sem

namespace Cert.Post

open Cert.Norm Cert.Reals

instance : Subsingleton (⟨0, ![]⟩ : Shape).Idx := ⟨fun _ _ => funext fun i => i.elim0⟩

/-- Where the comparison of a size with infinity holds, the number is real. -/
theorem isReal_of_cmp {a : EReal} (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  refine isReal_of_abs_lt ?_
  by_contra hn
  simp [Ideal.cmp, hn] at h

/-- The precondition, read: every entry of the four arguments is a real number. -/
theorem isReal_args (o : FVec Ideal Pre_finite.S4096x1024 .f32) (p : FVec Ideal Pre_finite.S4096x4096 .bf16)
    (w : FVec Ideal Pre_finite.S1x1024 .f32) (d : FVec Ideal Pre_finite.S4096x1024 .f32) [Pre_finite.Facts]
    (h : Pre_finite.fn (F := Ideal) o p w d = fun _ => 1#1) :
    (∀ i, IsReal (o i)) ∧ (∀ i, IsReal (p i)) ∧ (∀ i, IsReal (w i)) ∧ (∀ i, IsReal (d i)) := by
  have h0 := congrFun h ix0
  unfold Pre_finite.fn Pre_finite.fn_part1 at h0
  simp only [andi, IntOp.andi_eq_one] at h0
  obtain ⟨⟨⟨h1, h2⟩, h3⟩, h4⟩ := h0
  refine ⟨fun i => ?_, fun i => ?_, fun i => ?_, fun i => ?_⟩
  · exact isReal_of_cmp (Host.reduce_andi_all _ _ _ _ _ h1 i)
  · exact isReal_of_cmp (Host.reduce_andi_all _ _ _ _ _ h2 i)
  · exact isReal_of_cmp (Host.reduce_andi_all _ _ _ _ _ h3 i)
  · exact isReal_of_cmp (Host.reduce_andi_all _ _ _ _ _ h4 i)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => KernelIdeal.Post.resO _ _ _ _, fun c => KernelIdeal.Post.resG _ _ _ _, fun c => KernelIdeal.Post.resW _ _ _,
    KernelIdeal.Post.run m g, (θ_run _ _ _).mono (fun r h c => ?_) (ReferenceIdeal.Value.run m' g')⟩
  obtain ⟨e0, e1, e2, e3⟩ := hm c
  obtain ⟨r0, r1, r2, r3⟩ := isReal_args _ _ _ _ (hpre c)
  refine ⟨(h c).1.trans ?_, (h c).2.1.trans ?_, (h c).2.2.1.trans ?_, (h c).2.2.2⟩
  · rw [ReferenceIdeal.Read.val_main_v43_eq, e0, e1, e2, e3]
    funext j
    obtain ⟨a, b, rfl⟩ : ∃ (a : Fin 4096) (b : Fin 1024), j = ix2 a b := ⟨j 0, j 1, eq_ix2 j⟩
    exact ReferenceIdeal.Post.val43_apply _ _ _ _ a b
  · rw [e0, e1, e2, e3]
    funext j
    obtain ⟨a, b, rfl⟩ : ∃ (a : Fin 4096) (b : Fin 1024), j = ix2 a b := ⟨j 0, j 1, eq_ix2 j⟩
    refine (congrFun (ReferenceIdeal.Read.val_main_v44_eq (F := Ideal) _ _ _ _) _).trans
      ((ReferenceIdeal.Post.val44_apply _ _ _ _ a b).trans ?_)
    exact gate_eq ((((r0 _).mul (isReal_rsq fun _ => r0 _)).mul (r2 _)).mul (r3 _)) (r1 _)
  · rw [e0, e1, e3]
    funext j
    obtain ⟨a, b, rfl⟩ : ∃ (a : Fin 1) (b : Fin 1024), j = ix2 a b := ⟨j 0, j 1, eq_ix2 j⟩
    exact (congrFun (ReferenceIdeal.Read.val_main_v45_eq (F := Ideal) _ _ _) _).trans (ReferenceIdeal.Post.val45_apply _ _ _ a b)

end Cert.Post

end
-- ==== Proof.MnbBlock.lean ====
/-
  The backward kernel of a normed product, one block at a time: what its body leaves in each of its three output buffers,
  as a function of the input blocks: the rows `p` of the product's gradient, the four slots `w0` … `w3` of the weights, the
  rows `h` of the normed array, the norm's weights `nw`, and the rows `r` of the gradient that bypasses the product.
-/
module

public import proofs.«01_k».proof.Proof.Gen.Kernel2Ideal.Value
public import Idealize.ShloMosaic.Lib.Pipeline.Value
public import Idealize.ShloMosaic.Lib.Tactic

@[expose] public section

noncomputable section

open Idealize.ShloMosaic Idealize.ShloMosaic.TcCoe Idealize.SL.Sem

namespace Cert.Kernel2Ideal.Mnb

open Cert.Kernel2Ideal Cert.Kernel2Ideal.Gen

variable {F : FTy → Type} [FloatOps F]

theorem off2 : (![0, 0] : Fin 2 → Nat) = fun _ => 0 := by funext a; fin_cases a <;> rfl
theorem off3 : (![0, 0, 0] : Fin 3 → Nat) = fun _ => 0 := by funext a; fin_cases a <;> rfl

/-- The gradient of the normed rows: the four quarters of `p` against the four slots, summed. -/
abbrev dyBlk (p : Vec F S512x4096 .bf16) (w0 w1 w2 w3 : Vec F S1x1024x1024 .bf16) : FVec F S512x1024 .f32 :=
  k0_pay2 (View.ld p (Rect.unit (s := S512x4096) ![0, 0] S512x1024.size inb_S512x4096_S512x1024_0_0)) w0
    (View.ld p (Rect.unit (s := S512x4096) ![0, 1024] S512x1024.size inb_S512x4096_S512x1024_0_1024)) w1
    (View.ld p (Rect.unit (s := S512x4096) ![0, 2048] S512x1024.size inb_S512x4096_S512x1024_0_2048)) w2
    (View.ld p (Rect.unit (s := S512x4096) ![0, 3072] S512x1024.size inb_S512x4096_S512x1024_0_3072)) w3

/-- The block of the gradient of `h`, -/
abbrev dhBlk (p : Vec F S512x4096 .bf16) (w0 w1 w2 w3 : Vec F S1x1024x1024 .bf16) (h : Vec F S512x1024 .f32)
    (nw : Vec F S1x1024 .f32) (r : Vec F S512x1024 .f32) : Vec F S512x1024 .f32 :=
  k0_pay6 (dyBlk p w0 w1 w2 w3) h nw (k0_pay3 h) r

/-- … the same in the narrower format, -/
abbrev dhbBlk (p : Vec F S512x4096 .bf16) (w0 w1 w2 w3 : Vec F S1x1024x1024 .bf16) (h : Vec F S512x1024 .f32)
    (nw : Vec F S1x1024 .f32) (r : Vec F S512x1024 .f32) : Vec F S512x1024 .bf16 :=
  k0_pay7 (dyBlk p w0 w1 w2 w3) h nw (k0_pay3 h) r

/-- … and the sum for the norm weights' gradient, one block of rows further. -/
abbrev dnwStep (acc : Vec F S1x1024 .f32) (p : Vec F S512x4096 .bf16) (w0 w1 w2 w3 : Vec F S1x1024x1024 .bf16)
    (h : Vec F S512x1024 .f32) : Vec F S1x1024 .f32 :=
  k0_pay8 (dyBlk p w0 w1 w2 w3) h (k0_pay3 h) acc

section Cases

variable (c : Dev nD) (i : grid0.Coords)
  (a1 : Memref sig .tc .vmem S512x4096 .bf16) (h1 : a1.IsWhole) (a2 : Memref sig .tc .vmem S1x1024x1024 .bf16) (h2 : a2.IsWhole)
  (a3 : Memref sig .tc .vmem S1x1024x1024 .bf16) (h3 : a3.IsWhole) (a4 : Memref sig .tc .vmem S1x1024x1024 .bf16) (h4 : a4.IsWhole)
  (a5 : Memref sig .tc .vmem S1x1024x1024 .bf16) (h5 : a5.IsWhole) (a6 : Memref sig .tc .vmem S512x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S512x1024 .f32) (h9 : a9.IsWhole) (a10 : Memref sig .tc .vmem S512x1024 .bf16) (h10 : a10.IsWhole)
  (a11 : Memref sig .tc .vmem S1x1024 .f32) (h11 : a11.IsWhole)
  (p : Vec F S512x4096 .bf16) (w0 w1 w2 w3 : Vec F S1x1024x1024 .bf16) (h : Vec F S512x1024 .f32) (nw : Vec F S1x1024 .f32)
  (r : Vec F S512x1024 .f32) (acc : Vec F S1x1024 .f32)

theorem first_dh (hc : cond0_0 i) : out0_A_8 c i a1 h1 a2 h2 a3 h3 a4 h4 a5 h5 a6 h6 a7 h7 a8 h8 a9 h9 a10 h10 a11 h11 hc p w0 w1 w2 w3 h nw r
    = dhBlk p w0 w1 w2 w3 h nw r := by
  unfold out0_A_8
  rw [View.read_writes_eq_canon _ _ _ (cover0_A_8 c i a1 h1 a2 h2 a3 h3 a4 h4 a5 h5 a6 h6 a7 h7 a8 h8 a9 h9 a10 h10 a11 h11 hc p w0 w1 w2 w3 h nw r)]
  unfold kernelRun0_A
  dsimp only
  sl_unfold_words
  rw [View.canon_unit_zero off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

theorem first_dhb (hc : cond0_0 i) : out0_A_9 c i a1 h1 a2 h2 a3 h3 a4 h4 a5 h5 a6 h6 a7 h7 a8 h8 a9 h9 a10 h10 a11 h11 hc p w0 w1 w2 w3 h nw r
    = dhbBlk p w0 w1 w2 w3 h nw r := by
  unfold out0_A_9
  rw [View.read_writes_eq_canon _ _ _ (cover0_A_9 c i a1 h1 a2 h2 a3 h3 a4 h4 a5 h5 a6 h6 a7 h7 a8 h8 a9 h9 a10 h10 a11 h11 hc p w0 w1 w2 w3 h nw r)]
  unfold kernelRun0_A
  dsimp only
  sl_unfold_words
  rw [View.canon_unit_zero off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

theorem first_dnw (hc : cond0_0 i) : out0_A_10 c i a1 h1 a2 h2 a3 h3 a4 h4 a5 h5 a6 h6 a7 h7 a8 h8 a9 h9 a10 h10 a11 h11 hc p w0 w1 w2 w3 h nw r
    = dnwStep k0_pay1 p w0 w1 w2 w3 h := by
  unfold out0_A_10
  rw [View.read_writes_eq_canon _ _ _ (cover0_A_10 c i a1 h1 a2 h2 a3 h3 a4 h4 a5 h5 a6 h6 a7 h7 a8 h8 a9 h9 a10 h10 a11 h11 hc p w0 w1 w2 w3 h nw r)]
  unfold kernelRun0_A
  dsimp only
  sl_unfold_words
  rw [View.canon_cons_unit_zero (S := S1x1024) off2, View.readCov_unit_zero (S := S1x1024) _ off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

theorem later_dh (hc : ¬cond0_0 i) : out0_B_8 c i a1 h1 a2 h2 a3 h3 a4 h4 a5 h5 a6 h6 a7 h7 a8 h8 a9 h9 a10 h10 a11 h11 hc p w0 w1 w2 w3 h nw r acc
    = dhBlk p w0 w1 w2 w3 h nw r := by
  unfold out0_B_8
  rw [View.read_writes_eq_canon _ _ _ (cover0_B_8 c i a1 h1 a2 h2 a3 h3 a4 h4 a5 h5 a6 h6 a7 h7 a8 h8 a9 h9 a10 h10 a11 h11 hc p w0 w1 w2 w3 h nw r acc)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

theorem later_dhb (hc : ¬cond0_0 i) : out0_B_9 c i a1 h1 a2 h2 a3 h3 a4 h4 a5 h5 a6 h6 a7 h7 a8 h8 a9 h9 a10 h10 a11 h11 hc p w0 w1 w2 w3 h nw r acc
    = dhbBlk p w0 w1 w2 w3 h nw r := by
  unfold out0_B_9
  rw [View.read_writes_eq_canon _ _ _ (cover0_B_9 c i a1 h1 a2 h2 a3 h3 a4 h4 a5 h5 a6 h6 a7 h7 a8 h8 a9 h9 a10 h10 a11 h11 hc p w0 w1 w2 w3 h nw r acc)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

theorem later_dnw (hc : ¬cond0_0 i) : out0_B_10 c i a1 h1 a2 h2 a3 h3 a4 h4 a5 h5 a6 h6 a7 h7 a8 h8 a9 h9 a10 h10 a11 h11 hc p w0 w1 w2 w3 h nw r acc
    = dnwStep acc p w0 w1 w2 w3 h := by
  unfold out0_B_10
  rw [View.read_writes_eq_canon _ _ _ (cover0_B_10 c i a1 h1 a2 h2 a3 h3 a4 h4 a5 h5 a6 h6 a7 h7 a8 h8 a9 h9 a10 h10 a11 h11 hc p w0 w1 w2 w3 h nw r acc)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, h11.read_unread, View.ld_unit_zero (S := S512x1024) off2,
    View.ld_unit_zero (S := S1x1024) off2, View.ld_unit_zero (S := S1x1024x1024) off3, shapeCast_self]

end Cases

end Cert.Kernel2Ideal.Mnb

end
-- ==== Proof.MnbArray.lean ====
/-
  The backward kernel of a normed product, over all eight blocks of rows: what its three result arrays hold when it has
  run, in terms of the argument arrays.
-/
module

public import proofs.«01_k».proof.Proof.MnbBlock
public import proofs.«01_k».proof.Proof.NormSpec
public import Idealize.ShloMosaic.Lib.Pointwise

@[expose] public section

noncomputable section

open Idealize.ShloMosaic Idealize.ShloMosaic.TcCoe Idealize.SL.Sem
open Idealize.ShloMosaic.Pipeline (Dat)

namespace Cert.Kernel2Ideal.Mnb

open Cert.Kernel2Ideal Cert.Kernel2Ideal.Gen Cert.Kernel2Ideal.Value Cert.Norm

/-! ## One block at an entry -/

section Block

variable (p : Vec Ideal S512x4096 .bf16) (w0 w1 w2 w3 : Vec Ideal S1x1024x1024 .bf16) (dy : FVec Ideal S512x1024 .f32)
  (h : Vec Ideal S512x1024 .f32) (nw : Vec Ideal S1x1024 .f32) (r : Vec Ideal S512x1024 .f32) (acc : Vec Ideal S1x1024 .f32)

theorem dyBlk_apply (a : Fin 512) (l : Fin 1024) : dyBlk p w0 w1 w2 w3 (ix2 a l)
    = ∑ k : Fin 1024, p (ix2 a ⟨k.val, by omega⟩) * w0 (ix3 0 l k) + ∑ k : Fin 1024, p (ix2 a ⟨1024 + k.val, by omega⟩) * w1 (ix3 0 l k)
      + ∑ k : Fin 1024, p (ix2 a ⟨2048 + k.val, by omega⟩) * w2 (ix3 0 l k)
      + ∑ k : Fin 1024, p (ix2 a ⟨3072 + k.val, by omega⟩) * w3 (ix3 0 l k) := by
  unfold dyBlk
  pointwise [k0_pay2]

/-- The gradient of the rows, whatever the gradient `dy` of the normed rows is. -/
theorem pay6_apply (a : Fin 512) (l : Fin 1024) : k0_pay6 dy h nw (k0_pay3 h) r (ix2 a l)
    = r (ix2 a l) + rowGrad (fun k => h (ix2 a k)) (fun k => dy (ix2 a k) * nw (ix2 0 k)) l := by
  pointwise [k0_pay6, k0_pay3, k0_pay4, k0_pay5]
  simp only [Finset.univ_unique, Finset.sum_singleton]
  rfl

theorem pay7_apply (a : Fin 512) (l : Fin 1024) : k0_pay7 dy h nw (k0_pay3 h) r (ix2 a l)
    = r (ix2 a l) + rowGrad (fun k => h (ix2 a k)) (fun k => dy (ix2 a k) * nw (ix2 0 k)) l := by
  unfold k0_pay7
  exact pay6_apply dy h nw r a l

theorem pay8_apply (l : Fin 1024) : k0_pay8 dy h (k0_pay3 h) acc (ix2 0 l)
    = acc (ix2 0 l) + ∑ k : Fin 512, h (ix2 k l) * rsq (fun i => h (ix2 k i)) * dy (ix2 k l) := by
  pointwise [k0_pay8, k0_pay3, k0_pay4, k0_pay5]
  rfl

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 2 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 3 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem emb8 (t : Fin cfg0.N) (r : Fin 512) (l : Fin 1024) :
    ((cfg0.win 8).blk t).view.emb (ix2 r l : S512x1024.Idx) = (ix2 (row t r) l : S4096x1024.Idx) := by
  obtain ⟨e0, e1⟩ := idx8 t
  funext a; apply Fin.ext
  match a with
  | ⟨0, _⟩ => show win0_8.index t (0 : Fin 2) * 512 + 1 * r.val = 512 * t.val + r.val; omega
  | ⟨1, _⟩ => show win0_8.index t (1 : Fin 2) * 1024 + 1 * l.val = l.val; omega

theorem emb9 (t : Fin cfg0.N) (r : Fin 512) (l : Fin 1024) :
    ((cfg0.win 9).blk t).view.emb (ix2 r l : S512x1024.Idx) = (ix2 (row t r) l : S4096x1024.Idx) := by
  obtain ⟨e0, e1⟩ := idx9 t
  funext a; apply Fin.ext
  match a with
  | ⟨0, _⟩ => show win0_9.index t (0 : Fin 2) * 512 + 1 * r.val = 512 * t.val + r.val; omega
  | ⟨1, _⟩ => show win0_9.index t (1 : Fin 2) * 1024 + 1 * l.val = l.val; omega

theorem emb10 (t : Fin cfg0.N) (r : Fin 1) (l : Fin 1024) :
    ((cfg0.win 10).blk t).view.emb (ix2 r l : S1x1024.Idx) = (ix2 r l : S1x1024.Idx) := by
  obtain ⟨e0, e1⟩ := idx10 t
  funext a; apply Fin.ext
  match a with
  | ⟨0, _⟩ => show win0_10.index t (0 : Fin 2) * 1 + 1 * r.val = r.val; omega
  | ⟨1, _⟩ => show win0_10.index t (1 : Fin 2) * 1024 + 1 * l.val = l.val; omega

theorem mem8 (t : Fin cfg0.N) (r : Fin 512) (l : Fin 1024) :
    (ix2 (row t r) l : S4096x1024.Idx) ∈ ((cfg0.win 8).blk t).view.set := by
  rw [← emb8]; exact ((cfg0.win 8).blk t).view.emb_mem_set _

theorem mem9 (t : Fin cfg0.N) (r : Fin 512) (l : Fin 1024) :
    (ix2 (row t r) l : S4096x1024.Idx) ∈ ((cfg0.win 9).blk t).view.set := by
  rw [← emb9]; exact ((cfg0.win 9).blk t).view.emb_mem_set _

variable (m : (ℓ : Loc nD τ sig) → Buf (Elt Ideal) ℓ) (ρ : Dev nD → PrngReg)

/-- The five argument arrays. -/
abbrev argP (c : Dev nD) : Vec Ideal S4096x4096 .bf16 := m ((c : Thread nD τ).loc main_arg0)
abbrev argW (c : Dev nD) : Vec Ideal S4x1024x1024 .bf16 := m ((c : Thread nD τ).loc main_arg1)
abbrev argH (c : Dev nD) : Vec Ideal S4096x1024 .f32 := m ((c : Thread nD τ).loc main_arg2)
abbrev argN (c : Dev nD) : Vec Ideal S1x1024 .f32 := m ((c : Thread nD τ).loc main_arg3)
abbrev argR (c : Dev nD) : Vec Ideal S4096x1024 .f32 := m ((c : Thread nD τ).loc main_arg4)

theorem iblk0_apply (c : Dev nD) (t : Fin cfg0.N) (r : Fin 512) (l : Fin 4096) :
    (iblk m c 0 t : Vec Ideal S512x4096 .bf16) (ix2 r l) = argP m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 4096 + 1 * l.val = l.val; omega

theorem iblk1_apply (c : Dev nD) (t : Fin cfg0.N) (l k : Fin 1024) :
    (iblk m c 1 t : Vec Ideal S1x1024x1024 .bf16) (ix3 0 l k) = argW m c (ix3 0 l k) := by
  obtain ⟨e0, e1, e2⟩ := idx1 t
  show V m c main_arg1 _ = m (c.tc.loc main_arg1) _
  rw [V_main_arg1]
  congr 1; funext a; apply Fin.ext
  match a with
  | ⟨0, _⟩ => show win0_1.index t (0 : Fin 3) * 1 + 1 * 0 = 0; omega
  | ⟨1, _⟩ => show win0_1.index t (1 : Fin 3) * 1024 + 1 * l.val = l.val; omega
  | ⟨2, _⟩ => show win0_1.index t (2 : Fin 3) * 1024 + 1 * k.val = k.val; omega

theorem iblk2_apply (c : Dev nD) (t : Fin cfg0.N) (l k : Fin 1024) :
    (iblk m c 2 t : Vec Ideal S1x1024x1024 .bf16) (ix3 0 l k) = argW m c (ix3 1 l k) := by
  obtain ⟨e0, e1, e2⟩ := idx2 t
  show V m c main_arg1 _ = m (c.tc.loc main_arg1) _
  rw [V_main_arg1]
  congr 1; funext a; apply Fin.ext
  match a with
  | ⟨0, _⟩ => show win0_2.index t (0 : Fin 3) * 1 + 1 * 0 = 1; omega
  | ⟨1, _⟩ => show win0_2.index t (1 : Fin 3) * 1024 + 1 * l.val = l.val; omega
  | ⟨2, _⟩ => show win0_2.index t (2 : Fin 3) * 1024 + 1 * k.val = k.val; omega

theorem iblk3_apply (c : Dev nD) (t : Fin cfg0.N) (l k : Fin 1024) :
    (iblk m c 3 t : Vec Ideal S1x1024x1024 .bf16) (ix3 0 l k) = argW m c (ix3 2 l k) := by
  obtain ⟨e0, e1, e2⟩ := idx3 t
  show V m c main_arg1 _ = m (c.tc.loc main_arg1) _
  rw [V_main_arg1]
  congr 1; funext a; apply Fin.ext
  match a with
  | ⟨0, _⟩ => show win0_3.index t (0 : Fin 3) * 1 + 1 * 0 = 2; omega
  | ⟨1, _⟩ => show win0_3.index t (1 : Fin 3) * 1024 + 1 * l.val = l.val; omega
  | ⟨2, _⟩ => show win0_3.index t (2 : Fin 3) * 1024 + 1 * k.val = k.val; omega

theorem iblk4_apply (c : Dev nD) (t : Fin cfg0.N) (l k : Fin 1024) :
    (iblk m c 4 t : Vec Ideal S1x1024x1024 .bf16) (ix3 0 l k) = argW m c (ix3 3 l k) := by
  obtain ⟨e0, e1, e2⟩ := idx4 t
  show V m c main_arg1 _ = m (c.tc.loc main_arg1) _
  rw [V_main_arg1]
  congr 1; funext a; apply Fin.ext
  match a with
  | ⟨0, _⟩ => show win0_4.index t (0 : Fin 3) * 1 + 1 * 0 = 3; omega
  | ⟨1, _⟩ => show win0_4.index t (1 : Fin 3) * 1024 + 1 * l.val = l.val; omega
  | ⟨2, _⟩ => show win0_4.index t (2 : Fin 3) * 1024 + 1 * k.val = k.val; omega

theorem iblk5_apply (c : Dev nD) (t : Fin cfg0.N) (r : Fin 512) (l : Fin 1024) :
    (iblk m c 5 t : Vec Ideal S512x1024 .f32) (ix2 r l) = argH m c (ix2 (row t r) l) := by
  obtain ⟨e0, e1⟩ := idx5 t
  show V m c main_arg2 _ = m (c.tc.loc main_arg2) _
  rw [V_main_arg2]
  congr 1; funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem iblk6_apply (c : Dev nD) (t : Fin cfg0.N) (r : Fin 1) (l : Fin 1024) :
    (iblk m c 6 t : Vec Ideal S1x1024 .f32) (ix2 r l) = argN m c (ix2 r l) := by
  obtain ⟨e0, e1⟩ := idx6 t
  show V m c main_arg3 _ = m (c.tc.loc main_arg3) _
  rw [V_main_arg3]
  congr 1; funext a; apply Fin.ext
  match a with
  | ⟨0, _⟩ => show win0_6.index t (0 : Fin 2) * 1 + 1 * r.val = r.val; omega
  | ⟨1, _⟩ => show win0_6.index t (1 : Fin 2) * 1024 + 1 * l.val = l.val; omega

theorem iblk7_apply (c : Dev nD) (t : Fin cfg0.N) (r : Fin 512) (l : Fin 1024) :
    (iblk m c 7 t : Vec Ideal S512x1024 .f32) (ix2 r l) = argR m c (ix2 (row t r) l) := by
  obtain ⟨e0, e1⟩ := idx7 t
  show V m c main_arg4 _ = m (c.tc.loc main_arg4) _
  rw [V_main_arg4]
  congr 1; funext a; apply Fin.ext
  match a with
  | ⟨0, _⟩ => show win0_7.index t (0 : Fin 2) * 512 + 1 * r.val = 512 * t.val + r.val; omega
  | ⟨1, _⟩ => show win0_7.index t (1 : Fin 2) * 1024 + 1 * l.val = l.val; omega

/-! ## What the result arrays hold -/

/-- Entry `(r, l)` of the gradient of the normed array: four sums of 1024 products, one per slot of the weights. -/
def normedGrad (p : Vec Ideal S4096x4096 .bf16) (w : Vec Ideal S4x1024x1024 .bf16) (r : Fin 4096) (l : Fin 1024) : EReal :=
  ∑ k : Fin 1024, p (ix2 r ⟨k.val, by omega⟩) * w (ix3 0 l k) + ∑ k : Fin 1024, p (ix2 r ⟨1024 + k.val, by omega⟩) * w (ix3 1 l k)
    + ∑ k : Fin 1024, p (ix2 r ⟨2048 + k.val, by omega⟩) * w (ix3 2 l k)
    + ∑ k : Fin 1024, p (ix2 r ⟨3072 + k.val, by omega⟩) * w (ix3 3 l k)

/-- The gradient of `h`. -/
def resH (p : Vec Ideal S4096x4096 .bf16) (w : Vec Ideal S4x1024x1024 .bf16) (h : Vec Ideal S4096x1024 .f32)
    (nw : Vec Ideal S1x1024 .f32) (r : Vec Ideal S4096x1024 .f32) : Vec Ideal S4096x1024 .f32 := fun j =>
  r (ix2 (j 0) (j 1)) + rowGrad (fun k => h (ix2 (j 0) k)) (fun k => normedGrad p w (j 0) k * nw (ix2 0 k)) (j 1)

/-- The same in the narrower format: over the extended reals the same numbers. -/
def resB (p : Vec Ideal S4096x4096 .bf16) (w : Vec Ideal S4x1024x1024 .bf16) (h : Vec Ideal S4096x1024 .f32)
    (nw : Vec Ideal S1x1024 .f32) (r : Vec Ideal S4096x1024 .f32) : Vec Ideal S4096x1024 .bf16 := fun j => resH p w h nw r j

/-- Row `r`'s part of the gradient of the norm's weights. -/
abbrev rowN (p : Vec Ideal S4096x4096 .bf16) (w : Vec Ideal S4x1024x1024 .bf16) (h : Vec Ideal S4096x1024 .f32) (l : Fin 1024)
    (r : Fin 4096) : EReal :=
  h (ix2 r l) * rsq (fun k => h (ix2 r k)) * normedGrad p w r l

/-- The gradient of the norm's weights. -/
def resN (p : Vec Ideal S4096x4096 .bf16) (w : Vec Ideal S4x1024x1024 .bf16) (h : Vec Ideal S4096x1024 .f32) :
    Vec Ideal S1x1024 .f32 := fun j => ∑ r : Fin 4096, rowN p w h (j 1) r

/-- The gradient of the normed rows that block `t` computes. -/
abbrev dyAt (c : Dev nD) (t : Fin cfg0.N) : FVec Ideal S512x1024 .f32 :=
  dyBlk (iblk m c 0 t) (iblk m c 1 t) (iblk m c 2 t) (iblk m c 3 t) (iblk m c 4 t)

theorem dyAt_apply (c : Dev nD) (t : Fin cfg0.N) (r : Fin 512) (l : Fin 1024) :
    dyAt m c t (ix2 r l) = normedGrad (argP m c) (argW m c) (row t r) l := by
  unfold dyAt
  rw [dyBlk_apply]
  simp only [iblk0_apply, iblk1_apply, iblk2_apply, iblk3_apply, iblk4_apply]
  rfl

theorem flushed8_eq (c : Dev nD) (t : Fin cfg0.N) : (dats m 0 c).flushed 8 t
    = ((cfg0.win 8).blk t).view.read (Elt Ideal) (resH (argP m c) (argW m c) (argH m c) (argN m c) (argR m c)) := by
  have key : (dats m 0 c).flushed 8 t = (cfg0.win 8).cut (grid0.coords t)
      (k0_pay6 (dyAt m c t) (iblk m c 5 t) (iblk m c 6 t) (k0_pay3 (iblk m c 5 t)) (iblk m c 7 t)) := by
    by_cases h : t.val % 8 = 0
    · rw [flushed8_A m c t h, first_dh]
    · rw [flushed8_B m c t h, later_dh]
  rw [key]
  funext j
  obtain ⟨r, l, rfl⟩ : ∃ (r : Fin 512) (l : Fin 1024), j = (ix2 r l : S512x1024.Idx) := ⟨j 0, j 1, eq_ix2 j⟩
  show k0_pay6 (dyAt m c t) (iblk m c 5 t) (iblk m c 6 t) (k0_pay3 (iblk m c 5 t)) (iblk m c 7 t) (ix2 r l)
    = resH _ _ _ _ _ (((cfg0.win 8).blk t).view.emb (ix2 r l : S512x1024.Idx))
  rw [emb8, pay6_apply]
  simp only [dyAt_apply, iblk5_apply, iblk6_apply, iblk7_apply]
  rfl

theorem flushed9_eq (c : Dev nD) (t : Fin cfg0.N) : (dats m 0 c).flushed 9 t
    = ((cfg0.win 9).blk t).view.read (Elt Ideal) (resB (argP m c) (argW m c) (argH m c) (argN m c) (argR m c)) := by
  have key : (dats m 0 c).flushed 9 t = (cfg0.win 9).cut (grid0.coords t)
      (k0_pay7 (dyAt m c t) (iblk m c 5 t) (iblk m c 6 t) (k0_pay3 (iblk m c 5 t)) (iblk m c 7 t)) := by
    by_cases h : t.val % 8 = 0
    · rw [flushed9_A m c t h, first_dhb]
    · rw [flushed9_B m c t h, later_dhb]
  rw [key]
  funext j
  obtain ⟨r, l, rfl⟩ : ∃ (r : Fin 512) (l : Fin 1024), j = (ix2 r l : S512x1024.Idx) := ⟨j 0, j 1, eq_ix2 j⟩
  show k0_pay7 (dyAt m c t) (iblk m c 5 t) (iblk m c 6 t) (k0_pay3 (iblk m c 5 t)) (iblk m c 7 t) (ix2 r l)
    = resB _ _ _ _ _ (((cfg0.win 9).blk t).view.emb (ix2 r l : S512x1024.Idx))
  rw [emb9, pay7_apply]
  simp only [dyAt_apply, iblk5_apply, iblk6_apply, iblk7_apply]
  rfl

theorem final8 (c : Dev nD) : (dats m 0 c).arrAt 8 cfg0.N = resH (argP m c) (argW m c) (argH m c) (argN m c) (argR m c) :=
  (dats m 0 c).arrAt_eq_of_cover 8 _ (fun t _ => flushed8_eq m c t) fun i => by
    obtain ⟨t, r, h⟩ := row_surj (i 0)
    refine ⟨t, flush0_8 t, ?_⟩
    have hi : i = (ix2 (row t r) (i 1) : S4096x1024.Idx) := by rw [h]; exact eq_ix2 i
    rw [hi]
    exact mem8 t r (i 1)

theorem final9 (c : Dev nD) : (dats m 0 c).arrAt 9 cfg0.N = resB (argP m c) (argW m c) (argH m c) (argN m c) (argR m c) :=
  (dats m 0 c).arrAt_eq_of_cover 9 _ (fun t _ => flushed9_eq m c t) fun i => by
    obtain ⟨t, r, h⟩ := row_surj (i 0)
    refine ⟨t, flush0_9 t, ?_⟩
    have hi : i = (ix2 (row t r) (i 1) : S4096x1024.Idx) := by rw [h]; exact eq_ix2 i
    rw [hi]
    exact mem9 t r (i 1)

/-- The running sum for the norm weights' gradient after block `n`: the first `512 * (n + 1)` rows' parts. -/
theorem sum_after (c : Dev nD) : ∀ (n : ℕ) (h : n < cfg0.N) (l : Fin 1024), (outsAt0 m c n h).2.2 (ix2 0 l)
    = ∑ t : Fin (n + 1), ∑ r : Fin 512, rowN (argP m c) (argW m c) (argH m c) l (row ⟨t.val, by omega⟩ r)
  | 0, h, l => by
    rw [show outsAt0 m c 0 h = _ from outsAt0_A m c ⟨0, h⟩ rfl]
    dsimp only
    rw [first_dnw, dnwStep, pay8_apply, show (k0_pay1 : FVec Ideal S1x1024 .f32) (ix2 0 l) = (0 : EReal) from by pointwise [k0_pay1],
      zero_add, Fin.sum_univ_one]
    refine Finset.sum_congr rfl fun r _ => ?_
    have e := dyAt_apply m c ⟨0, h⟩ r l
    unfold dyAt at e
    rw [e]
    simp only [iblk5_apply]
    rfl
  | n + 1, h, l => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [later_dnw, dnwStep, pay8_apply, Fin.sum_univ_castSucc (n := n + 1)]
    refine congrArg₂ (· + ·) (sum_after c n (Nat.lt_of_succ_lt h) l) (Finset.sum_congr rfl fun r _ => ?_)
    have e := dyAt_apply m c ⟨n + 1, h⟩ r l
    unfold dyAt at e
    rw [e]
    simp only [iblk5_apply]
    rfl

theorem flushed10_eq (c : Dev nD) (t : Fin cfg0.N) (hf : (cfg0.win 10).flush t = true) : (dats m 0 c).flushed 10 t
    = ((cfg0.win 10).blk t).view.read (Elt Ideal) (resN (argP m c) (argW m c) (argH m c)) := by
  have hN : cfg0.N = 8 := N_0
  have h7 : t.val = 7 := by have := (flush0_10 t).mp hf; have := t.isLt; omega
  rw [flushed10]
  funext j
  obtain ⟨r, l, rfl⟩ : ∃ (r : Fin 1) (l : Fin 1024), j = (ix2 r l : S1x1024.Idx) := ⟨j 0, j 1, eq_ix2 j⟩
  obtain rfl : r = 0 := Subsingleton.elim _ _
  show (outsAt0 m c t.val t.isLt).2.2 (ix2 0 l) = resN _ _ _ (((cfg0.win 10).blk t).view.emb (ix2 0 l : S1x1024.Idx))
  rw [emb10, sum_after]
  obtain ⟨t, ht⟩ := t
  obtain rfl : t = 7 := h7
  unfold resN
  rw [Fin.sum_univ_tiles 8 512 rfl]
  refine Finset.sum_congr rfl fun a _ => Finset.sum_congr rfl fun b _ => congrArg (rowN _ _ _ l) (Fin.ext ?_)
  exact congrArg (· + b.val) (Nat.mul_comm 512 a.val)

theorem final10 (c : Dev nD) : (dats m 0 c).arrAt 10 cfg0.N = resN (argP m c) (argW m c) (argH m c) :=
  (dats m 0 c).arrAt_eq_of_cover 10 _ (flushed10_eq m c) fun i => by
    refine ⟨t0_7, (flush0_10 t0_7).mpr rfl, ?_⟩
    have hi : i = (ix2 (i 0) (i 1) : S1x1024.Idx) := eq_ix2 i
    rw [hi, ← emb10 t0_7 (i 0) (i 1)]
    exact ((cfg0.win 10).blk t0_7).view.emb_mem_set _

/-- The kernel's run, with its three result arrays at their values. -/
theorem run : θ_run defs (onTc (τ := τ) (main (F := Ideal))) ⟨m, fun _ => 0, ρ⟩ fun r => ∀ c : Dev nD,
      r.2.mem ((c : Thread nD τ).loc main_v0_0) = resH (argP m c) (argW m c) (argH m c) (argN m c) (argR m c)
      ∧ r.2.mem ((c : Thread nD τ).loc main_v0_1) = resB (argP m c) (argW m c) (argH m c) (argN m c) (argR m c)
      ∧ r.2.mem ((c : Thread nD τ).loc main_v0_2) = resN (argP m c) (argW m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final8 m c), (h c).2.1.trans (final9 m c),
    (h c).2.2.1.trans (final10 m c), (h c).2.2.2⟩) (run_blocks m ρ)

end Cert.Kernel2Ideal.Mnb

end
-- ==== Proof.MnbRef.lean ====
/-
  What the reference of the backward pass of a normed product computes at an entry: the operations `jax.vjp` wrote, read
  one after the other.
-/
module

public import proofs.«01_k».proof.Proof.Gen.Reference2Ideal.Read
public import proofs.«01_k».proof.Proof.NormSpec
public import Idealize.ShloMosaic.Lib.Pointwise

@[expose] public section

noncomputable section

open Idealize.ShloMosaic Idealize.ShloMosaic.TcCoe Idealize.SL.Sem

namespace Cert.Reference2Ideal.Mnb

open Cert.Reference2Ideal Cert.Reference2Ideal.Gen Cert.Reference2Ideal.Read Cert.Norm

variable (p : Vec Ideal S4096x4096 .bf16) (w : Vec Ideal S4x1024x1024 .bf16) (h : Vec Ideal S4096x1024 .f32)
  (nw : Vec Ideal S1x1024 .f32) (r : Vec Ideal S4096x1024 .f32)

/-- Entry `(a, l)` of the gradient of the normed array: one sum over the 4096 columns of the weights. -/
def fullSum (a : Fin 4096) (l : Fin 1024) : EReal :=
  ∑ k : Fin 4096, p (ix2 a k) * w (ix3 ⟨k.val / 1024, by omega⟩ l ⟨k.val % 1024, by omega⟩)

theorem val43_apply (a : Fin 4096) (l : Fin 1024) : val_main_v43 (F := Ideal) p w h nw r (ix2 a l)
    = r (ix2 a l) + rowGrad (fun k => h (ix2 a k)) (fun k => fullSum p w a k * nw (ix2 0 k)) l := by
  pointwise [
    val_main_v0, val_main_v1, val_main_v2, val_main_v3, val_main_v4, val_main_cst, val_main_v5, val_main_v6,
    val_main_cst_0, val_main_v7, val_main_v8, val_main_cst_1, val_main_v9, val_main_v10, val_main_v11,
    val_main_v12, val_main_cst_2, val_main_v13, val_main_v14, val_main_v15, val_main_v16, val_main_v17,
    val_main_v18, val_main_v19, val_main_v20, val_main_v21, val_main_v22, val_main_v23, val_main_cst_3,
    val_main_v24, val_main_v25, val_main_v26, val_main_v27, val_main_cst_4, val_main_v28, val_main_v29,
    val_main_cst_5, val_main_v30, val_main_v31, val_main_v32, val_main_v33, val_main_v34, val_main_v35,
    val_main_cst_6, val_main_v36, val_main_v37, val_main_cst_7, val_main_v38, val_main_v39, val_main_v40,
    val_main_v41, val_main_v42, val_main_v43, val_main_v44, val_main_v45]
  simp only [Finset.univ_unique, Finset.sum_singleton]
  unfold rowGrad
  rw [← add_assoc, ← add_assoc]
  rfl

theorem val45_apply (a : Fin 1) (l : Fin 1024) : val_main_v45 (F := Ideal) p w h (ix2 a l)
    = ∑ k : Fin 4096, h (ix2 k l) * rsq (fun i => h (ix2 k i)) * fullSum p w k l := by
  pointwise [
    val_main_v0, val_main_v1, val_main_v2, val_main_v3, val_main_v4, val_main_cst, val_main_v5, val_main_v6,
    val_main_cst_0, val_main_v7, val_main_v8, val_main_cst_1, val_main_v9, val_main_v10, val_main_v11,
    val_main_v12, val_main_cst_2, val_main_v13, val_main_v14, val_main_v15, val_main_v16, val_main_v17,
    val_main_v18, val_main_v19, val_main_v20, val_main_v21, val_main_v22, val_main_v23, val_main_cst_3,
    val_main_v24, val_main_v25, val_main_v26, val_main_v27, val_main_cst_4, val_main_v28, val_main_v29,
    val_main_cst_5, val_main_v30, val_main_v31, val_main_v32, val_main_v33, val_main_v34, val_main_v35,
    val_main_cst_6, val_main_v36, val_main_v37, val_main_cst_7, val_main_v38, val_main_v39, val_main_v40,
    val_main_v41, val_main_v42, val_main_v43, val_main_v44, val_main_v45]
  simp only [Finset.univ_unique, Finset.sum_singleton]
  rfl

/-- The sum over 4096 columns is four sums over the slots' 1024. -/
theorem fullSum_eq (a : Fin 4096) (l : Fin 1024) : fullSum p w a l
    = ∑ k : Fin 1024, p (ix2 a ⟨k.val, by omega⟩) * w (ix3 0 l k) + ∑ k : Fin 1024, p (ix2 a ⟨1024 + k.val, by omega⟩) * w (ix3 1 l k)
      + ∑ k : Fin 1024, p (ix2 a ⟨2048 + k.val, by omega⟩) * w (ix3 2 l k)
      + ∑ k : Fin 1024, p (ix2 a ⟨3072 + k.val, by omega⟩) * w (ix3 3 l k) := by
  have key : ∀ (s : Fin 4) (k : Fin 1024) (hk : s.val * 1024 + k.val < 4096),
      p (ix2 a ⟨s.val * 1024 + k.val, hk⟩) * w (ix3 ⟨(s.val * 1024 + k.val) / 1024, by omega⟩ l ⟨(s.val * 1024 + k.val) % 1024, by omega⟩)
        = p (ix2 a ⟨s.val * 1024 + k.val, hk⟩) * w (ix3 s l k) := fun s k hk => by
    have e1 : (⟨(s.val * 1024 + k.val) / 1024, by omega⟩ : Fin 4) = s := Fin.ext (by show (s.val * 1024 + k.val) / 1024 = s.val; omega)
    have e2 : (⟨(s.val * 1024 + k.val) % 1024, by omega⟩ : Fin 1024) = k := Fin.ext (by show (s.val * 1024 + k.val) % 1024 = k.val; omega)
    rw [e1, e2]
  unfold fullSum
  rw [Fin.sum_univ_tiles 4 1024 rfl, Fin.sum_univ_four]
  refine congrArg₂ (· + ·) (congrArg₂ (· + ·) (congrArg₂ (· + ·) ?_ ?_) ?_) ?_ <;>
    refine Finset.sum_congr rfl fun k _ => (key _ k _).trans (congrArg (fun i => p (ix2 a i) * _) (Fin.ext ?_))
  · show 0 * 1024 + k.val = k.val; omega
  · show 1 * 1024 + k.val = 1024 + k.val; omega
  · show 2 * 1024 + k.val = 2048 + k.val; omega
  · show 3 * 1024 + k.val = 3072 + k.val; omega

end Cert.Reference2Ideal.Mnb

end
-- ==== Proof.MnbClaim.lean ====
/-
  The backward kernel of a normed product and its reference end with the same arrays, whatever the arguments hold.
-/
module

public import proofs.«01_k».proof.Defs
public import proofs.«01_k».proof.Proof.MnbArray
public import proofs.«01_k».proof.Proof.MnbRef
public import proofs.«01_k».proof.Proof.Gen.Reference2Ideal.Run
public import Idealize.ShloMosaic.Lib.Claim

@[expose] public section

noncomputable section

open Idealize.ShloMosaic Idealize.ShloMosaic.TcCoe Idealize.SL.Sem

namespace Cert.Mnb

/-- The reference's one sum per entry and the kernel's four are the same number. -/
theorem fullSum_eq : Reference2Ideal.Mnb.fullSum = Kernel2Ideal.Mnb.normedGrad := by
  funext p w a l
  exact Reference2Ideal.Mnb.fullSum_eq p w a l

theorem algebraic : Cert.algebraic_Kernel2Ideal_Reference2Ideal (hKernel2Ideal := Cert.Kernel2Ideal.Gen.facts)
    (hReference2Ideal := Cert.Reference2Ideal.Gen.facts) := by
  intro m g m' g' _ hm
  refine ⟨fun c => Kernel2Ideal.Mnb.resH _ _ _ _ _, fun c => Kernel2Ideal.Mnb.resB _ _ _ _ _, fun c => Kernel2Ideal.Mnb.resN _ _ _,
    Kernel2Ideal.Mnb.run m g, (θ_run _ _ _).mono (fun r h c => ?_) (Reference2Ideal.Value.run m' g')⟩
  obtain ⟨e0, e1, e2, e3, e4⟩ := hm c
  refine ⟨(h c).1.trans ?_, (h c).2.1.trans ?_, (h c).2.2.1.trans ?_, (h c).2.2.2⟩
  · rw [Reference2Ideal.Read.val_main_v43_eq, e0, e1, e2, e3, e4]
    funext j
    obtain ⟨a, b, rfl⟩ : ∃ (a : Fin 4096) (b : Fin 1024), j = ix2 a b := ⟨j 0, j 1, eq_ix2 j⟩
    refine (Reference2Ideal.Mnb.val43_apply _ _ _ _ _ a b).trans ?_
    rw [fullSum_eq]
    rfl
  · rw [Reference2Ideal.Read.val_main_v44_eq, e0, e1, e2, e3, e4]
    funext j
    obtain ⟨a, b, rfl⟩ : ∃ (a : Fin 4096) (b : Fin 1024), j = ix2 a b := ⟨j 0, j 1, eq_ix2 j⟩
    refine (Reference2Ideal.Mnb.val43_apply _ _ _ _ _ a b).trans ?_
    rw [fullSum_eq]
    rfl
  · rw [e0, e1, e2]
    funext j
    obtain ⟨a, b, rfl⟩ : ∃ (a : Fin 1) (b : Fin 1024), j = ix2 a b := ⟨j 0, j 1, eq_ix2 j⟩
    refine (congrFun (Reference2Ideal.Read.val_main_v45_eq (F := Ideal) _ _ _) _).trans
      ((Reference2Ideal.Mnb.val45_apply _ _ _ a b).trans ?_)
    rw [fullSum_eq]
    rfl

end Cert.Mnb

end
-- ==== Proof.DwUp.lean ====
/-
  The weight gradient of a projection: the kernel's eight blocks, the reference's one product, and that both end with the
  same array.
-/
module

public import proofs.«01_k».proof.Defs
public import proofs.«01_k».proof.Proof.Gen.Kernel3Ideal.Value
public import proofs.«01_k».proof.Proof.Gen.Reference3Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel3Ideal.Mm

open Cert.Kernel3Ideal Cert.Kernel3Ideal.Gen Cert.Kernel3Ideal.Value

theorem off2 : (![0, 0] : Fin 2 → Nat) = fun _ => 0 := by funext a; fin_cases a <;> rfl
theorem off3 : (![0, 0, 0] : Fin 3 → Nat) = fun _ => 0 := by funext a; fin_cases a <;> rfl

/-- One block of the product. -/
theorem out_apply (x : Vec Ideal S4096x512 .bf16) (y : Vec Ideal S4096x1024 .bf16) (r : Fin 512) (l : Fin 1024) :
    out0_2 x y (ix3 0 r l) = ∑ k : Fin 4096, x (ix2 k r) * y (ix2 k l) := by
  unfold out0_2
  rw [View.canon_unit_zero off3, View.ld_unit_zero (S := S4096x512) off2, View.ld_unit_zero (S := S4096x1024) off2]
  pointwise [k0_pay1]

/-- Block `t` is that of shard `t % 4` and of the rows from `512 * (t / 4)`. -/
abbrev shard (t : Fin cfg0.N) : Fin 4 := ⟨t.val % 4, by omega⟩
abbrev row (t : Fin cfg0.N) (r : Fin 512) : Fin 1024 := ⟨512 * (t.val / 4) + r.val, by have := t.isLt; have : cfg0.N = 8 := N_0; omega⟩
abbrev col (t : Fin cfg0.N) (l : Fin 1024) : Fin 4096 := ⟨1024 * (t.val % 4) + l.val, by omega⟩

theorem idx0 : ∀ t : Fin cfg0.N, win0_0.index t (0 : Fin 2) = 0 ∧ win0_0.index t (1 : Fin 2) = t.val / 4 :=
  (by decide +kernel : ∀ t : Fin grid0.N, _)
theorem idx1 : ∀ t : Fin cfg0.N, win0_1.index t (0 : Fin 2) = 0 ∧ win0_1.index t (1 : Fin 2) = t.val % 4 :=
  (by decide +kernel : ∀ t : Fin grid0.N, _)
theorem idx2 : ∀ t : Fin cfg0.N, win0_2.index t (0 : Fin 3) = t.val % 4 ∧ win0_2.index t (1 : Fin 3) = t.val / 4 ∧ win0_2.index t (2 : Fin 3) = 0 :=
  (by decide +kernel : ∀ t : Fin grid0.N, _)

theorem emb2 (t : Fin cfg0.N) (r : Fin 512) (l : Fin 1024) :
    ((cfg0.win 2).blk t).view.emb (ix3 0 r l : S1x512x1024.Idx) = (ix3 (shard t) (row t r) l : S4x1024x1024.Idx) := by
  obtain ⟨e0, e1, e2⟩ := idx2 t
  funext a; apply Fin.ext
  match a with
  | ⟨0, _⟩ => show win0_2.index t (0 : Fin 3) * 1 + 1 * 0 = t.val % 4; omega
  | ⟨1, _⟩ => show win0_2.index t (1 : Fin 3) * 512 + 1 * r.val = 512 * (t.val / 4) + r.val; omega
  | ⟨2, _⟩ => show win0_2.index t (2 : Fin 3) * 1024 + 1 * l.val = l.val; omega

theorem mem2 (t : Fin cfg0.N) (r : Fin 512) (l : Fin 1024) :
    (ix3 (shard t) (row t r) l : S4x1024x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argZ (c : Dev nD) : Vec Ideal S4096x1024 .bf16 := m ((c : Thread nD τ).loc main_arg0)
abbrev argU (c : Dev nD) : Vec Ideal S4096x4096 .bf16 := m ((c : Thread nD τ).loc main_arg1)

theorem iblk0_apply (c : Dev nD) (t : Fin cfg0.N) (k : Fin 4096) (r : Fin 512) :
    (iblk m c 0 t : Vec Ideal S4096x512 .bf16) (ix2 k r) = argZ m c (ix2 k (row t r)) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 4096 + 1 * k.val = k.val; omega
  | ⟨1, _⟩ => show win0_0.index t (1 : Fin 2) * 512 + 1 * r.val = 512 * (t.val / 4) + r.val; omega

theorem iblk1_apply (c : Dev nD) (t : Fin cfg0.N) (k : Fin 4096) (l : Fin 1024) :
    (iblk m c 1 t : Vec Ideal S4096x1024 .bf16) (ix2 k l) = argU m c (ix2 k (col t l)) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 4096 + 1 * k.val = k.val; omega
  | ⟨1, _⟩ => show win0_1.index t (1 : Fin 2) * 1024 + 1 * l.val = 1024 * (t.val % 4) + l.val; omega

/-- The gradient, in its four shards of 1024 columns each. -/
def res (z : Vec Ideal S4096x1024 .bf16) (u : Vec Ideal S4096x4096 .bf16) : Vec Ideal S4x1024x1024 .f32 := fun j =>
  ∑ k : Fin 4096, z (ix2 k (j 1)) * u (ix2 k ⟨1024 * (j 0).val + (j 2).val, by have h0 : (j 0).val < 4 := (j 0).isLt; have h2 : (j 2).val < 1024 := (j 2).isLt; omega⟩)

theorem flushed2_eq (c : Dev nD) (t : Fin cfg0.N) : (dats m 0 c).flushed 2 t
    = ((cfg0.win 2).blk t).view.read (Elt Ideal) (res (argZ m c) (argU m c)) := by
  rw [flushed2]
  funext j
  obtain ⟨s, r, l, rfl⟩ : ∃ (s : Fin 1) (r : Fin 512) (l : Fin 1024), j = (ix3 s r l : S1x512x1024.Idx) := ⟨j 0, j 1, j 2, eq_ix3 j⟩
  obtain rfl : s = 0 := Subsingleton.elim _ _
  show out0_2 (iblk m c 0 t) (iblk m c 1 t) (ix3 0 r l) = res _ _ (((cfg0.win 2).blk t).view.emb (ix3 0 r l : S1x512x1024.Idx))
  rw [emb2, out_apply]
  simp only [iblk0_apply, iblk1_apply]
  rfl

theorem final2 (c : Dev nD) : (dats m 0 c).arrAt 2 cfg0.N = res (argZ m c) (argU m c) :=
  (dats m 0 c).arrAt_eq_of_cover 2 _ (fun t _ => flushed2_eq m c t) fun i => by
    have h0 : (i 0).val < 4 := (i 0).isLt
    have h1 : (i 1).val < 1024 := (i 1).isLt
    obtain ⟨t, ht⟩ : ∃ t : Fin cfg0.N, t.val = 4 * ((i 1).val / 512) + (i 0).val := ⟨⟨4 * ((i 1).val / 512) + (i 0).val, by have : cfg0.N = 8 := N_0; omega⟩, rfl⟩
    refine ⟨t, flush0_2 t, ?_⟩
    have hi : i = (ix3 (shard t)
        (row t ⟨(i 1).val % 512, by omega⟩) (i 2) : S4x1024x1024.Idx) := by
      funext a; apply Fin.ext
      match a with
      | ⟨0, _⟩ => show (i 0).val = t.val % 4; omega
      | ⟨1, _⟩ => show (i 1).val = 512 * (t.val / 4) + (i 1).val % 512; omega
      | ⟨2, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argZ m c) (argU m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel3Ideal.Mm

namespace Cert.Reference3Ideal.Mm

open Cert.Reference3Ideal Cert.Reference3Ideal.Gen Cert.Reference3Ideal.Read

theorem val_apply (z : Vec Ideal S4096x1024 .bf16) (u : Vec Ideal S4096x4096 .bf16) (j : S4x1024x1024.Idx) :
    val_main_v7 (F := Ideal) z u j = Kernel3Ideal.Mm.res z u j := by
  obtain ⟨s, r, l, rfl⟩ : ∃ (s : Fin 4) (r l : Fin 1024), j = ix3 s r l := ⟨j 0, j 1, j 2, eq_ix3 j⟩
  rw [val_main_v7_apply, val_main_v6_apply, val_main_v5_apply, val_main_v4_apply]
  refine Finset.sum_congr rfl fun k _ => ?_
  rw [mul_comm]
  refine congrArg₂ (fun a b => z a * u b) (funext fun a => Fin.ext ?_) (funext fun a => Fin.ext ?_)
  · match a with
    | ⟨0, _⟩ => rfl
    | ⟨1, _⟩ => show ((r.val * 4 + s.val) * 1024 + l.val) / 4096 = r.val; omega
  · match a with
    | ⟨0, _⟩ => rfl
    | ⟨1, _⟩ => show ((r.val * 4 + s.val) * 1024 + l.val) % 4096 = 1024 * s.val + l.val; omega

end Cert.Reference3Ideal.Mm

namespace Cert.DwUp

theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => Kernel3Ideal.Mm.res _ _, Kernel3Ideal.Mm.run m g, (θ_run _ _ _).mono (fun r h c => ?_) (Reference3Ideal.Value.run m' g')⟩
  obtain ⟨e0, e1⟩ := hm c
  refine ⟨(h c).1.trans ?_, (h c).2⟩
  rw [e0, e1]
  exact (Reference3Ideal.Read.val_main_v7_eq (F := Ideal) _ _).trans (funext fun j => Reference3Ideal.Mm.val_apply _ _ j)

end Cert.DwUp

end
-- ==== Proof.DMlpAct.lean ====
/-
  The gradient of the squared ReLU's argument: the kernel's sixteen blocks, the reference's product, and that both end with
  the same array.
-/
module

public import proofs.«01_k».proof.Defs
public import proofs.«01_k».proof.Proof.Gen.Kernel4Ideal.Value
public import proofs.«01_k».proof.Proof.Gen.Reference4Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel4Ideal.Mm

open Cert.Kernel4Ideal Cert.Kernel4Ideal.Gen Cert.Kernel4Ideal.Value

theorem off2 : (![0, 0] : Fin 2 → Nat) = fun _ => 0 := by funext a; fin_cases a <;> rfl

/-- Two, as the programs write it. -/
abbrev two : EReal := Ideal.ofBits .f32 0x40000000#32

/-- One block: the product, times twice the ReLU's value. -/
theorem out_apply (x y e : Vec Ideal S1024x1024 .bf16) (r l : Fin 1024) :
    out0_3 x y e (ix2 r l) = (∑ k : Fin 1024, x (ix2 r k) * y (ix2 l k)) * (two * e (ix2 r l)) := by
  unfold out0_3
  rw [View.canon_unit_zero off2]
  simp only [View.ld_unit_zero (S := S1024x1024) off2]
  pointwise [k0_pay1]

/-- Block `t`'s rows and columns. -/
abbrev row (t : Fin cfg0.N) (r : Fin 1024) : Fin 4096 := ⟨1024 * (t.val / 4) + r.val, by have := t.isLt; have : cfg0.N = 16 := N_0; omega⟩
abbrev col (t : Fin cfg0.N) (l : Fin 1024) : Fin 4096 := ⟨1024 * (t.val % 4) + l.val, by omega⟩

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)

theorem emb3 (t : Fin cfg0.N) (r l : Fin 1024) :
    ((cfg0.win 3).blk t).view.emb (ix2 r l : S1024x1024.Idx) = (ix2 (row t r) (col t l) : S4096x4096.Idx) := by
  obtain ⟨e0, e1⟩ := idx3 t
  funext a; apply Fin.ext
  match a with
  | ⟨0, _⟩ => show win0_3.index t (0 : Fin 2) * 1024 + 1 * r.val = 1024 * (t.val / 4) + r.val; omega
  | ⟨1, _⟩ => show win0_3.index t (1 : Fin 2) * 1024 + 1 * l.val = 1024 * (t.val % 4) + l.val; omega

theorem mem3 (t : Fin cfg0.N) (r l : Fin 1024) :
    (ix2 (row t r) (col t l) : S4096x4096.Idx) ∈ ((cfg0.win 3).blk t).view.set := by
  rw [← emb3]; exact ((cfg0.win 3).blk t).view.emb_mem_set _

variable (m : (ℓ : Loc nD τ sig) → Buf (Elt Ideal) ℓ) (ρ : Dev nD → PrngReg)

abbrev argD (c : Dev nD) : Vec Ideal S4096x1024 .bf16 := m ((c : Thread nD τ).loc main_arg0)
abbrev argW (c : Dev nD) : Vec Ideal S4096x1024 .bf16 := m ((c : Thread nD τ).loc main_arg1)
abbrev argR (c : Dev nD) : Vec Ideal S4096x4096 .bf16 := m ((c : Thread nD τ).loc main_arg2)

theorem iblk0_apply (c : Dev nD) (t : Fin cfg0.N) (r k : Fin 1024) :
    (iblk m c 0 t : Vec Ideal S1024x1024 .bf16) (ix2 r k) = argD m c (ix2 (row t r) k) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 1024 + 1 * r.val = 1024 * (t.val / 4) + r.val; omega
  | ⟨1, _⟩ => show win0_0.index t (1 : Fin 2) * 1024 + 1 * k.val = k.val; omega

theorem iblk1_apply (c : Dev nD) (t : Fin cfg0.N) (l k : Fin 1024) :
    (iblk m c 1 t : Vec Ideal S1024x1024 .bf16) (ix2 l k) = argW m c (ix2 (col t l) k) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1024 + 1 * l.val = 1024 * (t.val % 4) + l.val; omega
  | ⟨1, _⟩ => show win0_1.index t (1 : Fin 2) * 1024 + 1 * k.val = k.val; omega

theorem iblk2_apply (c : Dev nD) (t : Fin cfg0.N) (r l : Fin 1024) :
    (iblk m c 2 t : Vec Ideal S1024x1024 .bf16) (ix2 r l) = argR m c (ix2 (row t r) (col t l)) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 1024 + 1 * r.val = 1024 * (t.val / 4) + r.val; omega
  | ⟨1, _⟩ => show win0_2.index t (1 : Fin 2) * 1024 + 1 * l.val = 1024 * (t.val % 4) + l.val; omega

/-- The gradient. -/
def res (d w : Vec Ideal S4096x1024 .bf16) (e : Vec Ideal S4096x4096 .bf16) : Vec Ideal S4096x4096 .bf16 := fun j =>
  (∑ k : Fin 1024, d (ix2 (j 0) k) * w (ix2 (j 1) k)) * (two * e (ix2 (j 0) (j 1)))

theorem flushed3_eq (c : Dev nD) (t : Fin cfg0.N) : (dats m 0 c).flushed 3 t
    = ((cfg0.win 3).blk t).view.read (Elt Ideal) (res (argD m c) (argW m c) (argR m c)) := by
  rw [flushed3]
  funext j
  obtain ⟨r, l, rfl⟩ : ∃ (r l : Fin 1024), j = (ix2 r l : S1024x1024.Idx) := ⟨j 0, j 1, eq_ix2 j⟩
  show out0_3 (iblk m c 0 t) (iblk m c 1 t) (iblk m c 2 t) (ix2 r l) = res _ _ _ (((cfg0.win 3).blk t).view.emb (ix2 r l : S1024x1024.Idx))
  rw [emb3, out_apply]
  simp only [iblk0_apply, iblk1_apply, iblk2_apply]
  rfl

theorem final3 (c : Dev nD) : (dats m 0 c).arrAt 3 cfg0.N = res (argD m c) (argW m c) (argR m c) :=
  (dats m 0 c).arrAt_eq_of_cover 3 _ (fun t _ => flushed3_eq m c t) fun i => by
    have h0 : (i 0).val < 4096 := (i 0).isLt
    have h1 : (i 1).val < 4096 := (i 1).isLt
    obtain ⟨t, ht⟩ : ∃ t : Fin cfg0.N, t.val = 4 * ((i 0).val / 1024) + (i 1).val / 1024 :=
      ⟨⟨4 * ((i 0).val / 1024) + (i 1).val / 1024, by have : cfg0.N = 16 := N_0; omega⟩, rfl⟩
    refine ⟨t, flush0_3 t, ?_⟩
    have hi : i = (ix2 (row t ⟨(i 0).val % 1024, by omega⟩) (col t ⟨(i 1).val % 1024, by omega⟩) : S4096x4096.Idx) := by
      funext a; apply Fin.ext
      match a with
      | ⟨0, _⟩ => show (i 0).val = 1024 * (t.val / 4) + (i 0).val % 1024; omega
      | ⟨1, _⟩ => show (i 1).val = 1024 * (t.val % 4) + (i 1).val % 1024; omega
    rw [hi]
    exact mem3 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argD m c) (argW m c) (argR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Kernel4Ideal.Mm

namespace Cert.DMlpAct

open Cert.Reference4Ideal.Read in
theorem val_apply (d w : Vec Ideal Reference4Ideal.S4096x1024 .bf16) (e : Vec Ideal Reference4Ideal.S4096x4096 .bf16)
    (j : Reference4Ideal.S4096x4096.Idx) : val_main_v9 (F := Ideal) d w e j = Kernel4Ideal.Mm.res d w e j := by
  obtain ⟨r, l, rfl⟩ : ∃ (r l : Fin 4096), j = ix2 r l := ⟨j 0, j 1, eq_ix2 j⟩
  pointwise [val_main_v9, val_main_v8, val_main_v7, val_main_v6, val_main_v4, val_main_v3, val_main_v2, val_main_cst, val_main_v0]
  rfl

theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => Kernel4Ideal.Mm.res _ _ _, Kernel4Ideal.Mm.run m g, (θ_run _ _ _).mono (fun r h c => ?_) (Reference4Ideal.Value.run m' g')⟩
  obtain ⟨e0, e1, e2⟩ := hm c
  refine ⟨(h c).1.trans ?_, (h c).2⟩
  rw [e0, e1, e2]
  exact (Reference4Ideal.Read.val_main_v9_eq (F := Ideal) _ _ _).trans (funext fun j => val_apply _ _ _ j)

end Cert.DMlpAct

end
-- ==== Proof.DwDown.lean ====
/-
  The weight gradient of the MLP's second product: the kernel's eight blocks, the reference's one product, and that both end
  with the same array.
-/
module

public import proofs.«01_k».proof.Defs
public import proofs.«01_k».proof.Proof.Gen.Kernel5Ideal.Value
public import proofs.«01_k».proof.Proof.Gen.Reference5Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel5Ideal.Mm

open Cert.Kernel5Ideal Cert.Kernel5Ideal.Gen Cert.Kernel5Ideal.Value

theorem off2 : (![0, 0] : Fin 2 → Nat) = fun _ => 0 := by funext a; fin_cases a <;> rfl

/-- One block of the product, its first factor squared. -/
theorem out_apply (x : Vec Ideal S4096x512 .bf16) (y : Vec Ideal S4096x1024 .bf16) (r : Fin 512) (l : Fin 1024) :
    out0_2 x y (ix2 r l) = ∑ k : Fin 4096, x (ix2 k r) * x (ix2 k r) * y (ix2 k l) := by
  unfold out0_2
  rw [View.canon_unit_zero off2, View.ld_unit_zero (S := S4096x512) off2, View.ld_unit_zero (S := S4096x1024) off2]
  pointwise [k0_pay1]

/-- Block `t`'s rows. -/
abbrev row (t : Fin cfg0.N) (r : Fin 512) : Fin 4096 := ⟨512 * t.val + r.val, by have := t.isLt; have : cfg0.N = 8 := N_0; omega⟩

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 512) (l : Fin 1024) :
    ((cfg0.win 2).blk t).view.emb (ix2 r l : S512x1024.Idx) = (ix2 (row t r) l : S4096x1024.Idx) := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

theorem mem2 (t : Fin cfg0.N) (r : Fin 512) (l : Fin 1024) :
    (ix2 (row t r) l : S4096x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argR (c : Dev nD) : Vec Ideal S4096x4096 .bf16 := m ((c : Thread nD τ).loc main_arg0)
abbrev argD (c : Dev nD) : Vec Ideal S4096x1024 .bf16 := m ((c : Thread nD τ).loc main_arg1)

theorem iblk0_apply (c : Dev nD) (t : Fin cfg0.N) (k : Fin 4096) (r : Fin 512) :
    (iblk m c 0 t : Vec Ideal S4096x512 .bf16) (ix2 k r) = argR m c (ix2 k (row t r)) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 4096 + 1 * k.val = k.val; omega
  | ⟨1, _⟩ => show win0_0.index t (1 : Fin 2) * 512 + 1 * r.val = 512 * t.val + r.val; omega

theorem iblk1_apply (c : Dev nD) (t : Fin cfg0.N) (k : Fin 4096) (l : Fin 1024) :
    (iblk m c 1 t : Vec Ideal S4096x1024 .bf16) (ix2 k l) = argD m c (ix2 k l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 4096 + 1 * k.val = k.val; omega
  | ⟨1, _⟩ => show win0_1.index t (1 : Fin 2) * 1024 + 1 * l.val = l.val; omega

/-- The gradient. -/
def res (x : Vec Ideal S4096x4096 .bf16) (d : Vec Ideal S4096x1024 .bf16) : Vec Ideal S4096x1024 .f32 := fun j =>
  ∑ k : Fin 4096, x (ix2 k (j 0)) * x (ix2 k (j 0)) * d (ix2 k (j 1))

theorem flushed2_eq (c : Dev nD) (t : Fin cfg0.N) : (dats m 0 c).flushed 2 t
    = ((cfg0.win 2).blk t).view.read (Elt Ideal) (res (argR m c) (argD m c)) := by
  rw [flushed2]
  funext j
  obtain ⟨r, l, rfl⟩ : ∃ (r : Fin 512) (l : Fin 1024), j = (ix2 r l : S512x1024.Idx) := ⟨j 0, j 1, eq_ix2 j⟩
  show out0_2 (iblk m c 0 t) (iblk m c 1 t) (ix2 r l) = res _ _ (((cfg0.win 2).blk t).view.emb (ix2 r l : S512x1024.Idx))
  rw [emb2, out_apply]
  simp only [iblk0_apply, iblk1_apply]
  rfl

theorem final2 (c : Dev nD) : (dats m 0 c).arrAt 2 cfg0.N = res (argR m c) (argD m c) :=
  (dats m 0 c).arrAt_eq_of_cover 2 _ (fun t _ => flushed2_eq m c t) fun i => by
    have h0 : (i 0).val < 4096 := (i 0).isLt
    obtain ⟨t, ht⟩ : ∃ t : Fin cfg0.N, t.val = (i 0).val / 512 :=
      ⟨⟨(i 0).val / 512, by have : cfg0.N = 8 := N_0; omega⟩, rfl⟩
    refine ⟨t, flush0_2 t, ?_⟩
    have hi : i = (ix2 (row t ⟨(i 0).val % 512, by omega⟩) (i 1) : S4096x1024.Idx) := by
      funext a; apply Fin.ext
      match a with
      | ⟨0, _⟩ => show (i 0).val = 512 * t.val + (i 0).val % 512; omega
      | ⟨1, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argR m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel5Ideal.Mm

namespace Cert.DwDown

open Cert.Reference5Ideal.Read in
theorem val_apply (x : Vec Ideal Reference5Ideal.S4096x4096 .bf16) (d : Vec Ideal Reference5Ideal.S4096x1024 .bf16)
    (j : Reference5Ideal.S4096x1024.Idx) : val_main_v6 (F := Ideal) x d j = Kernel5Ideal.Mm.res x d j := by
  obtain ⟨r, l, rfl⟩ : ∃ (r : Fin 4096) (l : Fin 1024), j = ix2 r l := ⟨j 0, j 1, eq_ix2 j⟩
  pointwise [val_main_v6, val_main_v5, val_main_v4, val_main_v2, val_main_v1]
  exact Finset.sum_congr rfl fun k _ => mul_comm _ _

theorem algebraic : Cert.algebraic_Kernel5Ideal_Reference5Ideal (hKernel5Ideal := Cert.Kernel5Ideal.Gen.facts)
    (hReference5Ideal := Cert.Reference5Ideal.Gen.facts) := by
  intro m g m' g' _ hm
  refine ⟨fun c => Kernel5Ideal.Mm.res _ _, Kernel5Ideal.Mm.run m g, (θ_run _ _ _).mono (fun r h c => ?_) (Reference5Ideal.Value.run m' g')⟩
  obtain ⟨e0, e1⟩ := hm c
  refine ⟨(h c).1.trans ?_, (h c).2⟩
  rw [e0, e1]
  exact (Reference5Ideal.Read.val_main_v6_eq (F := Ideal) _ _).trans (funext fun j => val_apply _ _ j)

end Cert.DwDown

end
-- ==== Proof.GibBlock.lean ====
/-
  The backward kernel of a normed product with undivided weights, one block at a time: what its body leaves in each of its
  three output buffers, as a function of the input blocks: the rows `p` of the product's gradient, the weights `w`, the
  rows `h` of the normed array, the norm's weights `nw`, and the rows `r` of the gradient that bypasses the product.
-/
module

public import proofs.«01_k».proof.Proof.Gen.Kernel6Ideal.Value
public import Idealize.ShloMosaic.Lib.Pipeline.Value
public import Idealize.ShloMosaic.Lib.Tactic

@[expose] public section

noncomputable section

open Idealize.ShloMosaic Idealize.ShloMosaic.TcCoe Idealize.SL.Sem

namespace Cert.Kernel6Ideal.Gib

open Cert.Kernel6Ideal Cert.Kernel6Ideal.Gen

variable {F : FTy → Type} [FloatOps F]

theorem off2 : (![0, 0] : Fin 2 → Nat) = fun _ => 0 := by funext a; fin_cases a <;> rfl

/-- The block of the gradient of `h`, -/
abbrev dhBlk (p : Vec F S512x4224 .bf16) (w : Vec F S1024x4224 .bf16) (h : Vec F S512x1024 .f32) (nw : Vec F S1x1024 .f32)
    (r : Vec F S512x1024 .f32) : Vec F S512x1024 .f32 :=
  k0_pay1 h (k0_pay10 p w h nw) (k0_pay11 p w h nw) r

/-- … the same in the narrower format, -/
abbrev dhbBlk (p : Vec F S512x4224 .bf16) (w : Vec F S1024x4224 .bf16) (h : Vec F S512x1024 .f32) (nw : Vec F S1x1024 .f32)
    (r : Vec F S512x1024 .f32) : Vec F S512x1024 .bf16 :=
  k0_pay2 h (k0_pay10 p w h nw) (k0_pay11 p w h nw) r

/-- … and the sum for the norm weights' gradient, one block of rows further. -/
abbrev dnwStep (acc : Vec F S1x1024 .f32) (p : Vec F S512x4224 .bf16) (w : Vec F S1024x4224 .bf16) (h : Vec F S512x1024 .f32) :
    Vec F S1x1024 .f32 :=
  k0_pay3 (k0_pay8 p w h) acc

section Cases

variable (c : Dev nD) (i : grid0.Coords)
  (a1 : Memref sig .tc .vmem S512x4224 .bf16) (h1 : a1.IsWhole) (a2 : Memref sig .tc .vmem S1024x4224 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (p : Vec F S512x4224 .bf16) (w : Vec F S1024x4224 .bf16) (h : Vec F S512x1024 .f32) (nw : Vec F S1x1024 .f32)
  (r : Vec F S512x1024 .f32) (acc : Vec F S1x1024 .f32)

theorem first_dh (hc : cond0_0 i) : out0_A_5 c i a1 h1 a2 h2 a3 h3 a4 h4 a5 h5 a6 h6 a7 h7 a8 h8 hc p w h nw r
    = dhBlk p w h nw r := by
  unfold out0_A_5
  rw [View.read_writes_eq_canon _ _ _ (cover0_A_5 c i a1 h1 a2 h2 a3 h3 a4 h4 a5 h5 a6 h6 a7 h7 a8 h8 hc p w h nw r)]
  unfold kernelRun0_A
  dsimp only
  sl_unfold_words
  rw [View.canon_unit_zero off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

theorem first_dhb (hc : cond0_0 i) : out0_A_6 c i a1 h1 a2 h2 a3 h3 a4 h4 a5 h5 a6 h6 a7 h7 a8 h8 hc p w h nw r
    = dhbBlk p w h nw r := by
  unfold out0_A_6
  rw [View.read_writes_eq_canon _ _ _ (cover0_A_6 c i a1 h1 a2 h2 a3 h3 a4 h4 a5 h5 a6 h6 a7 h7 a8 h8 hc p w h nw r)]
  unfold kernelRun0_A
  dsimp only
  sl_unfold_words
  rw [View.canon_unit_zero off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

theorem first_dnw (hc : cond0_0 i) : out0_A_7 c i a1 h1 a2 h2 a3 h3 a4 h4 a5 h5 a6 h6 a7 h7 a8 h8 hc p w h nw r
    = dnwStep k0_pay4 p w h := by
  unfold out0_A_7
  rw [View.read_writes_eq_canon _ _ _ (cover0_A_7 c i a1 h1 a2 h2 a3 h3 a4 h4 a5 h5 a6 h6 a7 h7 a8 h8 hc p w h nw r)]
  unfold kernelRun0_A
  dsimp only
  sl_unfold_words
  rw [View.canon_cons_unit_zero (S := S1x1024) off2, View.readCov_unit_zero (S := S1x1024) _ off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

theorem later_dh (hc : ¬cond0_0 i) : out0_B_5 c i a1 h1 a2 h2 a3 h3 a4 h4 a5 h5 a6 h6 a7 h7 a8 h8 hc p w h nw r acc
    = dhBlk p w h nw r := by
  unfold out0_B_5
  rw [View.read_writes_eq_canon _ _ _ (cover0_B_5 c i a1 h1 a2 h2 a3 h3 a4 h4 a5 h5 a6 h6 a7 h7 a8 h8 hc p w h nw r acc)]
  unfold kernelRun0_B
  dsimp only
  sl_unfold_words
  rw [View.canon_unit_zero off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

theorem later_dhb (hc : ¬cond0_0 i) : out0_B_6 c i a1 h1 a2 h2 a3 h3 a4 h4 a5 h5 a6 h6 a7 h7 a8 h8 hc p w h nw r acc
    = dhbBlk p w h nw r := by
  unfold out0_B_6
  rw [View.read_writes_eq_canon _ _ _ (cover0_B_6 c i a1 h1 a2 h2 a3 h3 a4 h4 a5 h5 a6 h6 a7 h7 a8 h8 hc p w h nw r acc)]
  unfold kernelRun0_B
  dsimp only
  sl_unfold_words
  rw [View.canon_unit_zero off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

theorem later_dnw (hc : ¬cond0_0 i) : out0_B_7 c i a1 h1 a2 h2 a3 h3 a4 h4 a5 h5 a6 h6 a7 h7 a8 h8 hc p w h nw r acc
    = dnwStep acc p w h := by
  unfold out0_B_7
  rw [View.read_writes_eq_canon _ _ _ (cover0_B_7 c i a1 h1 a2 h2 a3 h3 a4 h4 a5 h5 a6 h6 a7 h7 a8 h8 hc p w h nw r acc)]
  unfold kernelRun0_B
  dsimp only
  sl_unfold_words
  rw [View.canon_unit_zero off2]
  simp only [View.readAt_eq_ld, h1.read_unread, h2.read_unread, h3.read_unread, h4.read_unread, h5.read_unread,
    h8.read_unread, View.ld_unit_zero (S := S512x1024) off2, View.ld_unit_zero (S := S512x4224) off2,
    View.ld_unit_zero (S := S1024x4224) off2, View.ld_unit_zero (S := S1x1024) off2, shapeCast_self]

end Cases

end Cert.Kernel6Ideal.Gib

end
-- ==== Proof.GibArray.lean ====
/-
  The backward kernel of a normed product with undivided weights, over all eight blocks of rows: what its three result
  arrays hold when it has run, in terms of the argument arrays.
-/
module

public import proofs.«01_k».proof.Proof.GibBlock
public import proofs.«01_k».proof.Proof.NormSpec
public import Idealize.ShloMosaic.Lib.Pointwise

@[expose] public section

noncomputable section

open Idealize.ShloMosaic Idealize.ShloMosaic.TcCoe Idealize.SL.Sem
open Idealize.ShloMosaic.Pipeline (Dat)

namespace Cert.Kernel6Ideal.Gib

open Cert.Kernel6Ideal Cert.Kernel6Ideal.Gen Cert.Kernel6Ideal.Value Cert.Norm

/-! ## One block at an entry -/

section Block

variable (p : Vec Ideal S512x4224 .bf16) (w : Vec Ideal S1024x4224 .bf16) (h : Vec Ideal S512x1024 .f32)
  (nw : Vec Ideal S1x1024 .f32) (r : Vec Ideal S512x1024 .f32) (acc : Vec Ideal S1x1024 .f32)

/-- The gradient of the normed rows. -/
abbrev dyBlk (a : Fin 512) (l : Fin 1024) : EReal := ∑ i : Fin 4224, p (ix2 a i) * w (ix2 l i)

theorem dh_apply (a : Fin 512) (l : Fin 1024) : dhBlk p w h nw r (ix2 a l)
    = r (ix2 a l) + rowGrad (fun k => h (ix2 a k)) (fun k => dyBlk p w a k * nw (ix2 0 k)) l := by
  unfold dhBlk
  pointwise [k0_pay1, k0_pay11, k0_pay10, k0_pay9, k0_pay7, k0_pay6, k0_pay5]
  simp only [Finset.univ_unique, Finset.sum_singleton]
  rfl

theorem dhb_apply (a : Fin 512) (l : Fin 1024) : dhbBlk p w h nw r (ix2 a l)
    = r (ix2 a l) + rowGrad (fun k => h (ix2 a k)) (fun k => dyBlk p w a k * nw (ix2 0 k)) l := by
  unfold dhbBlk k0_pay2
  exact dh_apply p w h nw r a l

theorem dnw_apply (l : Fin 1024) : dnwStep acc p w h (ix2 0 l)
    = acc (ix2 0 l) + ∑ k : Fin 512, h (ix2 k l) * rsq (fun i => h (ix2 k i)) * dyBlk p w k l := by
  unfold dnwStep
  pointwise [k0_pay3, k0_pay8, k0_pay7, k0_pay6, k0_pay5]
  rfl

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem emb5 (t : Fin cfg0.N) (r : Fin 512) (l : Fin 1024) :
    ((cfg0.win 5).blk t).view.emb (ix2 r l : S512x1024.Idx) = (ix2 (row t r) l : S4096x1024.Idx) := by
  obtain ⟨e0, e1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem mem5 (t : Fin cfg0.N) (r : Fin 512) (l : Fin 1024) :
    (ix2 (row t r) l : S4096x1024.Idx) ∈ ((cfg0.win 5).blk t).view.set := by
  rw [← emb5]; exact ((cfg0.win 5).blk t).view.emb_mem_set _

theorem emb6 (t : Fin cfg0.N) (r : Fin 512) (l : Fin 1024) :
    ((cfg0.win 6).blk t).view.emb (ix2 r l : S512x1024.Idx) = (ix2 (row t r) l : S4096x1024.Idx) := by
  obtain ⟨e0, e1⟩ := idx6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega

theorem mem6 (t : Fin cfg0.N) (r : Fin 512) (l : Fin 1024) :
    (ix2 (row t r) l : S4096x1024.Idx) ∈ ((cfg0.win 6).blk t).view.set := by
  rw [← emb6]; exact ((cfg0.win 6).blk t).view.emb_mem_set _

theorem emb7 (t : Fin cfg0.N) (r : Fin 1) (l : Fin 1024) :
    ((cfg0.win 7).blk t).view.emb (ix2 r l : S1x1024.Idx) = (ix2 r l : S1x1024.Idx) := by
  obtain ⟨e0, e1⟩ := idx7 t
  funext a; apply Fin.ext
  match a with
  | ⟨0, _⟩ => show win0_7.index t (0 : Fin 2) * 1 + 1 * r.val = r.val; omega
  | ⟨1, _⟩ => show win0_7.index t (1 : Fin 2) * 1024 + 1 * l.val = l.val; omega

variable (m : (ℓ : Loc nD τ sig) → Buf (Elt Ideal) ℓ) (ρ : Dev nD → PrngReg)

/-- The five argument arrays. -/
abbrev argP (c : Dev nD) : Vec Ideal S4096x4224 .bf16 := m ((c : Thread nD τ).loc main_arg0)
abbrev argW (c : Dev nD) : Vec Ideal S1024x4224 .bf16 := m ((c : Thread nD τ).loc main_arg1)
abbrev argH (c : Dev nD) : Vec Ideal S4096x1024 .f32 := m ((c : Thread nD τ).loc main_arg2)
abbrev argN (c : Dev nD) : Vec Ideal S1x1024 .f32 := m ((c : Thread nD τ).loc main_arg3)
abbrev argR (c : Dev nD) : Vec Ideal S4096x1024 .f32 := m ((c : Thread nD τ).loc main_arg4)

theorem iblk0_apply (c : Dev nD) (t : Fin cfg0.N) (r : Fin 512) (l : Fin 4224) :
    (iblk m c 0 t : Vec Ideal S512x4224 .bf16) (ix2 r l) = argP m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 4224 + 1 * l.val = l.val; omega

theorem iblk1_apply (c : Dev nD) (t : Fin cfg0.N) (r : Fin 1024) (l : Fin 4224) :
    (iblk m c 1 t : Vec Ideal S1024x4224 .bf16) (ix2 r l) = argW m c (ix2 r l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1024 + 1 * r.val = r.val; omega
  | ⟨1, _⟩ => show win0_1.index t (1 : Fin 2) * 4224 + 1 * l.val = l.val; omega

theorem iblk2_apply (c : Dev nD) (t : Fin cfg0.N) (r : Fin 512) (l : Fin 1024) :
    (iblk m c 2 t : Vec Ideal S512x1024 .f32) (ix2 r l) = argH m c (ix2 (row t r) l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

theorem iblk3_apply (c : Dev nD) (t : Fin cfg0.N) (r : Fin 1) (l : Fin 1024) :
    (iblk m c 3 t : Vec Ideal S1x1024 .f32) (ix2 r l) = argN m c (ix2 r l) := by
  obtain ⟨e0, e1⟩ := idx3 t
  show V m c main_arg3 _ = m (c.tc.loc main_arg3) _
  rw [V_main_arg3]
  congr 1; funext a; apply Fin.ext
  match a with
  | ⟨0, _⟩ => show win0_3.index t (0 : Fin 2) * 1 + 1 * r.val = r.val; omega
  | ⟨1, _⟩ => show win0_3.index t (1 : Fin 2) * 1024 + 1 * l.val = l.val; omega

theorem iblk4_apply (c : Dev nD) (t : Fin cfg0.N) (r : Fin 512) (l : Fin 1024) :
    (iblk m c 4 t : Vec Ideal S512x1024 .f32) (ix2 r l) = argR m c (ix2 (row t r) l) := by
  obtain ⟨e0, e1⟩ := idx4 t
  show V m c main_arg4 _ = m (c.tc.loc main_arg4) _
  rw [V_main_arg4]
  congr 1; funext a; apply Fin.ext
  match a with
  | ⟨0, _⟩ => show win0_4.index t (0 : Fin 2) * 512 + 1 * r.val = 512 * t.val + r.val; omega
  | ⟨1, _⟩ => show win0_4.index t (1 : Fin 2) * 1024 + 1 * l.val = l.val; omega

/-! ## What the result arrays hold -/

/-- Entry `(r, l)` of the gradient of the normed array. -/
def normedGrad (p : Vec Ideal S4096x4224 .bf16) (w : Vec Ideal S1024x4224 .bf16) (r : Fin 4096) (l : Fin 1024) : EReal :=
  ∑ i : Fin 4224, p (ix2 r i) * w (ix2 l i)

/-- The gradient of `h`. -/
def resH (p : Vec Ideal S4096x4224 .bf16) (w : Vec Ideal S1024x4224 .bf16) (h : Vec Ideal S4096x1024 .f32)
    (nw : Vec Ideal S1x1024 .f32) (r : Vec Ideal S4096x1024 .f32) : Vec Ideal S4096x1024 .f32 := fun j =>
  r (ix2 (j 0) (j 1)) + rowGrad (fun k => h (ix2 (j 0) k)) (fun k => normedGrad p w (j 0) k * nw (ix2 0 k)) (j 1)

/-- The same in the narrower format: over the extended reals the same numbers. -/
def resB (p : Vec Ideal S4096x4224 .bf16) (w : Vec Ideal S1024x4224 .bf16) (h : Vec Ideal S4096x1024 .f32)
    (nw : Vec Ideal S1x1024 .f32) (r : Vec Ideal S4096x1024 .f32) : Vec Ideal S4096x1024 .bf16 := fun j => resH p w h nw r j

/-- Row `r`'s part of the gradient of the norm's weights. -/
abbrev rowN (p : Vec Ideal S4096x4224 .bf16) (w : Vec Ideal S1024x4224 .bf16) (h : Vec Ideal S4096x1024 .f32) (l : Fin 1024)
    (r : Fin 4096) : EReal :=
  h (ix2 r l) * rsq (fun k => h (ix2 r k)) * normedGrad p w r l

/-- The gradient of the norm's weights. -/
def resN (p : Vec Ideal S4096x4224 .bf16) (w : Vec Ideal S1024x4224 .bf16) (h : Vec Ideal S4096x1024 .f32) :
    Vec Ideal S1x1024 .f32 := fun j => ∑ r : Fin 4096, rowN p w h (j 1) r

theorem dyBlk_at (c : Dev nD) (t : Fin cfg0.N) (r : Fin 512) (l : Fin 1024) :
    dyBlk (iblk m c 0 t) (iblk m c 1 t) r l = normedGrad (argP m c) (argW m c) (row t r) l := by
  unfold dyBlk
  simp only [iblk0_apply, iblk1_apply]
  rfl

theorem flushed5_eq (c : Dev nD) (t : Fin cfg0.N) : (dats m 0 c).flushed 5 t
    = ((cfg0.win 5).blk t).view.read (Elt Ideal) (resH (argP m c) (argW m c) (argH m c) (argN m c) (argR m c)) := by
  have key : (dats m 0 c).flushed 5 t = (cfg0.win 5).cut (grid0.coords t)
      (dhBlk (iblk m c 0 t) (iblk m c 1 t) (iblk m c 2 t) (iblk m c 3 t) (iblk m c 4 t)) := by
    by_cases h : t.val % 8 = 0
    · rw [flushed5_A m c t h, first_dh]
    · rw [flushed5_B m c t h, later_dh]
  rw [key]
  funext j
  obtain ⟨r, l, rfl⟩ : ∃ (r : Fin 512) (l : Fin 1024), j = (ix2 r l : S512x1024.Idx) := ⟨j 0, j 1, eq_ix2 j⟩
  show dhBlk (iblk m c 0 t) (iblk m c 1 t) (iblk m c 2 t) (iblk m c 3 t) (iblk m c 4 t) (ix2 r l)
    = resH _ _ _ _ _ (((cfg0.win 5).blk t).view.emb (ix2 r l : S512x1024.Idx))
  rw [emb5, dh_apply]
  simp only [dyBlk_at, iblk2_apply, iblk3_apply, iblk4_apply]
  rfl

theorem flushed6_eq (c : Dev nD) (t : Fin cfg0.N) : (dats m 0 c).flushed 6 t
    = ((cfg0.win 6).blk t).view.read (Elt Ideal) (resB (argP m c) (argW m c) (argH m c) (argN m c) (argR m c)) := by
  have key : (dats m 0 c).flushed 6 t = (cfg0.win 6).cut (grid0.coords t)
      (dhbBlk (iblk m c 0 t) (iblk m c 1 t) (iblk m c 2 t) (iblk m c 3 t) (iblk m c 4 t)) := by
    by_cases h : t.val % 8 = 0
    · rw [flushed6_A m c t h, first_dhb]
    · rw [flushed6_B m c t h, later_dhb]
  rw [key]
  funext j
  obtain ⟨r, l, rfl⟩ : ∃ (r : Fin 512) (l : Fin 1024), j = (ix2 r l : S512x1024.Idx) := ⟨j 0, j 1, eq_ix2 j⟩
  show dhbBlk (iblk m c 0 t) (iblk m c 1 t) (iblk m c 2 t) (iblk m c 3 t) (iblk m c 4 t) (ix2 r l)
    = resB _ _ _ _ _ (((cfg0.win 6).blk t).view.emb (ix2 r l : S512x1024.Idx))
  rw [emb6, dhb_apply]
  simp only [dyBlk_at, iblk2_apply, iblk3_apply, iblk4_apply]
  rfl

theorem final5 (c : Dev nD) : (dats m 0 c).arrAt 5 cfg0.N = resH (argP m c) (argW m c) (argH m c) (argN m c) (argR m c) :=
  (dats m 0 c).arrAt_eq_of_cover 5 _ (fun t _ => flushed5_eq m c t) fun i => by
    obtain ⟨t, r, h⟩ := row_surj (i 0)
    refine ⟨t, flush0_5 t, ?_⟩
    have hi : i = (ix2 (row t r) (i 1) : S4096x1024.Idx) := by rw [h]; exact eq_ix2 i
    rw [hi]
    exact mem5 t r (i 1)

theorem final6 (c : Dev nD) : (dats m 0 c).arrAt 6 cfg0.N = resB (argP m c) (argW m c) (argH m c) (argN m c) (argR m c) :=
  (dats m 0 c).arrAt_eq_of_cover 6 _ (fun t _ => flushed6_eq m c t) fun i => by
    obtain ⟨t, r, h⟩ := row_surj (i 0)
    refine ⟨t, flush0_6 t, ?_⟩
    have hi : i = (ix2 (row t r) (i 1) : S4096x1024.Idx) := by rw [h]; exact eq_ix2 i
    rw [hi]
    exact mem6 t r (i 1)

/-- The running sum for the norm weights' gradient after block `n`: the first `512 * (n + 1)` rows' parts. -/
theorem sum_after (c : Dev nD) : ∀ (n : ℕ) (h : n < cfg0.N) (l : Fin 1024), (outsAt0 m c n h).2.2 (ix2 0 l)
    = ∑ t : Fin (n + 1), ∑ r : Fin 512, rowN (argP m c) (argW m c) (argH m c) l (row ⟨t.val, by omega⟩ r)
  | 0, h, l => by
    rw [show outsAt0 m c 0 h = _ from outsAt0_A m c ⟨0, h⟩ rfl]
    dsimp only
    rw [first_dnw, dnw_apply, show (k0_pay4 : FVec Ideal S1x1024 .f32) (ix2 0 l) = (0 : EReal) from by pointwise [k0_pay4],
      zero_add, Fin.sum_univ_one]
    simp only [dyBlk_at, iblk2_apply]
    rfl
  | n + 1, h, l => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [later_dnw, dnw_apply, Fin.sum_univ_castSucc (n := n + 1)]
    refine congrArg₂ (· + ·) (sum_after c n (Nat.lt_of_succ_lt h) l) ?_
    simp only [dyBlk_at, iblk2_apply]
    rfl

theorem flushed7_eq (c : Dev nD) (t : Fin cfg0.N) (hf : (cfg0.win 7).flush t = true) : (dats m 0 c).flushed 7 t
    = ((cfg0.win 7).blk t).view.read (Elt Ideal) (resN (argP m c) (argW m c) (argH m c)) := by
  have hN : cfg0.N = 8 := N_0
  have h7 : t.val = 7 := by have := (flush0_7 t).mp hf; have := t.isLt; omega
  rw [flushed7]
  funext j
  obtain ⟨r, l, rfl⟩ : ∃ (r : Fin 1) (l : Fin 1024), j = (ix2 r l : S1x1024.Idx) := ⟨j 0, j 1, eq_ix2 j⟩
  obtain rfl : r = 0 := Subsingleton.elim _ _
  show (outsAt0 m c t.val t.isLt).2.2 (ix2 0 l) = resN _ _ _ (((cfg0.win 7).blk t).view.emb (ix2 0 l : S1x1024.Idx))
  rw [emb7, sum_after]
  obtain ⟨t, ht⟩ := t
  obtain rfl : t = 7 := h7
  unfold resN
  rw [Fin.sum_univ_tiles 8 512 rfl]
  refine Finset.sum_congr rfl fun a _ => Finset.sum_congr rfl fun b _ => congrArg (rowN _ _ _ l) (Fin.ext ?_)
  exact congrArg (· + b.val) (Nat.mul_comm 512 a.val)

theorem final7 (c : Dev nD) : (dats m 0 c).arrAt 7 cfg0.N = resN (argP m c) (argW m c) (argH m c) :=
  (dats m 0 c).arrAt_eq_of_cover 7 _ (flushed7_eq m c) fun i => by
    refine ⟨t0_7, (flush0_7 t0_7).mpr rfl, ?_⟩
    have hi : i = (ix2 (i 0) (i 1) : S1x1024.Idx) := eq_ix2 i
    rw [hi, ← emb7 t0_7 (i 0) (i 1)]
    exact ((cfg0.win 7).blk t0_7).view.emb_mem_set _

/-- The kernel's run, with its three result arrays at their values. -/
theorem run : θ_run defs (onTc (τ := τ) (main (F := Ideal))) ⟨m, fun _ => 0, ρ⟩ fun r => ∀ c : Dev nD,
      r.2.mem ((c : Thread nD τ).loc main_v0_0) = resH (argP m c) (argW m c) (argH m c) (argN m c) (argR m c)
      ∧ r.2.mem ((c : Thread nD τ).loc main_v0_1) = resB (argP m c) (argW m c) (argH m c) (argN m c) (argR m c)
      ∧ r.2.mem ((c : Thread nD τ).loc main_v0_2) = resN (argP m c) (argW m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2⟩) (run_blocks m ρ)

end Cert.Kernel6Ideal.Gib

end
-- ==== Proof.GibClaim.lean ====
/-
  The backward kernel of a normed product with undivided weights and its reference, the operations that `jax.vjp` wrote,
  end with the same arrays, whatever the arguments hold.
-/
module

public import proofs.«01_k».proof.Defs
public import proofs.«01_k».proof.Proof.GibArray
public import proofs.«01_k».proof.Proof.Gen.Reference6Ideal.Read
public import Idealize.ShloMosaic.Lib.Claim

@[expose] public section

noncomputable section

open Idealize.ShloMosaic Idealize.ShloMosaic.TcCoe Idealize.SL.Sem

namespace Cert.Gib

section Reference

open Cert.Reference6Ideal Cert.Reference6Ideal.Read Cert.Norm Cert.Kernel6Ideal.Gib

variable (p : Vec Ideal S4096x4224 .bf16) (w : Vec Ideal S1024x4224 .bf16) (h : Vec Ideal S4096x1024 .f32)
  (nw : Vec Ideal S1x1024 .f32) (r : Vec Ideal S4096x1024 .f32)

theorem val41_apply (a : Fin 4096) (l : Fin 1024) : val_main_v41 (F := Ideal) p w h nw r (ix2 a l)
    = r (ix2 a l) + rowGrad (fun k => h (ix2 a k)) (fun k => normedGrad p w a k * nw (ix2 0 k)) l := by
  pointwise [
    val_main_v0, val_main_v1, val_main_cst, val_main_v2, val_main_v3, val_main_cst_0, val_main_v4, val_main_v5,
    val_main_cst_1, val_main_v6, val_main_v7, val_main_v8, val_main_v9, val_main_cst_2, val_main_v10,
    val_main_v11, val_main_v12, val_main_v13, val_main_v14, val_main_v15, val_main_v16, val_main_v17,
    val_main_v18, val_main_v19, val_main_v20, val_main_v21, val_main_cst_3, val_main_v22, val_main_v23,
    val_main_v24, val_main_v25, val_main_cst_4, val_main_v26, val_main_v27, val_main_cst_5, val_main_v28,
    val_main_v29, val_main_v30, val_main_v31, val_main_v32, val_main_v33, val_main_cst_6, val_main_v34,
    val_main_v35, val_main_cst_7, val_main_v36, val_main_v37, val_main_v38, val_main_v39, val_main_v40,
    val_main_v41, val_main_v42, val_main_v43]
  simp only [Finset.univ_unique, Finset.sum_singleton]
  unfold rowGrad
  rw [← add_assoc, ← add_assoc]
  rfl

theorem val43_apply (a : Fin 1) (l : Fin 1024) : val_main_v43 (F := Ideal) p w h (ix2 a l)
    = ∑ k : Fin 4096, rowN p w h l k := by
  pointwise [
    val_main_v0, val_main_v1, val_main_cst, val_main_v2, val_main_v3, val_main_cst_0, val_main_v4, val_main_v5,
    val_main_cst_1, val_main_v6, val_main_v7, val_main_v8, val_main_v9, val_main_cst_2, val_main_v10,
    val_main_v11, val_main_v12, val_main_v13, val_main_v14, val_main_v15, val_main_v16, val_main_v17,
    val_main_v18, val_main_v19, val_main_v20, val_main_v21, val_main_cst_3, val_main_v22, val_main_v23,
    val_main_v24, val_main_v25, val_main_cst_4, val_main_v26, val_main_v27, val_main_cst_5, val_main_v28,
    val_main_v29, val_main_v30, val_main_v31, val_main_v32, val_main_v33, val_main_cst_6, val_main_v34,
    val_main_v35, val_main_cst_7, val_main_v36, val_main_v37, val_main_v38, val_main_v39, val_main_v40,
    val_main_v41, val_main_v42, val_main_v43]
  simp only [Finset.univ_unique, Finset.sum_singleton]
  rfl

end Reference

theorem algebraic : Cert.algebraic_Kernel6Ideal_Reference6Ideal (hKernel6Ideal := Cert.Kernel6Ideal.Gen.facts)
    (hReference6Ideal := Cert.Reference6Ideal.Gen.facts) := by
  intro m g m' g' _ hm
  refine ⟨fun c => Kernel6Ideal.Gib.resH _ _ _ _ _, fun c => Kernel6Ideal.Gib.resB _ _ _ _ _, fun c => Kernel6Ideal.Gib.resN _ _ _,
    Kernel6Ideal.Gib.run m g, (θ_run _ _ _).mono (fun r h c => ?_) (Reference6Ideal.Value.run m' g')⟩
  obtain ⟨e0, e1, e2, e3, e4⟩ := hm c
  refine ⟨(h c).1.trans ?_, (h c).2.1.trans ?_, (h c).2.2.1.trans ?_, (h c).2.2.2⟩
  · rw [Reference6Ideal.Read.val_main_v41_eq, e0, e1, e2, e3, e4]
    funext j
    obtain ⟨a, b, rfl⟩ : ∃ (a : Fin 4096) (b : Fin 1024), j = ix2 a b := ⟨j 0, j 1, eq_ix2 j⟩
    exact val41_apply _ _ _ _ _ a b
  · rw [Reference6Ideal.Read.val_main_v42_eq, e0, e1, e2, e3, e4]
    funext j
    obtain ⟨a, b, rfl⟩ : ∃ (a : Fin 4096) (b : Fin 1024), j = ix2 a b := ⟨j 0, j 1, eq_ix2 j⟩
    exact val41_apply _ _ _ _ _ a b
  · rw [e0, e1, e2]
    funext j
    obtain ⟨a, b, rfl⟩ : ∃ (a : Fin 1) (b : Fin 1024), j = ix2 a b := ⟨j 0, j 1, eq_ix2 j⟩
    exact (congrFun (Reference6Ideal.Read.val_main_v43_eq (F := Ideal) _ _ _) _).trans (val43_apply _ _ _ a b)

end Cert.Gib

end
-- ==== Proof.MlpUp.lean ====
/-
  The first half of the MLP: the norm, the product with the four slots of the weights, and the ReLU. What the kernel's eight
  blocks leave, what the reference computes, and that both end with the same two arrays.
-/
module

public import proofs.«01_k».proof.Defs
public import proofs.«01_k».proof.Proof.NormSpec
public import proofs.«01_k».proof.Proof.Gen.Kernel7Ideal.Value
public import proofs.«01_k».proof.Proof.Gen.Reference7Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel7Ideal.Mlp

open Cert.Kernel7Ideal Cert.Kernel7Ideal.Gen Cert.Kernel7Ideal.Value Cert.Norm

theorem off2 : (![0, 0] : Fin 2 → Nat) = fun _ => 0 := by funext a; fin_cases a <;> rfl
theorem off3 : (![0, 0, 0] : Fin 3 → Nat) = fun _ => 0 := by funext a; fin_cases a <;> rfl

/-! ## One block at an entry -/

section Block

variable (h : Vec Ideal S512x1024 .f32) (nw : Vec Ideal S1x1024 .f32) (w w0 w1 w2 w3 : Vec Ideal S1x1024x1024 .bf16)

/-- An entry of the normed rows. -/
abbrev normed (a : Fin 512) (k : Fin 1024) : EReal := h (ix2 a k) * rsq (fun i => h (ix2 a i)) * nw (ix2 0 k)

theorem pay3_apply (a : Fin 512) (k : Fin 1024) : k0_pay3 h nw (ix2 a k) = normed h nw a k := by
  pointwise [k0_pay3]
  rfl

/-- One quarter of the columns: the normed rows times one slot of the weights, and the ReLU. -/
theorem pay1_apply (y : FVec Ideal S512x1024 .bf16) (a : Fin 512) (l : Fin 1024) : k0_pay1 y w (ix2 a l)
    = max (∑ k : Fin 1024, y (ix2 a k) * w (ix3 0 k l)) 0 := by
  pointwise [k0_pay1]

theorem out6_apply (a : Fin 512) (k : Fin 1024) : out0_6 h nw w0 w1 w2 w3 (ix2 a k) = normed h nw a k := by
  unfold out0_6
  rw [View.canon_unit_zero off2, View.ld_unit_zero (S := S512x1024) off2, View.ld_unit_zero (S := S1x1024) off2]
  exact pay3_apply h nw a k

/-- Column `l`'s slot among the four. -/
abbrev slot (l : Fin 4096) : Vec Ideal S1x1024x1024 .bf16 :=
  if l.val < 1024 then w0 else if l.val < 2048 then w1 else if l.val < 3072 then w2 else w3

/-- An entry of the ReLU's block. -/
abbrev act (a : Fin 512) (l : Fin 4096) : EReal :=
  max (∑ k : Fin 1024, normed h nw a k * slot w0 w1 w2 w3 l (ix3 0 k ⟨l.val % 1024, by omega⟩)) 0

/-- The ReLU's block. -/
abbrev actV : Vec Ideal S512x4096 .bf16 := fun j => act h nw w0 w1 w2 w3 (j 0) (j 1)

/-- The quarter that starts at column `o`, whichever slot `w` it is. -/
theorem quarter (o : ℕ) (ho : o % 1024 = 0) (inb : ∀ a, (![0, o] : Fin 2 → Nat) a + S512x1024.size a ≤ S512x4096.size a)
    (hw : ∀ (l : Fin 1024) (hl : o + l.val < 4096), slot w0 w1 w2 w3 ⟨o + l.val, hl⟩ = w) (x : S512x1024.Idx) :
    k0_pay1 (k0_pay3 h nw) w x
      = act h nw w0 w1 w2 w3 ((Rect.unit (s := S512x4096) ![0, o] S512x1024.size inb).emb x 0)
          ((Rect.unit (s := S512x4096) ![0, o] S512x1024.size inb).emb x 1) := by
  obtain ⟨a, l, rfl⟩ : ∃ (a : Fin 512) (l : Fin 1024), x = (ix2 a l : S512x1024.Idx) := ⟨x 0, x 1, eq_ix2 x⟩
  have hl : o + l.val < 4096 := by have : o + 1024 ≤ 4096 := inb 1; omega
  have e0 : (Rect.unit (s := S512x4096) ![0, o] S512x1024.size inb).emb (ix2 a l : S512x1024.Idx) 0 = a :=
    Fin.ext (by show 0 + 1 * a.val = a.val; omega)
  have e1 : (Rect.unit (s := S512x4096) ![0, o] S512x1024.size inb).emb (ix2 a l : S512x1024.Idx) 1 = (⟨o + l.val, hl⟩ : Fin 4096) :=
    Fin.ext (by show o + 1 * l.val = o + l.val; omega)
  have e2 : (⟨(o + l.val) % 1024, by omega⟩ : Fin 1024) = l := Fin.ext (by show (o + l.val) % 1024 = l.val; omega)
  rw [e0, e1, pay1_apply]
  unfold act
  rw [hw l hl, e2]
  simp only [pay3_apply]

theorem out7_apply (a : Fin 512) (l : Fin 4096) : out0_7 h nw w0 w1 w2 w3 (ix2 a l) = act h nw w0 w1 w2 w3 a l := by
  unfold out0_7 k0_pay6
  rw [View.ld_unit_zero (S := S512x1024) off2, View.ld_unit_zero (S := S1x1024) off2]
  simp only [View.ld_unit_zero (S := S1x1024x1024) off3]
  refine View.canon_apply_of_pieces (actV h nw w0 w1 w2 w3) _ ?_ _ (cover0_7 _ _ _ _ _)
  intro pc hpc
  rcases List.mem_cons.mp hpc with rfl | hpc
  · exact quarter h nw w3 w0 w1 w2 w3 3072 rfl (by intro a; fin_cases a <;> decide) (fun l hl => by
      unfold slot; rw [if_neg (by dsimp only; omega), if_neg (by dsimp only; omega), if_neg (by dsimp only; omega)])
  rcases List.mem_cons.mp hpc with rfl | hpc
  · exact quarter h nw w2 w0 w1 w2 w3 2048 rfl (by intro a; fin_cases a <;> decide) (fun l hl => by
      unfold slot; rw [if_neg (by dsimp only; omega), if_neg (by dsimp only; omega), if_pos (by dsimp only; omega)])
  rcases List.mem_cons.mp hpc with rfl | hpc
  · exact quarter h nw w1 w0 w1 w2 w3 1024 rfl (by intro a; fin_cases a <;> decide) (fun l hl => by
      unfold slot; rw [if_neg (by dsimp only; omega), if_pos (by dsimp only; omega)])
  rcases List.mem_cons.mp hpc with rfl | hpc
  · exact quarter h nw w0 w0 w1 w2 w3 0 rfl (by intro a; fin_cases a <;> decide) (fun l hl => by
      unfold slot; rw [if_pos (by dsimp only; omega)])
  nomatch hpc

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 2 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 3 ∧ win0_5.index t (1 : Fin 3) = 0 ∧ win0_5.index t (2 : Fin 3) = 0 :=
  (by decide +kernel : ∀ t : Fin grid0.N, _)

theorem emb6 (t : Fin cfg0.N) (r : Fin 512) (l : Fin 1024) :
    ((cfg0.win 6).blk t).view.emb (ix2 r l : S512x1024.Idx) = (ix2 (row t r) l : S4096x1024.Idx) := by
  obtain ⟨e0, e1⟩ := idx6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega

theorem mem6 (t : Fin cfg0.N) (r : Fin 512) (l : Fin 1024) :
    (ix2 (row t r) l : S4096x1024.Idx) ∈ ((cfg0.win 6).blk t).view.set := by
  rw [← emb6]; exact ((cfg0.win 6).blk t).view.emb_mem_set _

theorem emb7 (t : Fin cfg0.N) (r : Fin 512) (l : Fin 4096) :
    ((cfg0.win 7).blk t).view.emb (ix2 r l : S512x4096.Idx) = (ix2 (row t r) l : S4096x4096.Idx) := by
  obtain ⟨e0, e1⟩ := idx7 t
  funext a; apply Fin.ext
  match a with
  | ⟨0, _⟩ => show win0_7.index t (0 : Fin 2) * 512 + 1 * r.val = 512 * t.val + r.val; omega
  | ⟨1, _⟩ => show win0_7.index t (1 : Fin 2) * 4096 + 1 * l.val = l.val; omega

theorem mem7 (t : Fin cfg0.N) (r : Fin 512) (l : Fin 4096) :
    (ix2 (row t r) l : S4096x4096.Idx) ∈ ((cfg0.win 7).blk t).view.set := by
  rw [← emb7]; exact ((cfg0.win 7).blk t).view.emb_mem_set _

variable (m : (ℓ : Loc nD τ sig) → Buf (Elt Ideal) ℓ) (ρ : Dev nD → PrngReg)

abbrev argH (c : Dev nD) : Vec Ideal S4096x1024 .f32 := m ((c : Thread nD τ).loc main_arg0)
abbrev argN (c : Dev nD) : Vec Ideal S1x1024 .f32 := m ((c : Thread nD τ).loc main_arg1)
abbrev argW (c : Dev nD) : Vec Ideal S4x1024x1024 .bf16 := m ((c : Thread nD τ).loc main_arg2)

theorem iblk0_apply (c : Dev nD) (t : Fin cfg0.N) (r : Fin 512) (l : Fin 1024) :
    (iblk m c 0 t : Vec Ideal S512x1024 .f32) (ix2 r l) = argH m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (r : Fin 1) (l : Fin 1024) :
    (iblk m c 1 t : Vec Ideal S1x1024 .f32) (ix2 r l) = argN m c (ix2 r l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1 + 1 * r.val = r.val; omega
  | ⟨1, _⟩ => show win0_1.index t (1 : Fin 2) * 1024 + 1 * l.val = l.val; omega

theorem iblk2_apply (c : Dev nD) (t : Fin cfg0.N) (l k : Fin 1024) :
    (iblk m c 2 t : Vec Ideal S1x1024x1024 .bf16) (ix3 0 l k) = argW m c (ix3 0 l k) := by
  obtain ⟨e0, e1, e2⟩ := idx2 t
  show V m c main_arg2 _ = m (c.tc.loc main_arg2) _
  rw [V_main_arg2]
  congr 1; funext a; apply Fin.ext
  match a with
  | ⟨0, _⟩ => show win0_2.index t (0 : Fin 3) * 1 + 1 * 0 = 0; omega
  | ⟨1, _⟩ => show win0_2.index t (1 : Fin 3) * 1024 + 1 * l.val = l.val; omega
  | ⟨2, _⟩ => show win0_2.index t (2 : Fin 3) * 1024 + 1 * k.val = k.val; omega

theorem iblk3_apply (c : Dev nD) (t : Fin cfg0.N) (l k : Fin 1024) :
    (iblk m c 3 t : Vec Ideal S1x1024x1024 .bf16) (ix3 0 l k) = argW m c (ix3 1 l k) := by
  obtain ⟨e0, e1, e2⟩ := idx3 t
  show V m c main_arg2 _ = m (c.tc.loc main_arg2) _
  rw [V_main_arg2]
  congr 1; funext a; apply Fin.ext
  match a with
  | ⟨0, _⟩ => show win0_3.index t (0 : Fin 3) * 1 + 1 * 0 = 1; omega
  | ⟨1, _⟩ => show win0_3.index t (1 : Fin 3) * 1024 + 1 * l.val = l.val; omega
  | ⟨2, _⟩ => show win0_3.index t (2 : Fin 3) * 1024 + 1 * k.val = k.val; omega

theorem iblk4_apply (c : Dev nD) (t : Fin cfg0.N) (l k : Fin 1024) :
    (iblk m c 4 t : Vec Ideal S1x1024x1024 .bf16) (ix3 0 l k) = argW m c (ix3 2 l k) := by
  obtain ⟨e0, e1, e2⟩ := idx4 t
  show V m c main_arg2 _ = m (c.tc.loc main_arg2) _
  rw [V_main_arg2]
  congr 1; funext a; apply Fin.ext
  match a with
  | ⟨0, _⟩ => show win0_4.index t (0 : Fin 3) * 1 + 1 * 0 = 2; omega
  | ⟨1, _⟩ => show win0_4.index t (1 : Fin 3) * 1024 + 1 * l.val = l.val; omega
  | ⟨2, _⟩ => show win0_4.index t (2 : Fin 3) * 1024 + 1 * k.val = k.val; omega

theorem iblk5_apply (c : Dev nD) (t : Fin cfg0.N) (l k : Fin 1024) :
    (iblk m c 5 t : Vec Ideal S1x1024x1024 .bf16) (ix3 0 l k) = argW m c (ix3 3 l k) := by
  obtain ⟨e0, e1, e2⟩ := idx5 t
  show V m c main_arg2 _ = m (c.tc.loc main_arg2) _
  rw [V_main_arg2]
  congr 1; funext a; apply Fin.ext
  match a with
  | ⟨0, _⟩ => show win0_5.index t (0 : Fin 3) * 1 + 1 * 0 = 3; omega
  | ⟨1, _⟩ => show win0_5.index t (1 : Fin 3) * 1024 + 1 * l.val = l.val; omega
  | ⟨2, _⟩ => show win0_5.index t (2 : Fin 3) * 1024 + 1 * k.val = k.val; omega

/-! ## What the result arrays hold -/

/-- An entry of the normed array. -/
abbrev norm (h : Vec Ideal S4096x1024 .f32) (nw : Vec Ideal S1x1024 .f32) (r : Fin 4096) (k : Fin 1024) : EReal :=
  h (ix2 r k) * rsq (fun i => h (ix2 r i)) * nw (ix2 0 k)

/-- The normed array. -/
def resY (h : Vec Ideal S4096x1024 .f32) (nw : Vec Ideal S1x1024 .f32) : Vec Ideal S4096x1024 .bf16 := fun j => norm h nw (j 0) (j 1)

/-- The ReLU of its product with the weights: column `l` is column `l % 1024` of slot `l / 1024`. -/
def resR (h : Vec Ideal S4096x1024 .f32) (nw : Vec Ideal S1x1024 .f32) (w : Vec Ideal S4x1024x1024 .bf16) :
    Vec Ideal S4096x4096 .bf16 := fun j =>
  let l : Fin 4096 := j 1
  max (∑ k : Fin 1024, norm h nw (j 0) k * w (ix3 ⟨l.val / 1024, by omega⟩ k ⟨l.val % 1024, by omega⟩)) 0

/-- The slot that a column's entry is read from, in the array of the four slots. -/
theorem slot_apply (c : Dev nD) (t : Fin cfg0.N) (l : Fin 4096) (k : Fin 1024) :
    slot (iblk m c 2 t) (iblk m c 3 t) (iblk m c 4 t) (iblk m c 5 t) l (ix3 0 k ⟨l.val % 1024, by omega⟩)
      = argW m c (ix3 ⟨l.val / 1024, by omega⟩ k ⟨l.val % 1024, by omega⟩) := by
  have e : ∀ (s : Fin 4), l.val / 1024 = s.val → (⟨l.val / 1024, by omega⟩ : Fin 4) = s := fun s hs => Fin.ext hs
  have hl := l.isLt
  unfold slot
  split
  · rw [iblk2_apply, e 0 (by show l.val / 1024 = 0; omega)]
  split
  · rw [iblk3_apply, e 1 (by show l.val / 1024 = 1; omega)]
  split
  · rw [iblk4_apply, e 2 (by show l.val / 1024 = 2; omega)]
  · rw [iblk5_apply, e 3 (by show l.val / 1024 = 3; omega)]

theorem flushed6_eq (c : Dev nD) (t : Fin cfg0.N) : (dats m 0 c).flushed 6 t
    = ((cfg0.win 6).blk t).view.read (Elt Ideal) (resY (argH m c) (argN m c)) := by
  rw [flushed6]
  funext j
  obtain ⟨r, l, rfl⟩ : ∃ (r : Fin 512) (l : Fin 1024), j = (ix2 r l : S512x1024.Idx) := ⟨j 0, j 1, eq_ix2 j⟩
  show out0_6 (iblk m c 0 t) (iblk m c 1 t) (iblk m c 2 t) (iblk m c 3 t) (iblk m c 4 t) (iblk m c 5 t) (ix2 r l)
    = resY _ _ (((cfg0.win 6).blk t).view.emb (ix2 r l : S512x1024.Idx))
  rw [emb6, out6_apply]
  unfold normed
  simp only [iblk0_apply, iblk1_apply]
  rfl

theorem flushed7_eq (c : Dev nD) (t : Fin cfg0.N) : (dats m 0 c).flushed 7 t
    = ((cfg0.win 7).blk t).view.read (Elt Ideal) (resR (argH m c) (argN m c) (argW m c)) := by
  rw [flushed7]
  funext j
  obtain ⟨r, l, rfl⟩ : ∃ (r : Fin 512) (l : Fin 4096), j = (ix2 r l : S512x4096.Idx) := ⟨j 0, j 1, eq_ix2 j⟩
  show out0_7 (iblk m c 0 t) (iblk m c 1 t) (iblk m c 2 t) (iblk m c 3 t) (iblk m c 4 t) (iblk m c 5 t) (ix2 r l)
    = resR _ _ _ (((cfg0.win 7).blk t).view.emb (ix2 r l : S512x4096.Idx))
  rw [emb7, out7_apply]
  unfold act normed
  simp only [slot_apply, iblk0_apply, iblk1_apply]
  rfl

theorem final6 (c : Dev nD) : (dats m 0 c).arrAt 6 cfg0.N = resY (argH m c) (argN m c) :=
  (dats m 0 c).arrAt_eq_of_cover 6 _ (fun t _ => flushed6_eq m c t) fun i => by
    obtain ⟨t, r, h⟩ := row_surj (i 0)
    refine ⟨t, flush0_6 t, ?_⟩
    have hi : i = (ix2 (row t r) (i 1) : S4096x1024.Idx) := by rw [h]; exact eq_ix2 i
    rw [hi]
    exact mem6 t r (i 1)

theorem final7 (c : Dev nD) : (dats m 0 c).arrAt 7 cfg0.N = resR (argH m c) (argN m c) (argW m c) :=
  (dats m 0 c).arrAt_eq_of_cover 7 _ (fun t _ => flushed7_eq m c t) fun i => by
    obtain ⟨t, r, h⟩ := row_surj (i 0)
    refine ⟨t, flush0_7 t, ?_⟩
    have hi : i = (ix2 (row t r) (i 1) : S4096x4096.Idx) := by rw [h]; exact eq_ix2 i
    rw [hi]
    exact mem7 t r (i 1)

/-- The kernel's run, with its two result arrays at their values. -/
theorem run : θ_run defs (onTc (τ := τ) (main (F := Ideal))) ⟨m, fun _ => 0, ρ⟩ fun r => ∀ c : Dev nD,
      r.2.mem ((c : Thread nD τ).loc main_v0_0) = resY (argH m c) (argN m c)
      ∧ r.2.mem ((c : Thread nD τ).loc main_v0_1) = resR (argH m c) (argN m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final6 m c), (h c).2.1.trans (final7 m c), (h c).2.2⟩) (run_blocks m ρ)

end Cert.Kernel7Ideal.Mlp

namespace Cert.MlpUp

section Reference

open Cert.Reference7Ideal Cert.Reference7Ideal.Read Cert.Norm Cert.Kernel7Ideal.Mlp

variable (h : Vec Ideal S4096x1024 .f32) (nw : Vec Ideal S1x1024 .f32) (w : Vec Ideal S4x1024x1024 .bf16)

theorem val17_apply (j : S4096x1024.Idx) : val_main_v17 (F := Ideal) h nw j = resY h nw j := by
  obtain ⟨a, l, rfl⟩ : ∃ (a : Fin 4096) (l : Fin 1024), j = ix2 a l := ⟨j 0, j 1, eq_ix2 j⟩
  pointwise [
    val_main_v0, val_main_v1, val_main_v2, val_main_v3, val_main_v4, val_main_cst, val_main_v5, val_main_v6,
    val_main_cst_0, val_main_v7, val_main_v8, val_main_cst_1, val_main_v9, val_main_v10, val_main_v11,
    val_main_v12, val_main_v13, val_main_v14, val_main_v15, val_main_v16, val_main_v17, val_main_v18,
    val_main_call0_cst, val_main_call0_v0, val_main_v19, val_main_v20]
  rfl

theorem val20_apply (j : S4096x4096.Idx) : val_main_v20 (F := Ideal) h nw w j = resR h nw w j := by
  obtain ⟨a, l, rfl⟩ : ∃ (a l : Fin 4096), j = ix2 a l := ⟨j 0, j 1, eq_ix2 j⟩
  pointwise [
    val_main_v0, val_main_v1, val_main_v2, val_main_v3, val_main_v4, val_main_cst, val_main_v5, val_main_v6,
    val_main_cst_0, val_main_v7, val_main_v8, val_main_cst_1, val_main_v9, val_main_v10, val_main_v11,
    val_main_v12, val_main_v13, val_main_v14, val_main_v15, val_main_v16, val_main_v17, val_main_v18,
    val_main_call0_cst, val_main_call0_v0, val_main_v19, val_main_v20]
  rfl

end Reference

theorem algebraic : Cert.algebraic_Kernel7Ideal_Reference7Ideal (hKernel7Ideal := Cert.Kernel7Ideal.Gen.facts)
    (hReference7Ideal := Cert.Reference7Ideal.Gen.facts) := by
  intro m g m' g' _ hm
  refine ⟨fun c => Kernel7Ideal.Mlp.resY _ _, fun c => Kernel7Ideal.Mlp.resR _ _ _, Kernel7Ideal.Mlp.run m g,
    (θ_run _ _ _).mono (fun r h c => ?_) (Reference7Ideal.Value.run m' g')⟩
  obtain ⟨e0, e1, e2⟩ := hm c
  refine ⟨(h c).1.trans ?_, (h c).2.1.trans ?_, (h c).2.2⟩
  · rw [e0, e1]
    exact (Reference7Ideal.Read.val_main_v17_eq (F := Ideal) _ _).trans (funext fun j => val17_apply _ _ j)
  · rw [e0, e1, e2]
    exact (Reference7Ideal.Read.val_main_v20_eq (F := Ideal) _ _ _).trans (funext fun j => val20_apply _ _ _ j)

end Cert.MlpUp

end
-- ==== Proof.MlpDown.lean ====
/-
  The MLP's second product: the kernel's eight blocks, the reference's one product onto the residual stream, and that both end
  with the same array.
-/
module

public import proofs.«01_k».proof.Defs
public import proofs.«01_k».proof.Proof.Gen.Kernel8Ideal.Value
public import proofs.«01_k».proof.Proof.Gen.Reference8Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel8Ideal.Mm

open Cert.Kernel8Ideal Cert.Kernel8Ideal.Gen Cert.Kernel8Ideal.Value

theorem off2 : (![0, 0] : Fin 2 → Nat) = fun _ => 0 := by funext a; fin_cases a <;> rfl

/-- One block: the residual stream's, plus the product of the squared ReLU with the weights. -/
theorem out_apply (x : Vec Ideal S512x4096 .bf16) (y : Vec Ideal S4096x1024 .bf16) (h : Vec Ideal S512x1024 .f32)
    (r : Fin 512) (l : Fin 1024) : out0_3 x y h (ix2 r l)
      = h (ix2 r l) + ∑ k : Fin 4096, x (ix2 r k) * x (ix2 r k) * y (ix2 k l) := by
  unfold out0_3
  rw [View.canon_unit_zero off2, View.ld_unit_zero (S := S512x4096) off2, View.ld_unit_zero (S := S4096x1024) off2,
    View.ld_unit_zero (S := S512x1024) off2]
  pointwise [k0_pay1]

/-- Block `t`'s rows. -/
abbrev row (t : Fin cfg0.N) (r : Fin 512) : Fin 4096 := ⟨512 * t.val + r.val, by have := t.isLt; have : cfg0.N = 8 := N_0; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem emb3 (t : Fin cfg0.N) (r : Fin 512) (l : Fin 1024) :
    ((cfg0.win 3).blk t).view.emb (ix2 r l : S512x1024.Idx) = (ix2 (row t r) l : S4096x1024.Idx) := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

theorem mem3 (t : Fin cfg0.N) (r : Fin 512) (l : Fin 1024) :
    (ix2 (row t r) l : S4096x1024.Idx) ∈ ((cfg0.win 3).blk t).view.set := by
  rw [← emb3]; exact ((cfg0.win 3).blk t).view.emb_mem_set _

variable (m : (ℓ : Loc nD τ sig) → Buf (Elt Ideal) ℓ) (ρ : Dev nD → PrngReg)

abbrev argR (c : Dev nD) : Vec Ideal S4096x4096 .bf16 := m ((c : Thread nD τ).loc main_arg0)
abbrev argW (c : Dev nD) : Vec Ideal S4096x1024 .bf16 := m ((c : Thread nD τ).loc main_arg1)
abbrev argH (c : Dev nD) : Vec Ideal S4096x1024 .f32 := m ((c : Thread nD τ).loc main_arg2)

theorem iblk0_apply (c : Dev nD) (t : Fin cfg0.N) (r : Fin 512) (k : Fin 4096) :
    (iblk m c 0 t : Vec Ideal S512x4096 .bf16) (ix2 r k) = argR m c (ix2 (row t r) k) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 4096 + 1 * k.val = k.val; omega

theorem iblk1_apply (c : Dev nD) (t : Fin cfg0.N) (k : Fin 4096) (l : Fin 1024) :
    (iblk m c 1 t : Vec Ideal S4096x1024 .bf16) (ix2 k l) = argW m c (ix2 k l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 4096 + 1 * k.val = k.val; omega
  | ⟨1, _⟩ => show win0_1.index t (1 : Fin 2) * 1024 + 1 * l.val = l.val; omega

theorem iblk2_apply (c : Dev nD) (t : Fin cfg0.N) (r : Fin 512) (l : Fin 1024) :
    (iblk m c 2 t : Vec Ideal S512x1024 .f32) (ix2 r l) = argH m c (ix2 (row t r) l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

/-- The residual stream behind the MLP. -/
def res (x : Vec Ideal S4096x4096 .bf16) (w : Vec Ideal S4096x1024 .bf16) (h : Vec Ideal S4096x1024 .f32) :
    Vec Ideal S4096x1024 .f32 := fun j =>
  h (ix2 (j 0) (j 1)) + ∑ k : Fin 4096, x (ix2 (j 0) k) * x (ix2 (j 0) k) * w (ix2 k (j 1))

theorem flushed3_eq (c : Dev nD) (t : Fin cfg0.N) : (dats m 0 c).flushed 3 t
    = ((cfg0.win 3).blk t).view.read (Elt Ideal) (res (argR m c) (argW m c) (argH m c)) := by
  rw [flushed3]
  funext j
  obtain ⟨r, l, rfl⟩ : ∃ (r : Fin 512) (l : Fin 1024), j = (ix2 r l : S512x1024.Idx) := ⟨j 0, j 1, eq_ix2 j⟩
  show out0_3 (iblk m c 0 t) (iblk m c 1 t) (iblk m c 2 t) (ix2 r l) = res _ _ _ (((cfg0.win 3).blk t).view.emb (ix2 r l : S512x1024.Idx))
  rw [emb3, out_apply]
  simp only [iblk0_apply, iblk1_apply, iblk2_apply]
  rfl

theorem final3 (c : Dev nD) : (dats m 0 c).arrAt 3 cfg0.N = res (argR m c) (argW m c) (argH m c) :=
  (dats m 0 c).arrAt_eq_of_cover 3 _ (fun t _ => flushed3_eq m c t) fun i => by
    have h0 : (i 0).val < 4096 := (i 0).isLt
    obtain ⟨t, ht⟩ : ∃ t : Fin cfg0.N, t.val = (i 0).val / 512 :=
      ⟨⟨(i 0).val / 512, by have : cfg0.N = 8 := N_0; omega⟩, rfl⟩
    refine ⟨t, flush0_3 t, ?_⟩
    have hi : i = (ix2 (row t ⟨(i 0).val % 512, by omega⟩) (i 1) : S4096x1024.Idx) := by
      funext a; apply Fin.ext
      match a with
      | ⟨0, _⟩ => show (i 0).val = 512 * t.val + (i 0).val % 512; omega
      | ⟨1, _⟩ => rfl
    rw [hi]
    exact mem3 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argR m c) (argW m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Kernel8Ideal.Mm

namespace Cert.MlpDown

open Cert.Reference8Ideal.Read in
theorem val_apply (x : Vec Ideal Reference8Ideal.S4096x4096 .bf16) (w : Vec Ideal Reference8Ideal.S4096x1024 .bf16)
    (h : Vec Ideal Reference8Ideal.S4096x1024 .f32) (j : Reference8Ideal.S4096x1024.Idx) :
    val_main_v4 (F := Ideal) x w h j = Kernel8Ideal.Mm.res x w h j := by
  obtain ⟨r, l, rfl⟩ : ∃ (r : Fin 4096) (l : Fin 1024), j = ix2 r l := ⟨j 0, j 1, eq_ix2 j⟩
  pointwise [val_main_v4, val_main_v3, val_main_v2, val_main_v1, val_main_v0]
  rfl

theorem algebraic : Cert.algebraic_Kernel8Ideal_Reference8Ideal (hKernel8Ideal := Cert.Kernel8Ideal.Gen.facts)
    (hReference8Ideal := Cert.Reference8Ideal.Gen.facts) := by
  intro m g m' g' _ hm
  refine ⟨fun c => Kernel8Ideal.Mm.res _ _ _, Kernel8Ideal.Mm.run m g, (θ_run _ _ _).mono (fun r h c => ?_) (Reference8Ideal.Value.run m' g')⟩
  obtain ⟨e0, e1, e2⟩ := hm c
  refine ⟨(h c).1.trans ?_, (h c).2⟩
  rw [e0, e1, e2]
  exact (Reference8Ideal.Read.val_main_v4_eq (F := Ideal) _ _ _).trans (funext fun j => val_apply _ _ _ j)

end Cert.MlpDown

end
-- ==== Proof.DMixOut.lean ====
/-
  The gradient of a mixer's output: the kernel's four blocks, the reference's one product, and that both end with the same
  array.
-/
module

public import proofs.«01_k».proof.Defs
public import proofs.«01_k».proof.Proof.Gen.Kernel9Ideal.Value
public import proofs.«01_k».proof.Proof.Gen.Reference9Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel9Ideal.Mm

open Cert.Kernel9Ideal Cert.Kernel9Ideal.Gen Cert.Kernel9Ideal.Value

theorem off2 : (![0, 0] : Fin 2 → Nat) = fun _ => 0 := by funext a; fin_cases a <;> rfl

/-- One block of the product. -/
theorem out_apply (x y : Vec Ideal S1024x1024 .bf16) (r l : Fin 1024) :
    out0_2 x y (ix2 r l) = ∑ k : Fin 1024, x (ix2 r k) * y (ix2 l k) := by
  unfold out0_2
  rw [View.canon_unit_zero off2]
  simp only [View.ld_unit_zero (S := S1024x1024) off2]
  pointwise [k0_pay1]

/-- Block `t`'s rows. -/
abbrev row (t : Fin cfg0.N) (r : Fin 1024) : Fin 4096 := ⟨1024 * t.val + r.val, by have := t.isLt; have : cfg0.N = 4 := N_0; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem emb2 (t : Fin cfg0.N) (r l : Fin 1024) :
    ((cfg0.win 2).blk t).view.emb (ix2 r l : S1024x1024.Idx) = (ix2 (row t r) l : S4096x1024.Idx) := by
  obtain ⟨e0, e1⟩ := idx2 t
  funext a; apply Fin.ext
  match a with
  | ⟨0, _⟩ => show win0_2.index t (0 : Fin 2) * 1024 + 1 * r.val = 1024 * t.val + r.val; omega
  | ⟨1, _⟩ => show win0_2.index t (1 : Fin 2) * 1024 + 1 * l.val = l.val; omega

theorem mem2 (t : Fin cfg0.N) (r l : Fin 1024) :
    (ix2 (row t r) l : S4096x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argD (c : Dev nD) : Vec Ideal S4096x1024 .bf16 := m ((c : Thread nD τ).loc main_arg0)
abbrev argW (c : Dev nD) : Vec Ideal S1024x1024 .bf16 := m ((c : Thread nD τ).loc main_arg1)

theorem iblk0_apply (c : Dev nD) (t : Fin cfg0.N) (r k : Fin 1024) :
    (iblk m c 0 t : Vec Ideal S1024x1024 .bf16) (ix2 r k) = argD m c (ix2 (row t r) k) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 1024 + 1 * r.val = 1024 * t.val + r.val; omega
  | ⟨1, _⟩ => show win0_0.index t (1 : Fin 2) * 1024 + 1 * k.val = k.val; omega

theorem iblk1_apply (c : Dev nD) (t : Fin cfg0.N) (l k : Fin 1024) :
    (iblk m c 1 t : Vec Ideal S1024x1024 .bf16) (ix2 l k) = argW m c (ix2 l k) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1024 + 1 * l.val = l.val; omega
  | ⟨1, _⟩ => show win0_1.index t (1 : Fin 2) * 1024 + 1 * k.val = k.val; omega

/-- The gradient. -/
def res (d : Vec Ideal S4096x1024 .bf16) (w : Vec Ideal S1024x1024 .bf16) : Vec Ideal S4096x1024 .f32 := fun j =>
  ∑ k : Fin 1024, d (ix2 (j 0) k) * w (ix2 (j 1) k)

theorem flushed2_eq (c : Dev nD) (t : Fin cfg0.N) : (dats m 0 c).flushed 2 t
    = ((cfg0.win 2).blk t).view.read (Elt Ideal) (res (argD m c) (argW m c)) := by
  rw [flushed2]
  funext j
  obtain ⟨r, l, rfl⟩ : ∃ (r l : Fin 1024), j = (ix2 r l : S1024x1024.Idx) := ⟨j 0, j 1, eq_ix2 j⟩
  show out0_2 (iblk m c 0 t) (iblk m c 1 t) (ix2 r l) = res _ _ (((cfg0.win 2).blk t).view.emb (ix2 r l : S1024x1024.Idx))
  rw [emb2, out_apply]
  simp only [iblk0_apply, iblk1_apply]
  rfl

theorem final2 (c : Dev nD) : (dats m 0 c).arrAt 2 cfg0.N = res (argD m c) (argW m c) :=
  (dats m 0 c).arrAt_eq_of_cover 2 _ (fun t _ => flushed2_eq m c t) fun i => by
    have h0 : (i 0).val < 4096 := (i 0).isLt
    obtain ⟨t, ht⟩ : ∃ t : Fin cfg0.N, t.val = (i 0).val / 1024 :=
      ⟨⟨(i 0).val / 1024, by have : cfg0.N = 4 := N_0; omega⟩, rfl⟩
    refine ⟨t, flush0_2 t, ?_⟩
    have hi : i = (ix2 (row t ⟨(i 0).val % 1024, by omega⟩) (i 1) : S4096x1024.Idx) := by
      funext a; apply Fin.ext
      match a with
      | ⟨0, _⟩ => show (i 0).val = 1024 * t.val + (i 0).val % 1024; omega
      | ⟨1, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argD m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel9Ideal.Mm

namespace Cert.DMixOut

open Cert.Reference9Ideal.Read in
theorem val_apply (d : Vec Ideal Reference9Ideal.S4096x1024 .bf16) (w : Vec Ideal Reference9Ideal.S1024x1024 .bf16)
    (j : Reference9Ideal.S4096x1024.Idx) : val_main_v4 (F := Ideal) d w j = Kernel9Ideal.Mm.res d w j := by
  obtain ⟨r, l, rfl⟩ : ∃ (r : Fin 4096) (l : Fin 1024), j = ix2 r l := ⟨j 0, j 1, eq_ix2 j⟩
  pointwise [val_main_v4, val_main_v3, val_main_v1, val_main_v0]
  rfl

theorem algebraic : Cert.algebraic_Kernel9Ideal_Reference9Ideal (hKernel9Ideal := Cert.Kernel9Ideal.Gen.facts)
    (hReference9Ideal := Cert.Reference9Ideal.Gen.facts) := by
  intro m g m' g' _ hm
  refine ⟨fun c => Kernel9Ideal.Mm.res _ _, Kernel9Ideal.Mm.run m g, (θ_run _ _ _).mono (fun r h c => ?_) (Reference9Ideal.Value.run m' g')⟩
  obtain ⟨e0, e1⟩ := hm c
  refine ⟨(h c).1.trans ?_, (h c).2⟩
  rw [e0, e1]
  exact (Reference9Ideal.Read.val_main_v4_eq (F := Ideal) _ _).trans (funext fun j => val_apply _ _ j)

end Cert.DMixOut

end
-- ==== Proof.AdamSpec.lean ====
/-
  One entry of the optimiser's step, over the extended reals: the moments, the step as the kernels write it (products with the
  reciprocals of the bias corrections), the step as the reference writes it (quotients by the corrections), and that the two
  agree.
-/
module

public import Idealize.ShloMosaic.PureOps.Ideal

@[expose] public section

noncomputable section

open Idealize.ShloMosaic

namespace Cert.Adam

/-- The first moment from the gradient and the old moment. -/
def mom1 (g m : EReal) : EReal := Ideal.ofBits .f32 0x3F666666#32 * m + Ideal.ofBits .f32 0x3DCCCCCD#32 * g

/-- The second moment. -/
def mom2 (g v : EReal) : EReal := Ideal.ofBits .f32 0x3F7FBE77#32 * v + Ideal.ofBits .f32 0x3A83126F#32 * (g * g)

/-- The step from the corrected moments `a`, `b` and the weight. -/
def step (a b w : EReal) : EReal :=
  Ideal.ofBits .f32 0xBA83126F#32
    * (Ideal.div a (Ideal.sqrt b + Ideal.ofBits .f32 0x322BCC77#32) + Ideal.ofBits .f32 0x3C23D70A#32 * w)

/-- The first correction, `1 - 0.9 ^ 10` as a float32. -/
theorem corr1 : Ideal.ofBits .f32 0x3F26BD02#32 = ((5463681 / 8388608 : ℝ) : EReal) := by
  simp [Ideal.ofBits, Ideal.ieee, -EReal.coe_mul]; norm_num

/-- The second, `1 - 0.999 ^ 10`. -/
theorem corr2 : Ideal.ofBits .f32 0x3C231ACC#32 = ((2672307 / 268435456 : ℝ) : EReal) := by
  simp [Ideal.ofBits, Ideal.ieee, -EReal.coe_mul]; norm_num

/-- A quotient by the first correction is a product with its reciprocal. -/
theorem div1 (x : EReal) : Ideal.div x (Ideal.ofBits .f32 0x3F26BD02#32) = x * ((8388608 / 5463681 : ℝ) : EReal) := by
  rw [corr1, Ideal.div_coe (by norm_num)]
  norm_num

/-- A quotient by the second too. -/
theorem div2 (x : EReal) : Ideal.div x (Ideal.ofBits .f32 0x3C231ACC#32) = x * ((268435456 / 2672307 : ℝ) : EReal) := by
  rw [corr2, Ideal.div_coe (by norm_num)]
  norm_num

/-- The new step of an entry: the reference's form of it, which divides. -/
def delta (w g m v : EReal) : EReal :=
  step (Ideal.div (mom1 g m) (Ideal.ofBits .f32 0x3F26BD02#32)) (Ideal.div (mom2 g v) (Ideal.ofBits .f32 0x3C231ACC#32)) w

/-- The kernels' form, which multiplies by `c` and `d`, is the same where those are the reciprocals. -/
theorem delta_eq (c d : EReal) (hc : c = ((8388608 / 5463681 : ℝ) : EReal)) (hd : d = ((268435456 / 2672307 : ℝ) : EReal))
    (w g m v : EReal) : step (mom1 g m * c) (mom2 g v * d) w = delta w g m v := by
  unfold delta
  rw [div1, div2, hc, hd]

end Cert.Adam

end
-- ==== Proof.AdamSmall.lean ====
/-
  The optimiser's step on the six shapes of small weights. Each kernel's one block is the whole array, so its three results are
  the step's entries, and the reference's results are the same: its quotients by the bias corrections are the kernel's products
  with their reciprocals.
-/
module

public import proofs.«01_k».proof.Defs
public import proofs.«01_k».proof.Proof.AdamSpec
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import Idealize.ShloMosaic.Lib.Claim

@[expose] public section

noncomputable section

open Idealize.ShloMosaic Idealize.ShloMosaic.TcCoe Idealize.SL.Sem

namespace Cert.Adam

/-- A kernel's entry is the reference's, whatever table `κ` the kernel's two named constants are read from. -/
theorem named_eq (κ : String → Option EReal) (h1 : κ "inv_bias1" = some ((8388608 / 5463681 : ℝ) : EReal))
    (h2 : κ "inv_bias2" = some ((268435456 / 2672307 : ℝ) : EReal)) (w g m v : EReal) :
    delta w g m v = step (mom1 g m * Named.named (F := Ideal) κ "inv_bias1" (φ := .f32) 0x3FC48605#32)
      (mom2 g v * Named.named (F := Ideal) κ "inv_bias2" (φ := .f32) 0x42C8E6D3#32) w :=
  (delta_eq _ _ (IdealRules.named_const.ideal_named_scalar _ _ _ _ h1) (IdealRules.named_const.ideal_named_scalar _ _ _ _ h2) w g m v).symm

theorem algebraic10 : Cert.algebraic_Kernel10Ideal_Reference10Ideal (hKernel10Ideal := Cert.Kernel10Ideal.Gen.facts)
    (hReference10Ideal := Cert.Reference10Ideal.Gen.facts) := by
  intro m g m' g' _ hm
  refine ⟨_, _, _, Cert.Kernel10Ideal.Value.run m g,
    (θ_run _ _ _).mono (fun r h c => ?_) (Cert.Reference10Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel10Ideal.κ rfl rfl _ _ _ _
  · rfl
  · rfl

theorem algebraic11 : Cert.algebraic_Kernel11Ideal_Reference11Ideal (hKernel11Ideal := Cert.Kernel11Ideal.Gen.facts)
    (hReference11Ideal := Cert.Reference11Ideal.Gen.facts) := by
  intro m g m' g' _ hm
  refine ⟨_, _, _, Cert.Kernel11Ideal.Value.run m g,
    (θ_run _ _ _).mono (fun r h c => ?_) (Cert.Reference11Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel11Ideal.κ rfl rfl _ _ _ _
  · rfl
  · rfl

theorem algebraic12 : Cert.algebraic_Kernel12Ideal_Reference12Ideal (hKernel12Ideal := Cert.Kernel12Ideal.Gen.facts)
    (hReference12Ideal := Cert.Reference12Ideal.Gen.facts) := by
  intro m g m' g' _ hm
  refine ⟨_, _, _, Cert.Kernel12Ideal.Value.run m g,
    (θ_run _ _ _).mono (fun r h c => ?_) (Cert.Reference12Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel12Ideal.κ rfl rfl _ _ _ _
  · rfl
  · rfl

theorem algebraic13 : Cert.algebraic_Kernel13Ideal_Reference13Ideal (hKernel13Ideal := Cert.Kernel13Ideal.Gen.facts)
    (hReference13Ideal := Cert.Reference13Ideal.Gen.facts) := by
  intro m g m' g' _ hm
  refine ⟨_, _, _, Cert.Kernel13Ideal.Value.run m g,
    (θ_run _ _ _).mono (fun r h c => ?_) (Cert.Reference13Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel13Ideal.κ rfl rfl _ _ _ _
  · rfl
  · rfl

theorem algebraic14 : Cert.algebraic_Kernel14Ideal_Reference14Ideal (hKernel14Ideal := Cert.Kernel14Ideal.Gen.facts)
    (hReference14Ideal := Cert.Reference14Ideal.Gen.facts) := by
  intro m g m' g' _ hm
  refine ⟨_, _, _, Cert.Kernel14Ideal.Value.run m g,
    (θ_run _ _ _).mono (fun r h c => ?_) (Cert.Reference14Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel14Ideal.κ rfl rfl _ _ _ _
  · rfl
  · rfl

theorem algebraic15 : Cert.algebraic_Kernel15Ideal_Reference15Ideal (hKernel15Ideal := Cert.Kernel15Ideal.Gen.facts)
    (hReference15Ideal := Cert.Reference15Ideal.Gen.facts) := by
  intro m g m' g' _ hm
  refine ⟨_, _, _, Cert.Kernel15Ideal.Value.run m g,
    (θ_run _ _ _).mono (fun r h c => ?_) (Cert.Reference15Ideal.Value.run m' g')⟩
  obtain ⟨e0, e1, e2, e3⟩ := hm c
  refine ⟨(h c).1.trans ?_, (h c).2.1.trans ?_, (h c).2.2.1.trans ?_, (h c).2.2.2⟩ <;> simp only [e0, e1, e2, e3]
  · exact funext fun j => named_eq Cert.Kernel15Ideal.κ rfl rfl _ _ _ _
  · rfl
  · rfl

end Cert.Adam

end
-- ==== Proof.AdamJoin.lean ====
/-
  Two halves of an array's rows put together: that a concatenation along the rows is that, and that a tile of rows, taken from
  the half it lies in, is a tile of it. The step's results on whole arrays.
-/
module

public import proofs.«01_k».proof.Proof.AdamSpec
public import Idealize.ShloMosaic.Lib.Claim
public import Idealize.ShloMosaic.Lib.Pipeline.Value
public import Idealize.ShloMosaic.Lib.Pointwise

@[expose] public section

noncomputable section

open Idealize.ShloMosaic

namespace Cert.Adam

/-- The shape of `n` layers, `h` rows and `c` columns. -/
abbrev A3 (n h c : Nat) : Shape := ⟨3, ![n, h, c]⟩

/-- The rows of `x`, then the rows of `y`. -/
def joined {n h R c : Nat} (hR : R = h + h) (x y : (A3 n h c).Idx → EReal) : (A3 n R c).Idx → EReal := fun j =>
  have h0 : (j 0).val < n := (j 0).isLt
  have h1 : (j 1).val < R := (j 1).isLt
  have h2 : (j 2).val < c := (j 2).isLt
  if hlt : (j 1).val < h then x (ix3 ⟨(j 0).val, h0⟩ ⟨(j 1).val, hlt⟩ ⟨(j 2).val, h2⟩ : (A3 n h c).Idx)
  else y (ix3 ⟨(j 0).val, h0⟩ ⟨(j 1).val - h, by omega⟩ ⟨(j 2).val, h2⟩ : (A3 n h c).Idx)

theorem joined_low {n h R c : Nat} (hR : R = h + h) (x y : (A3 n h c).Idx → EReal) (s : Fin n) (p : Fin R) (q : Fin h) (l : Fin c)
    (e : p.val = q.val) : joined hR x y (ix3 s p l : (A3 n R c).Idx) = x (ix3 s q l : (A3 n h c).Idx) := by
  have hq := q.isLt
  unfold joined
  refine (dif_pos (show p.val < h by omega)).trans (congrArg x ?_)
  funext a; apply Fin.ext
  match a with
  | ⟨0, _⟩ => rfl
  | ⟨1, _⟩ => exact e
  | ⟨2, _⟩ => rfl

theorem joined_high {n h R c : Nat} (hR : R = h + h) (x y : (A3 n h c).Idx → EReal) (s : Fin n) (p : Fin R) (q : Fin h) (l : Fin c)
    (e : p.val = h + q.val) : joined hR x y (ix3 s p l : (A3 n R c).Idx) = y (ix3 s q l : (A3 n h c).Idx) := by
  have hq := q.isLt
  unfold joined
  refine (dif_neg (show ¬ p.val < h by omega)).trans (congrArg y ?_)
  funext a; apply Fin.ext
  match a with
  | ⟨0, _⟩ => rfl
  | ⟨1, _⟩ => show p.val - h = q.val; omega
  | ⟨2, _⟩ => rfl

theorem concat_eq {n h R c : Nat} (hR : R = h + h) (x y : (A3 n h c).Idx → EReal)
    (hc : Shape.Concatenates [A3 n h c, A3 n h c] (A3 n R c) 1) :
    concatenate (A3 n R c) 1 [⟨A3 n h c, x⟩, ⟨A3 n h c, y⟩] hc = joined hR x y := by
  funext j
  obtain ⟨s, p, l, rfl⟩ : ∃ (s : Fin n) (p : Fin R) (l : Fin c), j = (ix3 s p l : (A3 n R c).Idx) := ⟨j 0, j 1, j 2, eq_ix3 j⟩
  rcases Nat.lt_or_ge p.val h with hp | hp
  · rw [joined_low hR x y s p ⟨p.val, hp⟩ l rfl]
    exact concatenate_pair_apply_left (t := A3 n R c) 1 x y hc _ rfl _ fun b => match b with
      | ⟨0, _⟩ => rfl
      | ⟨1, _⟩ => rfl
      | ⟨2, _⟩ => rfl
  · have hp' := p.isLt
    rw [joined_high hR x y s p ⟨p.val - h, by omega⟩ l (by show p.val = h + (p.val - h); omega)]
    exact concatenate_pair_apply_right (t := A3 n R c) 1 x y hc _ rfl rfl _ (fun b hb => match b, hb with
      | ⟨0, _⟩, _ => rfl
      | ⟨1, _⟩, hb => absurd rfl hb
      | ⟨2, _⟩, _ => rfl) (by show p.val - h + h = p.val; omega)

/-- An index from its coordinates, those of a block's place `f` and the index within the block. -/
theorem at_ix3 {n R c : Nat} (b : Nat) (f : Fin 3 → Nat) (s : Fin n) (p : Fin R) (l : Fin c) (r : Nat)
    (hf : f 0 = s.val ∧ f 1 * b + r = p.val ∧ f 2 = 0) (j : (A3 n R c).Idx)
    (h0 : (j 0).val = f 0 * 1 + 1 * 0) (h1 : (j 1).val = f 1 * b + 1 * r) (h2 : (j 2).val = f 2 * c + 1 * l.val) :
    j = ix3 s p l := by
  obtain ⟨e0, e1, e2⟩ := hf
  rw [e2] at h2
  funext a; apply Fin.ext
  match a with
  | ⟨0, _⟩ => show (j 0).val = s.val; omega
  | ⟨1, _⟩ => show (j 1).val = p.val; omega
  | ⟨2, _⟩ => show (j 2).val = l.val; omega

/-- Row `r` of tile `k`, of `b` rows, is row `r` of tile `k % nb` of the half the tile lies in; a half has `nb` tiles. -/
theorem joined_tile {n h R c : Nat} (hR : R = h + h) (x y : (A3 n h c).Idx → EReal) (b nb k r : Nat) (hb : h = b * nb) (hk : k < 2 * nb)
    (s : Fin n) (p : Fin R) (q : Fin h) (l : Fin c) (hp : p.val = b * k + r) (hq : q.val = b * (k % nb) + r) :
    (if k < nb then x (ix3 s q l : (A3 n h c).Idx) else y (ix3 s q l : (A3 n h c).Idx)) = joined hR x y (ix3 s p l : (A3 n R c).Idx) := by
  by_cases hkn : k < nb
  · rw [if_pos hkn]
    rw [Nat.mod_eq_of_lt hkn] at hq
    exact (joined_low hR x y s p q l (hp.trans hq.symm)).symm
  · rw [if_neg hkn]
    refine (joined_high hR x y s p q l ?_).symm
    rw [Nat.mod_eq_sub_mod (by omega), Nat.mod_eq_of_lt (by omega)] at hq
    rw [hp, hq, hb, ← Nat.add_assoc, ← Nat.mul_add, Nat.add_sub_cancel' (by omega)]

/-- The step, and the two moments, entry by entry. -/
abbrev deltas {S : Shape} (w g m v : S.Idx → EReal) : S.Idx → EReal := fun j => delta (w j) (g j) (m j) (v j)
abbrev moms1 {S : Shape} (g m : S.Idx → EReal) : S.Idx → EReal := fun j => mom1 (g j) (m j)
abbrev moms2 {S : Shape} (g v : S.Idx → EReal) : S.Idx → EReal := fun j => mom2 (g j) (v j)

end Cert.Adam

end
-- ==== Proof.Halves16.lean ====
/-
  The optimiser's step on the two stacked MLP weights, whose gradient arrives as two halves of the rows: the kernel's sixteen
  blocks take their gradient from the half they lie in, so the four results are the entries of the step at the two halves put
  together.
-/
module

public import proofs.«01_k».proof.Defs
public import proofs.«01_k».proof.Proof.AdamSpec
public import proofs.«01_k».proof.Proof.AdamJoin
public import proofs.«01_k».proof.Proof.AdamSmall
public import proofs.«01_k».proof.Proof.Gen.Kernel16Ideal.Value
public import proofs.«01_k».proof.Proof.Gen.Reference16Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)
open Cert.Adam (mom1 mom2 delta deltas moms1 moms2 joined)

namespace Cert.Kernel16Ideal.Adam

open Cert.Kernel16Ideal Cert.Kernel16Ideal.Gen Cert.Kernel16Ideal.Value

theorem off3 : (![0, 0, 0] : Fin 3 → Nat) = fun _ => 0 := by funext a; fin_cases a <;> rfl

/-- A block's gradient: the first half's below the second tile, the other half's from there. -/
theorem pay6_apply (i : grid0.Coords) (x y : Vec Ideal S1x256x1024 .f32) (r : Fin 256) (l : Fin 1024) :
    k0_pay6 i x y (ix2 r l) = if (i 1).val < 2 then x (ix3 0 r l) else y (ix3 0 r l) := by
  obtain ⟨q, hq⟩ : ∃ q : Fin 4, (i 1).val = q.val := ⟨⟨(i 1).val, (i 1).isLt⟩, rfl⟩
  have hx : (shapeCast S256x1024 x shapeCasts_S1x256x1024_S256x1024 : FVec Ideal S256x1024 .f32) (ix2 r l) = x (ix3 0 r l) := by pointwise
  have hy : (shapeCast S256x1024 y shapeCasts_S1x256x1024_S256x1024 : FVec Ideal S256x1024 .f32) (ix2 r l) = y (ix3 0 r l) := by pointwise
  unfold k0_pay6
  rw [hq, ← hx, ← hy]
  fin_cases q <;> rfl

variable (i : grid0.Coords) (w m v x y : Vec Ideal S1x256x1024 .f32) (r : Fin 256) (l : Fin 1024)

theorem out5_apply : out0_5 i w m v x y (ix3 0 r l) = if (i 1).val < 2 then x (ix3 0 r l) else y (ix3 0 r l) := by
  unfold out0_5
  rw [View.canon_unit_zero off3, View.ld_unit_zero (S := S1x256x1024) off3, View.ld_unit_zero (S := S1x256x1024) off3, ← pay6_apply]
  pointwise [k0_pay2]

theorem out7_apply : out0_7 i w m v x y (ix3 0 r l)
    = mom1 (if (i 1).val < 2 then x (ix3 0 r l) else y (ix3 0 r l)) (m (ix3 0 r l)) := by
  unfold out0_7 k0_pay10
  rw [View.canon_unit_zero off3, View.ld_unit_zero (S := S1x256x1024) off3, View.ld_unit_zero (S := S1x256x1024) off3,
    View.ld_unit_zero (S := S1x256x1024) off3, ← pay6_apply]
  pointwise [k0_pay4, k0_pay7]
  rfl

theorem out8_apply : out0_8 i w m v x y (ix3 0 r l)
    = mom2 (if (i 1).val < 2 then x (ix3 0 r l) else y (ix3 0 r l)) (v (ix3 0 r l)) := by
  unfold out0_8 k0_pay11 k0_pay12
  rw [View.canon_unit_zero off3, View.ld_unit_zero (S := S1x256x1024) off3, View.ld_unit_zero (S := S1x256x1024) off3,
    View.ld_unit_zero (S := S1x256x1024) off3, ← pay6_apply]
  pointwise [k0_pay5, k0_pay1, k0_pay8, k0_pay9]
  rfl

theorem out6_apply : out0_6 i w m v x y (ix3 0 r l)
    = delta (w (ix3 0 r l)) (if (i 1).val < 2 then x (ix3 0 r l) else y (ix3 0 r l)) (m (ix3 0 r l)) (v (ix3 0 r l)) := by
  rw [Cert.Adam.named_eq κ rfl rfl]
  unfold out0_6 k0_pay10 k0_pay11 k0_pay12
  rw [View.canon_unit_zero off3, View.ld_unit_zero (S := S1x256x1024) off3, View.ld_unit_zero (S := S1x256x1024) off3,
    View.ld_unit_zero (S := S1x256x1024) off3, View.ld_unit_zero (S := S1x256x1024) off3, View.ld_unit_zero (S := S1x256x1024) off3, ← pay6_apply]
  pointwise [k0_pay3, k0_pay1, k0_pay7, k0_pay8, k0_pay9]
  rfl

/-- Block `t` is that of layer `t / 4` and of the rows from `256 * (t % 4)`. -/
abbrev lay (t : Fin cfg0.N) : Fin 4 := ⟨t.val / 4, by have := t.isLt; have : cfg0.N = 16 := N_0; omega⟩
abbrev row (t : Fin cfg0.N) (r : Fin 256) : Fin 1024 := ⟨256 * (t.val % 4) + r.val, by omega⟩
abbrev half (t : Fin cfg0.N) (r : Fin 256) : Fin 512 := ⟨256 * (t.val % 4 % 2) + r.val, by omega⟩

abbrev Full (f : Fin 3 → Nat) (t : Nat) : Prop := f 0 = t / 4 ∧ f 1 = t % 4 ∧ f 2 = 0
abbrev Half (f : Fin 3 → Nat) (t : Nat) : Prop := f 0 = t / 4 ∧ f 1 = t % 4 % 2 ∧ f 2 = 0

theorem coord1 : ∀ t : Fin cfg0.N, (grid0.coords t 1).val = t.val % 4 := (by decide +kernel : ∀ t : Fin grid0.N, _)
theorem idxA : ∀ t : Fin cfg0.N, Full (win0_0.index t) t ∧ Full (win0_1.index t) t ∧ Full (win0_2.index t) t :=
  (by decide +kernel : ∀ t : Fin grid0.N, _)
theorem idxB : ∀ t : Fin cfg0.N, Half (win0_3.index t) t ∧ Half (win0_4.index t) t := (by decide +kernel : ∀ t : Fin grid0.N, _)
theorem idxC : ∀ t : Fin cfg0.N, Full (win0_5.index t) t ∧ Full (win0_6.index t) t ∧ Full (win0_7.index t) t ∧ Full (win0_8.index t) t :=
  (by decide +kernel : ∀ t : Fin grid0.N, _)

theorem full {f : Fin 3 → Nat} {t : Fin cfg0.N} (h : Full f t) : f 0 = (lay t).val ∧ f 1 * 256 + r.val = (row t r).val ∧ f 2 = 0 :=
  ⟨h.1, by show f 1 * 256 + r.val = 256 * (t.val % 4) + r.val; rw [h.2.1, Nat.mul_comm], h.2.2⟩
theorem halves {f : Fin 3 → Nat} {t : Fin cfg0.N} (h : Half f t) : f 0 = (lay t).val ∧ f 1 * 256 + r.val = (half t r).val ∧ f 2 = 0 :=
  ⟨h.1, by show f 1 * 256 + r.val = 256 * (t.val % 4 % 2) + r.val; rw [h.2.1, Nat.mul_comm], h.2.2⟩

theorem emb5 (t : Fin cfg0.N) : ((cfg0.win 5).blk t).view.emb (ix3 0 r l : S1x256x1024.Idx) = (ix3 (lay t) (row t r) l : S4x1024x1024.Idx) :=
  Cert.Adam.at_ix3 256 _ _ _ l _ (full r (idxC t).1) _ rfl rfl rfl
theorem emb6 (t : Fin cfg0.N) : ((cfg0.win 6).blk t).view.emb (ix3 0 r l : S1x256x1024.Idx) = (ix3 (lay t) (row t r) l : S4x1024x1024.Idx) :=
  Cert.Adam.at_ix3 256 _ _ _ l _ (full r (idxC t).2.1) _ rfl rfl rfl
theorem emb7 (t : Fin cfg0.N) : ((cfg0.win 7).blk t).view.emb (ix3 0 r l : S1x256x1024.Idx) = (ix3 (lay t) (row t r) l : S4x1024x1024.Idx) :=
  Cert.Adam.at_ix3 256 _ _ _ l _ (full r (idxC t).2.2.1) _ rfl rfl rfl
theorem emb8 (t : Fin cfg0.N) : ((cfg0.win 8).blk t).view.emb (ix3 0 r l : S1x256x1024.Idx) = (ix3 (lay t) (row t r) l : S4x1024x1024.Idx) :=
  Cert.Adam.at_ix3 256 _ _ _ l _ (full r (idxC t).2.2.2) _ rfl rfl rfl

variable (m : (ℓ : Loc nD τ sig) → Buf (Elt Ideal) ℓ) (ρ : Dev nD → PrngReg)

abbrev argW (c : Dev nD) : Vec Ideal S4x1024x1024 .f32 := m ((c : Thread nD τ).loc main_arg0)
abbrev argM (c : Dev nD) : Vec Ideal S4x1024x1024 .f32 := m ((c : Thread nD τ).loc main_arg1)
abbrev argV (c : Dev nD) : Vec Ideal S4x1024x1024 .f32 := m ((c : Thread nD τ).loc main_arg2)
abbrev argX (c : Dev nD) : Vec Ideal S4x512x1024 .f32 := m ((c : Thread nD τ).loc main_arg3)
abbrev argY (c : Dev nD) : Vec Ideal S4x512x1024 .f32 := m ((c : Thread nD τ).loc main_arg4)

theorem iblk0_apply (c : Dev nD) (t : Fin cfg0.N) :
    (iblk m c 0 t : Vec Ideal S1x256x1024 .f32) (ix3 0 r l) = argW m c (ix3 (lay t) (row t r) l) := by
  show V m c main_arg0 _ = m (c.tc.loc main_arg0) _
  rw [V_main_arg0]
  exact congrArg _ (Cert.Adam.at_ix3 256 _ _ _ l _ (full r (idxA t).1) _ rfl rfl rfl)
theorem iblk1_apply (c : Dev nD) (t : Fin cfg0.N) :
    (iblk m c 1 t : Vec Ideal S1x256x1024 .f32) (ix3 0 r l) = argM m c (ix3 (lay t) (row t r) l) := by
  show V m c main_arg1 _ = m (c.tc.loc main_arg1) _
  rw [V_main_arg1]
  exact congrArg _ (Cert.Adam.at_ix3 256 _ _ _ l _ (full r (idxA t).2.1) _ rfl rfl rfl)
theorem iblk2_apply (c : Dev nD) (t : Fin cfg0.N) :
    (iblk m c 2 t : Vec Ideal S1x256x1024 .f32) (ix3 0 r l) = argV m c (ix3 (lay t) (row t r) l) := by
  show V m c main_arg2 _ = m (c.tc.loc main_arg2) _
  rw [V_main_arg2]
  exact congrArg _ (Cert.Adam.at_ix3 256 _ _ _ l _ (full r (idxA t).2.2) _ rfl rfl rfl)
theorem iblk3_apply (c : Dev nD) (t : Fin cfg0.N) :
    (iblk m c 3 t : Vec Ideal S1x256x1024 .f32) (ix3 0 r l) = argX m c (ix3 (lay t) (half t r) l) := by
  show V m c main_arg3 _ = m (c.tc.loc main_arg3) _
  rw [V_main_arg3]
  exact congrArg _ (Cert.Adam.at_ix3 256 _ _ _ l _ (halves r (idxB t).1) _ rfl rfl rfl)
theorem iblk4_apply (c : Dev nD) (t : Fin cfg0.N) :
    (iblk m c 4 t : Vec Ideal S1x256x1024 .f32) (ix3 0 r l) = argY m c (ix3 (lay t) (half t r) l) := by
  show V m c main_arg4 _ = m (c.tc.loc main_arg4) _
  rw [V_main_arg4]
  exact congrArg _ (Cert.Adam.at_ix3 256 _ _ _ l _ (halves r (idxB t).2) _ rfl rfl rfl)

/-- The whole gradient. -/
abbrev grad (c : Dev nD) : Vec Ideal S4x1024x1024 .f32 := joined (n := 4) (h := 512) (R := 1024) (c := 1024) rfl (argX m c) (argY m c)

/-- The half a block reads is the half of the whole gradient it lies in. -/
theorem grad_blk (c : Dev nD) (t : Fin cfg0.N) :
    (if (grid0.coords t 1).val < 2 then (iblk m c 3 t : Vec Ideal S1x256x1024 .f32) (ix3 0 r l)
      else (iblk m c 4 t : Vec Ideal S1x256x1024 .f32) (ix3 0 r l)) = grad m c (ix3 (lay t) (row t r) l) := by
  rw [iblk3_apply, iblk4_apply, coord1]
  exact Cert.Adam.joined_tile (n := 4) (h := 512) (R := 1024) (c := 1024) rfl _ _ 256 2 _ r.val rfl (by omega) _ _ _ _ rfl rfl

theorem ix_blk (j : S1x256x1024.Idx) : ∃ (r : Fin 256) (l : Fin 1024), j = (ix3 0 r l : S1x256x1024.Idx) :=
  ⟨j 1, j 2, (eq_ix3 j).trans (congrArg (fun s => (ix3 s (j 1) (j 2) : S1x256x1024.Idx)) (Subsingleton.elim (α := Fin 1) _ _))⟩

theorem flushed5_eq (c : Dev nD) (t : Fin cfg0.N) : (dats m 0 c).flushed 5 t
    = ((cfg0.win 5).blk t).view.read (Elt Ideal) (grad m c) := by
  rw [flushed5]; funext j
  obtain ⟨r, l, rfl⟩ := ix_blk j
  show (out0_5 (F := Ideal) (grid0.coords t) _ _ _ _ _ (ix3 0 r l) : EReal) = grad m c (((cfg0.win 5).blk t).view.emb (ix3 0 r l : S1x256x1024.Idx))
  rw [emb5, out5_apply, grad_blk]
theorem flushed6_eq (c : Dev nD) (t : Fin cfg0.N) : (dats m 0 c).flushed 6 t
    = ((cfg0.win 6).blk t).view.read (Elt Ideal) (deltas (argW m c) (grad m c) (argM m c) (argV m c)) := by
  rw [flushed6]; funext j
  obtain ⟨r, l, rfl⟩ := ix_blk j
  show (out0_6 (F := Ideal) (grid0.coords t) _ _ _ _ _ (ix3 0 r l) : EReal) = deltas _ (grad m c) _ _ (((cfg0.win 6).blk t).view.emb (ix3 0 r l : S1x256x1024.Idx))
  rw [emb6, out6_apply, grad_blk, iblk0_apply, iblk1_apply, iblk2_apply]
theorem flushed7_eq (c : Dev nD) (t : Fin cfg0.N) : (dats m 0 c).flushed 7 t
    = ((cfg0.win 7).blk t).view.read (Elt Ideal) (moms1 (grad m c) (argM m c)) := by
  rw [flushed7]; funext j
  obtain ⟨r, l, rfl⟩ := ix_blk j
  show (out0_7 (F := Ideal) (grid0.coords t) _ _ _ _ _ (ix3 0 r l) : EReal) = moms1 (grad m c) _ (((cfg0.win 7).blk t).view.emb (ix3 0 r l : S1x256x1024.Idx))
  rw [emb7, out7_apply, grad_blk, iblk1_apply]
theorem flushed8_eq (c : Dev nD) (t : Fin cfg0.N) : (dats m 0 c).flushed 8 t
    = ((cfg0.win 8).blk t).view.read (Elt Ideal) (moms2 (grad m c) (argV m c)) := by
  rw [flushed8]; funext j
  obtain ⟨r, l, rfl⟩ := ix_blk j
  show (out0_8 (F := Ideal) (grid0.coords t) _ _ _ _ _ (ix3 0 r l) : EReal) = moms2 (grad m c) _ (((cfg0.win 8).blk t).view.emb (ix3 0 r l : S1x256x1024.Idx))
  rw [emb8, out8_apply, grad_blk, iblk2_apply]

/-- Every index of the array is one of a block. -/
theorem cover (i : S4x1024x1024.Idx) : ∃ (t : Fin cfg0.N) (r : Fin 256) (l : Fin 1024), i = (ix3 (lay t) (row t r) l : S4x1024x1024.Idx) := by
  have h0 : (i 0).val < 4 := (i 0).isLt
  have h1 : (i 1).val < 1024 := (i 1).isLt
  obtain ⟨t, ht⟩ : ∃ t : Fin cfg0.N, t.val = 4 * (i 0).val + (i 1).val / 256 := ⟨⟨4 * (i 0).val + (i 1).val / 256, by have : cfg0.N = 16 := N_0; omega⟩, rfl⟩
  refine ⟨t, ⟨(i 1).val % 256, by omega⟩, i 2, ?_⟩
  funext a; apply Fin.ext
  match a with
  | ⟨0, _⟩ => show (i 0).val = t.val / 4; omega
  | ⟨1, _⟩ => show (i 1).val = 256 * (t.val % 4) + (i 1).val % 256; omega
  | ⟨2, _⟩ => rfl

theorem final5 (c : Dev nD) : (dats m 0 c).arrAt 5 cfg0.N = grad m c :=
  (dats m 0 c).arrAt_eq_of_cover 5 _ (fun t _ => flushed5_eq m c t) fun i => by
    obtain ⟨t, r, l, hi⟩ := cover i
    exact ⟨t, flush0_5 t, by rw [hi, ← emb5]; exact ((cfg0.win 5).blk t).view.emb_mem_set _⟩
theorem final6 (c : Dev nD) : (dats m 0 c).arrAt 6 cfg0.N = deltas (argW m c) (grad m c) (argM m c) (argV m c) :=
  (dats m 0 c).arrAt_eq_of_cover 6 _ (fun t _ => flushed6_eq m c t) fun i => by
    obtain ⟨t, r, l, hi⟩ := cover i
    exact ⟨t, flush0_6 t, by rw [hi, ← emb6]; exact ((cfg0.win 6).blk t).view.emb_mem_set _⟩
theorem final7 (c : Dev nD) : (dats m 0 c).arrAt 7 cfg0.N = moms1 (grad m c) (argM m c) :=
  (dats m 0 c).arrAt_eq_of_cover 7 _ (fun t _ => flushed7_eq m c t) fun i => by
    obtain ⟨t, r, l, hi⟩ := cover i
    exact ⟨t, flush0_7 t, by rw [hi, ← emb7]; exact ((cfg0.win 7).blk t).view.emb_mem_set _⟩
theorem final8 (c : Dev nD) : (dats m 0 c).arrAt 8 cfg0.N = moms2 (grad m c) (argV m c) :=
  (dats m 0 c).arrAt_eq_of_cover 8 _ (fun t _ => flushed8_eq m c t) fun i => by
    obtain ⟨t, r, l, hi⟩ := cover i
    exact ⟨t, flush0_8 t, by rw [hi, ← emb8]; exact ((cfg0.win 8).blk t).view.emb_mem_set _⟩

end Cert.Kernel16Ideal.Adam

namespace Cert.Adam

open Cert.Kernel16Ideal.Adam

theorem algebraic16 : Cert.algebraic_Kernel16Ideal_Reference16Ideal (hKernel16Ideal := Cert.Kernel16Ideal.Gen.facts)
    (hReference16Ideal := Cert.Reference16Ideal.Gen.facts) := by
  intro m g m' g' _ hm
  refine ⟨fun c => grad m c, fun c => deltas (argW m c) (grad m c) (argM m c) (argV m c),
    fun c => moms1 (grad m c) (argM m c), fun c => moms2 (grad m c) (argV m c),
    (θ_run _ _ _).mono (fun r h c => ⟨(h c).1.trans (final5 m c), (h c).2.1.trans (final6 m c), (h c).2.2.1.trans (final7 m c),
      (h c).2.2.2.1.trans (final8 m c), (h c).2.2.2.2⟩) (Cert.Kernel16Ideal.Value.run_blocks m g),
    (θ_run _ _ _).mono (fun r h c => ?_) (Cert.Reference16Ideal.Value.run m' g')⟩
  obtain ⟨e0, e1, e2, e3, e4⟩ := hm c
  have hc := fun x y => concat_eq (n := 4) (h := 512) (R := 1024) (c := 1024) rfl x y Cert.Reference16Ideal.Gen.concatenates_S4x512x1024_S4x512x1024_S4x1024x1024_d1
  refine ⟨(h c).1.trans ?_, (h c).2.1.trans ?_, (h c).2.2.1.trans ?_, (h c).2.2.2.1.trans ?_, (h c).2.2.2.2⟩
  · rw [e3, e4]; exact hc _ _
  · rw [e0, e1, e2, e3, e4]
    refine (Cert.Reference16Ideal.Read.val_main_v24_eq (F := Ideal) _ _ _ _ _).trans (funext fun j => ?_)
    show _ = delta _ (joined _ _ _ j) _ _
    rw [← hc]; rfl
  · rw [e1, e3, e4]
    refine (Cert.Reference16Ideal.Read.val_main_v5_eq (F := Ideal) _ _ _).trans (funext fun j => ?_)
    show _ = mom1 (joined _ _ _ j) _
    rw [← hc]; rfl
  · rw [e2, e3, e4]
    refine (Cert.Reference16Ideal.Read.val_main_v11_eq (F := Ideal) _ _ _).trans (funext fun j => ?_)
    show _ = mom2 (joined _ _ _ j) _
    rw [← hc]; rfl

end Cert.Adam

end
-- ==== Proof.Halves17.lean ====
/-
  The optimiser's step on the stacked input projections of the gated delta layers, whose gradient arrives as two halves of the rows: the kernel's eight
  blocks take their gradient from the half they lie in, so the four results are the entries of the step at the two halves put
  together.
-/
module

public import proofs.«01_k».proof.Defs
public import proofs.«01_k».proof.Proof.AdamSpec
public import proofs.«01_k».proof.Proof.AdamJoin
public import proofs.«01_k».proof.Proof.AdamSmall
public import proofs.«01_k».proof.Proof.Gen.Kernel17Ideal.Value
public import proofs.«01_k».proof.Proof.Gen.Reference17Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)
open Cert.Adam (mom1 mom2 delta deltas moms1 moms2 joined)

namespace Cert.Kernel17Ideal.Adam

open Cert.Kernel17Ideal Cert.Kernel17Ideal.Gen Cert.Kernel17Ideal.Value

theorem off3 : (![0, 0, 0] : Fin 3 → Nat) = fun _ => 0 := by funext a; fin_cases a <;> rfl

/-- A block's gradient: the first half's below the second tile, the other half's from there. -/
theorem pay6_apply (i : grid0.Coords) (x y : Vec Ideal S1x256x1028 .f32) (r : Fin 256) (l : Fin 1028) :
    k0_pay6 i x y (ix2 r l) = if (i 1).val < 2 then x (ix3 0 r l) else y (ix3 0 r l) := by
  obtain ⟨q, hq⟩ : ∃ q : Fin 4, (i 1).val = q.val := ⟨⟨(i 1).val, (i 1).isLt⟩, rfl⟩
  have hx : (shapeCast S256x1028 x shapeCasts_S1x256x1028_S256x1028 : FVec Ideal S256x1028 .f32) (ix2 r l) = x (ix3 0 r l) := by pointwise
  have hy : (shapeCast S256x1028 y shapeCasts_S1x256x1028_S256x1028 : FVec Ideal S256x1028 .f32) (ix2 r l) = y (ix3 0 r l) := by pointwise
  unfold k0_pay6
  rw [hq, ← hx, ← hy]
  fin_cases q <;> rfl

variable (i : grid0.Coords) (w m v x y : Vec Ideal S1x256x1028 .f32) (r : Fin 256) (l : Fin 1028)

theorem out5_apply : out0_5 i w m v x y (ix3 0 r l) = if (i 1).val < 2 then x (ix3 0 r l) else y (ix3 0 r l) := by
  unfold out0_5
  rw [View.canon_unit_zero off3, View.ld_unit_zero (S := S1x256x1028) off3, View.ld_unit_zero (S := S1x256x1028) off3, ← pay6_apply]
  pointwise [k0_pay2]

theorem out7_apply : out0_7 i w m v x y (ix3 0 r l)
    = mom1 (if (i 1).val < 2 then x (ix3 0 r l) else y (ix3 0 r l)) (m (ix3 0 r l)) := by
  unfold out0_7 k0_pay10
  rw [View.canon_unit_zero off3, View.ld_unit_zero (S := S1x256x1028) off3, View.ld_unit_zero (S := S1x256x1028) off3,
    View.ld_unit_zero (S := S1x256x1028) off3, ← pay6_apply]
  pointwise [k0_pay4, k0_pay7]
  rfl

theorem out8_apply : out0_8 i w m v x y (ix3 0 r l)
    = mom2 (if (i 1).val < 2 then x (ix3 0 r l) else y (ix3 0 r l)) (v (ix3 0 r l)) := by
  unfold out0_8 k0_pay11 k0_pay12
  rw [View.canon_unit_zero off3, View.ld_unit_zero (S := S1x256x1028) off3, View.ld_unit_zero (S := S1x256x1028) off3,
    View.ld_unit_zero (S := S1x256x1028) off3, ← pay6_apply]
  pointwise [k0_pay5, k0_pay1, k0_pay8, k0_pay9]
  rfl

theorem out6_apply : out0_6 i w m v x y (ix3 0 r l)
    = delta (w (ix3 0 r l)) (if (i 1).val < 2 then x (ix3 0 r l) else y (ix3 0 r l)) (m (ix3 0 r l)) (v (ix3 0 r l)) := by
  rw [Cert.Adam.named_eq κ rfl rfl]
  unfold out0_6 k0_pay10 k0_pay11 k0_pay12
  rw [View.canon_unit_zero off3, View.ld_unit_zero (S := S1x256x1028) off3, View.ld_unit_zero (S := S1x256x1028) off3,
    View.ld_unit_zero (S := S1x256x1028) off3, View.ld_unit_zero (S := S1x256x1028) off3, View.ld_unit_zero (S := S1x256x1028) off3, ← pay6_apply]
  pointwise [k0_pay3, k0_pay1, k0_pay7, k0_pay8, k0_pay9]
  rfl

/-- Block `t` is that of layer `t / 4` and of the rows from `256 * (t % 4)`. -/
abbrev lay (t : Fin cfg0.N) : Fin 2 := ⟨t.val / 4, by have := t.isLt; have : cfg0.N = 8 := N_0; omega⟩
abbrev row (t : Fin cfg0.N) (r : Fin 256) : Fin 1024 := ⟨256 * (t.val % 4) + r.val, by omega⟩
abbrev half (t : Fin cfg0.N) (r : Fin 256) : Fin 512 := ⟨256 * (t.val % 4 % 2) + r.val, by omega⟩

abbrev Full (f : Fin 3 → Nat) (t : Nat) : Prop := f 0 = t / 4 ∧ f 1 = t % 4 ∧ f 2 = 0
abbrev Half (f : Fin 3 → Nat) (t : Nat) : Prop := f 0 = t / 4 ∧ f 1 = t % 4 % 2 ∧ f 2 = 0

theorem coord1 : ∀ t : Fin cfg0.N, (grid0.coords t 1).val = t.val % 4 := (by decide +kernel : ∀ t : Fin grid0.N, _)
theorem idxA : ∀ t : Fin cfg0.N, Full (win0_0.index t) t ∧ Full (win0_1.index t) t ∧ Full (win0_2.index t) t :=
  (by decide +kernel : ∀ t : Fin grid0.N, _)
theorem idxB : ∀ t : Fin cfg0.N, Half (win0_3.index t) t ∧ Half (win0_4.index t) t := (by decide +kernel : ∀ t : Fin grid0.N, _)
theorem idxC : ∀ t : Fin cfg0.N, Full (win0_5.index t) t ∧ Full (win0_6.index t) t ∧ Full (win0_7.index t) t ∧ Full (win0_8.index t) t :=
  (by decide +kernel : ∀ t : Fin grid0.N, _)

theorem full {f : Fin 3 → Nat} {t : Fin cfg0.N} (h : Full f t) : f 0 = (lay t).val ∧ f 1 * 256 + r.val = (row t r).val ∧ f 2 = 0 :=
  ⟨h.1, by show f 1 * 256 + r.val = 256 * (t.val % 4) + r.val; rw [h.2.1, Nat.mul_comm], h.2.2⟩
theorem halves {f : Fin 3 → Nat} {t : Fin cfg0.N} (h : Half f t) : f 0 = (lay t).val ∧ f 1 * 256 + r.val = (half t r).val ∧ f 2 = 0 :=
  ⟨h.1, by show f 1 * 256 + r.val = 256 * (t.val % 4 % 2) + r.val; rw [h.2.1, Nat.mul_comm], h.2.2⟩

theorem emb5 (t : Fin cfg0.N) : ((cfg0.win 5).blk t).view.emb (ix3 0 r l : S1x256x1028.Idx) = (ix3 (lay t) (row t r) l : S2x1024x1028.Idx) :=
  Cert.Adam.at_ix3 256 _ _ _ l _ (full r (idxC t).1) _ rfl rfl rfl
theorem emb6 (t : Fin cfg0.N) : ((cfg0.win 6).blk t).view.emb (ix3 0 r l : S1x256x1028.Idx) = (ix3 (lay t) (row t r) l : S2x1024x1028.Idx) :=
  Cert.Adam.at_ix3 256 _ _ _ l _ (full r (idxC t).2.1) _ rfl rfl rfl
theorem emb7 (t : Fin cfg0.N) : ((cfg0.win 7).blk t).view.emb (ix3 0 r l : S1x256x1028.Idx) = (ix3 (lay t) (row t r) l : S2x1024x1028.Idx) :=
  Cert.Adam.at_ix3 256 _ _ _ l _ (full r (idxC t).2.2.1) _ rfl rfl rfl
theorem emb8 (t : Fin cfg0.N) : ((cfg0.win 8).blk t).view.emb (ix3 0 r l : S1x256x1028.Idx) = (ix3 (lay t) (row t r) l : S2x1024x1028.Idx) :=
  Cert.Adam.at_ix3 256 _ _ _ l _ (full r (idxC t).2.2.2) _ rfl rfl rfl

variable (m : (ℓ : Loc nD τ sig) → Buf (Elt Ideal) ℓ) (ρ : Dev nD → PrngReg)

abbrev argW (c : Dev nD) : Vec Ideal S2x1024x1028 .f32 := m ((c : Thread nD τ).loc main_arg0)
abbrev argM (c : Dev nD) : Vec Ideal S2x1024x1028 .f32 := m ((c : Thread nD τ).loc main_arg1)
abbrev argV (c : Dev nD) : Vec Ideal S2x1024x1028 .f32 := m ((c : Thread nD τ).loc main_arg2)
abbrev argX (c : Dev nD) : Vec Ideal S2x512x1028 .f32 := m ((c : Thread nD τ).loc main_arg3)
abbrev argY (c : Dev nD) : Vec Ideal S2x512x1028 .f32 := m ((c : Thread nD τ).loc main_arg4)

theorem iblk0_apply (c : Dev nD) (t : Fin cfg0.N) :
    (iblk m c 0 t : Vec Ideal S1x256x1028 .f32) (ix3 0 r l) = argW m c (ix3 (lay t) (row t r) l) := by
  show V m c main_arg0 _ = m (c.tc.loc main_arg0) _
  rw [V_main_arg0]
  exact congrArg _ (Cert.Adam.at_ix3 256 _ _ _ l _ (full r (idxA t).1) _ rfl rfl rfl)
theorem iblk1_apply (c : Dev nD) (t : Fin cfg0.N) :
    (iblk m c 1 t : Vec Ideal S1x256x1028 .f32) (ix3 0 r l) = argM m c (ix3 (lay t) (row t r) l) := by
  show V m c main_arg1 _ = m (c.tc.loc main_arg1) _
  rw [V_main_arg1]
  exact congrArg _ (Cert.Adam.at_ix3 256 _ _ _ l _ (full r (idxA t).2.1) _ rfl rfl rfl)
theorem iblk2_apply (c : Dev nD) (t : Fin cfg0.N) :
    (iblk m c 2 t : Vec Ideal S1x256x1028 .f32) (ix3 0 r l) = argV m c (ix3 (lay t) (row t r) l) := by
  show V m c main_arg2 _ = m (c.tc.loc main_arg2) _
  rw [V_main_arg2]
  exact congrArg _ (Cert.Adam.at_ix3 256 _ _ _ l _ (full r (idxA t).2.2) _ rfl rfl rfl)
theorem iblk3_apply (c : Dev nD) (t : Fin cfg0.N) :
    (iblk m c 3 t : Vec Ideal S1x256x1028 .f32) (ix3 0 r l) = argX m c (ix3 (lay t) (half t r) l) := by
  show V m c main_arg3 _ = m (c.tc.loc main_arg3) _
  rw [V_main_arg3]
  exact congrArg _ (Cert.Adam.at_ix3 256 _ _ _ l _ (halves r (idxB t).1) _ rfl rfl rfl)
theorem iblk4_apply (c : Dev nD) (t : Fin cfg0.N) :
    (iblk m c 4 t : Vec Ideal S1x256x1028 .f32) (ix3 0 r l) = argY m c (ix3 (lay t) (half t r) l) := by
  show V m c main_arg4 _ = m (c.tc.loc main_arg4) _
  rw [V_main_arg4]
  exact congrArg _ (Cert.Adam.at_ix3 256 _ _ _ l _ (halves r (idxB t).2) _ rfl rfl rfl)

/-- The whole gradient. -/
abbrev grad (c : Dev nD) : Vec Ideal S2x1024x1028 .f32 := joined (n := 2) (h := 512) (R := 1024) (c := 1028) rfl (argX m c) (argY m c)

/-- The half a block reads is the half of the whole gradient it lies in. -/
theorem grad_blk (c : Dev nD) (t : Fin cfg0.N) :
    (if (grid0.coords t 1).val < 2 then (iblk m c 3 t : Vec Ideal S1x256x1028 .f32) (ix3 0 r l)
      else (iblk m c 4 t : Vec Ideal S1x256x1028 .f32) (ix3 0 r l)) = grad m c (ix3 (lay t) (row t r) l) := by
  rw [iblk3_apply, iblk4_apply, coord1]
  exact Cert.Adam.joined_tile (n := 2) (h := 512) (R := 1024) (c := 1028) rfl _ _ 256 2 _ r.val rfl (by omega) _ _ _ _ rfl rfl

theorem ix_blk (j : S1x256x1028.Idx) : ∃ (r : Fin 256) (l : Fin 1028), j = (ix3 0 r l : S1x256x1028.Idx) :=
  ⟨j 1, j 2, (eq_ix3 j).trans (congrArg (fun s => (ix3 s (j 1) (j 2) : S1x256x1028.Idx)) (Subsingleton.elim (α := Fin 1) _ _))⟩

theorem flushed5_eq (c : Dev nD) (t : Fin cfg0.N) : (dats m 0 c).flushed 5 t
    = ((cfg0.win 5).blk t).view.read (Elt Ideal) (grad m c) := by
  rw [flushed5]; funext j
  obtain ⟨r, l, rfl⟩ := ix_blk j
  show (out0_5 (F := Ideal) (grid0.coords t) _ _ _ _ _ (ix3 0 r l) : EReal) = grad m c (((cfg0.win 5).blk t).view.emb (ix3 0 r l : S1x256x1028.Idx))
  rw [emb5, out5_apply, grad_blk]
theorem flushed6_eq (c : Dev nD) (t : Fin cfg0.N) : (dats m 0 c).flushed 6 t
    = ((cfg0.win 6).blk t).view.read (Elt Ideal) (deltas (argW m c) (grad m c) (argM m c) (argV m c)) := by
  rw [flushed6]; funext j
  obtain ⟨r, l, rfl⟩ := ix_blk j
  show (out0_6 (F := Ideal) (grid0.coords t) _ _ _ _ _ (ix3 0 r l) : EReal) = deltas _ (grad m c) _ _ (((cfg0.win 6).blk t).view.emb (ix3 0 r l : S1x256x1028.Idx))
  rw [emb6, out6_apply, grad_blk, iblk0_apply, iblk1_apply, iblk2_apply]
theorem flushed7_eq (c : Dev nD) (t : Fin cfg0.N) : (dats m 0 c).flushed 7 t
    = ((cfg0.win 7).blk t).view.read (Elt Ideal) (moms1 (grad m c) (argM m c)) := by
  rw [flushed7]; funext j
  obtain ⟨r, l, rfl⟩ := ix_blk j
  show (out0_7 (F := Ideal) (grid0.coords t) _ _ _ _ _ (ix3 0 r l) : EReal) = moms1 (grad m c) _ (((cfg0.win 7).blk t).view.emb (ix3 0 r l : S1x256x1028.Idx))
  rw [emb7, out7_apply, grad_blk, iblk1_apply]
theorem flushed8_eq (c : Dev nD) (t : Fin cfg0.N) : (dats m 0 c).flushed 8 t
    = ((cfg0.win 8).blk t).view.read (Elt Ideal) (moms2 (grad m c) (argV m c)) := by
  rw [flushed8]; funext j
  obtain ⟨r, l, rfl⟩ := ix_blk j
  show (out0_8 (F := Ideal) (grid0.coords t) _ _ _ _ _ (ix3 0 r l) : EReal) = moms2 (grad m c) _ (((cfg0.win 8).blk t).view.emb (ix3 0 r l : S1x256x1028.Idx))
  rw [emb8, out8_apply, grad_blk, iblk2_apply]

/-- Every index of the array is one of a block. -/
theorem cover (i : S2x1024x1028.Idx) : ∃ (t : Fin cfg0.N) (r : Fin 256) (l : Fin 1028), i = (ix3 (lay t) (row t r) l : S2x1024x1028.Idx) := by
  have h0 : (i 0).val < 2 := (i 0).isLt
  have h1 : (i 1).val < 1024 := (i 1).isLt
  obtain ⟨t, ht⟩ : ∃ t : Fin cfg0.N, t.val = 4 * (i 0).val + (i 1).val / 256 := ⟨⟨4 * (i 0).val + (i 1).val / 256, by have : cfg0.N = 8 := N_0; omega⟩, rfl⟩
  refine ⟨t, ⟨(i 1).val % 256, by omega⟩, i 2, ?_⟩
  funext a; apply Fin.ext
  match a with
  | ⟨0, _⟩ => show (i 0).val = t.val / 4; omega
  | ⟨1, _⟩ => show (i 1).val = 256 * (t.val % 4) + (i 1).val % 256; omega
  | ⟨2, _⟩ => rfl

theorem final5 (c : Dev nD) : (dats m 0 c).arrAt 5 cfg0.N = grad m c :=
  (dats m 0 c).arrAt_eq_of_cover 5 _ (fun t _ => flushed5_eq m c t) fun i => by
    obtain ⟨t, r, l, hi⟩ := cover i
    exact ⟨t, flush0_5 t, by rw [hi, ← emb5]; exact ((cfg0.win 5).blk t).view.emb_mem_set _⟩
theorem final6 (c : Dev nD) : (dats m 0 c).arrAt 6 cfg0.N = deltas (argW m c) (grad m c) (argM m c) (argV m c) :=
  (dats m 0 c).arrAt_eq_of_cover 6 _ (fun t _ => flushed6_eq m c t) fun i => by
    obtain ⟨t, r, l, hi⟩ := cover i
    exact ⟨t, flush0_6 t, by rw [hi, ← emb6]; exact ((cfg0.win 6).blk t).view.emb_mem_set _⟩
theorem final7 (c : Dev nD) : (dats m 0 c).arrAt 7 cfg0.N = moms1 (grad m c) (argM m c) :=
  (dats m 0 c).arrAt_eq_of_cover 7 _ (fun t _ => flushed7_eq m c t) fun i => by
    obtain ⟨t, r, l, hi⟩ := cover i
    exact ⟨t, flush0_7 t, by rw [hi, ← emb7]; exact ((cfg0.win 7).blk t).view.emb_mem_set _⟩
theorem final8 (c : Dev nD) : (dats m 0 c).arrAt 8 cfg0.N = moms2 (grad m c) (argV m c) :=
  (dats m 0 c).arrAt_eq_of_cover 8 _ (fun t _ => flushed8_eq m c t) fun i => by
    obtain ⟨t, r, l, hi⟩ := cover i
    exact ⟨t, flush0_8 t, by rw [hi, ← emb8]; exact ((cfg0.win 8).blk t).view.emb_mem_set _⟩

end Cert.Kernel17Ideal.Adam

namespace Cert.Adam

open Cert.Kernel17Ideal.Adam

theorem algebraic17 : Cert.algebraic_Kernel17Ideal_Reference17Ideal (hKernel17Ideal := Cert.Kernel17Ideal.Gen.facts)
    (hReference17Ideal := Cert.Reference17Ideal.Gen.facts) := by
  intro m g m' g' _ hm
  refine ⟨fun c => grad m c, fun c => deltas (argW m c) (grad m c) (argM m c) (argV m c),
    fun c => moms1 (grad m c) (argM m c), fun c => moms2 (grad m c) (argV m c),
    (θ_run _ _ _).mono (fun r h c => ⟨(h c).1.trans (final5 m c), (h c).2.1.trans (final6 m c), (h c).2.2.1.trans (final7 m c),
      (h c).2.2.2.1.trans (final8 m c), (h c).2.2.2.2⟩) (Cert.Kernel17Ideal.Value.run_blocks m g),
    (θ_run _ _ _).mono (fun r h c => ?_) (Cert.Reference17Ideal.Value.run m' g')⟩
  obtain ⟨e0, e1, e2, e3, e4⟩ := hm c
  have hc := fun x y => concat_eq (n := 2) (h := 512) (R := 1024) (c := 1028) rfl x y Cert.Reference17Ideal.Gen.concatenates_S2x512x1028_S2x512x1028_S2x1024x1028_d1
  refine ⟨(h c).1.trans ?_, (h c).2.1.trans ?_, (h c).2.2.1.trans ?_, (h c).2.2.2.1.trans ?_, (h c).2.2.2.2⟩
  · rw [e3, e4]; exact hc _ _
  · rw [e0, e1, e2, e3, e4]
    refine (Cert.Reference17Ideal.Read.val_main_v24_eq (F := Ideal) _ _ _ _ _).trans (funext fun j => ?_)
    show _ = delta _ (joined _ _ _ j) _ _
    rw [← hc]; rfl
  · rw [e1, e3, e4]
    refine (Cert.Reference17Ideal.Read.val_main_v5_eq (F := Ideal) _ _ _).trans (funext fun j => ?_)
    show _ = mom1 (joined _ _ _ j) _
    rw [← hc]; rfl
  · rw [e2, e3, e4]
    refine (Cert.Reference17Ideal.Read.val_main_v11_eq (F := Ideal) _ _ _).trans (funext fun j => ?_)
    show _ = mom2 (joined _ _ _ j) _
    rw [← hc]; rfl

end Cert.Adam

end
-- ==== Proof.Halves18.lean ====
/-
  The optimiser's step on the stacked output projections, whose gradient arrives as two halves of the rows: the kernel's four
  blocks take their gradient from the half they lie in, so the four results are the entries of the step at the two halves put
  together.
-/
module

public import proofs.«01_k».proof.Defs
public import proofs.«01_k».proof.Proof.AdamSpec
public import proofs.«01_k».proof.Proof.AdamJoin
public import proofs.«01_k».proof.Proof.AdamSmall
public import proofs.«01_k».proof.Proof.Gen.Kernel18Ideal.Value
public import proofs.«01_k».proof.Proof.Gen.Reference18Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)
open Cert.Adam (mom1 mom2 delta deltas moms1 moms2 joined)

namespace Cert.Kernel18Ideal.Adam

open Cert.Kernel18Ideal Cert.Kernel18Ideal.Gen Cert.Kernel18Ideal.Value

theorem off3 : (![0, 0, 0] : Fin 3 → Nat) = fun _ => 0 := by funext a; fin_cases a <;> rfl

/-- A block's gradient: the first half's below the first tile, the other half's from there. -/
theorem pay6_apply (i : grid0.Coords) (x y : Vec Ideal S1x128x1024 .f32) (r : Fin 128) (l : Fin 1024) :
    k0_pay6 i x y (ix2 r l) = if (i 1).val < 1 then x (ix3 0 r l) else y (ix3 0 r l) := by
  obtain ⟨q, hq⟩ : ∃ q : Fin 2, (i 1).val = q.val := ⟨⟨(i 1).val, (i 1).isLt⟩, rfl⟩
  have hx : (shapeCast S128x1024 x shapeCasts_S1x128x1024_S128x1024 : FVec Ideal S128x1024 .f32) (ix2 r l) = x (ix3 0 r l) := by pointwise
  have hy : (shapeCast S128x1024 y shapeCasts_S1x128x1024_S128x1024 : FVec Ideal S128x1024 .f32) (ix2 r l) = y (ix3 0 r l) := by pointwise
  unfold k0_pay6
  rw [hq, ← hx, ← hy]
  fin_cases q <;> rfl

variable (i : grid0.Coords) (w m v x y : Vec Ideal S1x128x1024 .f32) (r : Fin 128) (l : Fin 1024)

theorem out5_apply : out0_5 i w m v x y (ix3 0 r l) = if (i 1).val < 1 then x (ix3 0 r l) else y (ix3 0 r l) := by
  unfold out0_5
  rw [View.canon_unit_zero off3, View.ld_unit_zero (S := S1x128x1024) off3, View.ld_unit_zero (S := S1x128x1024) off3, ← pay6_apply]
  pointwise [k0_pay2]

theorem out7_apply : out0_7 i w m v x y (ix3 0 r l)
    = mom1 (if (i 1).val < 1 then x (ix3 0 r l) else y (ix3 0 r l)) (m (ix3 0 r l)) := by
  unfold out0_7 k0_pay10
  rw [View.canon_unit_zero off3, View.ld_unit_zero (S := S1x128x1024) off3, View.ld_unit_zero (S := S1x128x1024) off3,
    View.ld_unit_zero (S := S1x128x1024) off3, ← pay6_apply]
  pointwise [k0_pay4, k0_pay7]
  rfl

theorem out8_apply : out0_8 i w m v x y (ix3 0 r l)
    = mom2 (if (i 1).val < 1 then x (ix3 0 r l) else y (ix3 0 r l)) (v (ix3 0 r l)) := by
  unfold out0_8 k0_pay11 k0_pay12
  rw [View.canon_unit_zero off3, View.ld_unit_zero (S := S1x128x1024) off3, View.ld_unit_zero (S := S1x128x1024) off3,
    View.ld_unit_zero (S := S1x128x1024) off3, ← pay6_apply]
  pointwise [k0_pay5, k0_pay1, k0_pay8, k0_pay9]
  rfl

theorem out6_apply : out0_6 i w m v x y (ix3 0 r l)
    = delta (w (ix3 0 r l)) (if (i 1).val < 1 then x (ix3 0 r l) else y (ix3 0 r l)) (m (ix3 0 r l)) (v (ix3 0 r l)) := by
  rw [Cert.Adam.named_eq κ rfl rfl]
  unfold out0_6 k0_pay10 k0_pay11 k0_pay12
  rw [View.canon_unit_zero off3, View.ld_unit_zero (S := S1x128x1024) off3, View.ld_unit_zero (S := S1x128x1024) off3,
    View.ld_unit_zero (S := S1x128x1024) off3, View.ld_unit_zero (S := S1x128x1024) off3, View.ld_unit_zero (S := S1x128x1024) off3, ← pay6_apply]
  pointwise [k0_pay3, k0_pay1, k0_pay7, k0_pay8, k0_pay9]
  rfl

/-- Block `t` is that of layer `t / 2` and of the rows from `128 * (t % 2)`. -/
abbrev lay (t : Fin cfg0.N) : Fin 2 := ⟨t.val / 2, by have := t.isLt; have : cfg0.N = 4 := N_0; omega⟩
abbrev row (t : Fin cfg0.N) (r : Fin 128) : Fin 256 := ⟨128 * (t.val % 2) + r.val, by omega⟩
abbrev half (t : Fin cfg0.N) (r : Fin 128) : Fin 128 := ⟨128 * (t.val % 2 % 1) + r.val, by omega⟩

abbrev Full (f : Fin 3 → Nat) (t : Nat) : Prop := f 0 = t / 2 ∧ f 1 = t % 2 ∧ f 2 = 0
abbrev Half (f : Fin 3 → Nat) (t : Nat) : Prop := f 0 = t / 2 ∧ f 1 = t % 2 % 1 ∧ f 2 = 0

theorem coord1 : ∀ t : Fin cfg0.N, (grid0.coords t 1).val = t.val % 2 := (by decide +kernel : ∀ t : Fin grid0.N, _)
theorem idxA : ∀ t : Fin cfg0.N, Full (win0_0.index t) t ∧ Full (win0_1.index t) t ∧ Full (win0_2.index t) t :=
  (by decide +kernel : ∀ t : Fin grid0.N, _)
theorem idxB : ∀ t : Fin cfg0.N, Half (win0_3.index t) t ∧ Half (win0_4.index t) t := (by decide +kernel : ∀ t : Fin grid0.N, _)
theorem idxC : ∀ t : Fin cfg0.N, Full (win0_5.index t) t ∧ Full (win0_6.index t) t ∧ Full (win0_7.index t) t ∧ Full (win0_8.index t) t :=
  (by decide +kernel : ∀ t : Fin grid0.N, _)

theorem full {f : Fin 3 → Nat} {t : Fin cfg0.N} (h : Full f t) : f 0 = (lay t).val ∧ f 1 * 128 + r.val = (row t r).val ∧ f 2 = 0 :=
  ⟨h.1, by show f 1 * 128 + r.val = 128 * (t.val % 2) + r.val; rw [h.2.1, Nat.mul_comm], h.2.2⟩
theorem halves {f : Fin 3 → Nat} {t : Fin cfg0.N} (h : Half f t) : f 0 = (lay t).val ∧ f 1 * 128 + r.val = (half t r).val ∧ f 2 = 0 :=
  ⟨h.1, by show f 1 * 128 + r.val = 128 * (t.val % 2 % 1) + r.val; rw [h.2.1, Nat.mul_comm], h.2.2⟩

theorem emb5 (t : Fin cfg0.N) : ((cfg0.win 5).blk t).view.emb (ix3 0 r l : S1x128x1024.Idx) = (ix3 (lay t) (row t r) l : S2x256x1024.Idx) :=
  Cert.Adam.at_ix3 128 _ _ _ l _ (full r (idxC t).1) _ rfl rfl rfl
theorem emb6 (t : Fin cfg0.N) : ((cfg0.win 6).blk t).view.emb (ix3 0 r l : S1x128x1024.Idx) = (ix3 (lay t) (row t r) l : S2x256x1024.Idx) :=
  Cert.Adam.at_ix3 128 _ _ _ l _ (full r (idxC t).2.1) _ rfl rfl rfl
theorem emb7 (t : Fin cfg0.N) : ((cfg0.win 7).blk t).view.emb (ix3 0 r l : S1x128x1024.Idx) = (ix3 (lay t) (row t r) l : S2x256x1024.Idx) :=
  Cert.Adam.at_ix3 128 _ _ _ l _ (full r (idxC t).2.2.1) _ rfl rfl rfl
theorem emb8 (t : Fin cfg0.N) : ((cfg0.win 8).blk t).view.emb (ix3 0 r l : S1x128x1024.Idx) = (ix3 (lay t) (row t r) l : S2x256x1024.Idx) :=
  Cert.Adam.at_ix3 128 _ _ _ l _ (full r (idxC t).2.2.2) _ rfl rfl rfl

variable (m : (ℓ : Loc nD τ sig) → Buf (Elt Ideal) ℓ) (ρ : Dev nD → PrngReg)

abbrev argW (c : Dev nD) : Vec Ideal S2x256x1024 .f32 := m ((c : Thread nD τ).loc main_arg0)
abbrev argM (c : Dev nD) : Vec Ideal S2x256x1024 .f32 := m ((c : Thread nD τ).loc main_arg1)
abbrev argV (c : Dev nD) : Vec Ideal S2x256x1024 .f32 := m ((c : Thread nD τ).loc main_arg2)
abbrev argX (c : Dev nD) : Vec Ideal S2x128x1024 .f32 := m ((c : Thread nD τ).loc main_arg3)
abbrev argY (c : Dev nD) : Vec Ideal S2x128x1024 .f32 := m ((c : Thread nD τ).loc main_arg4)

theorem iblk0_apply (c : Dev nD) (t : Fin cfg0.N) :
    (iblk m c 0 t : Vec Ideal S1x128x1024 .f32) (ix3 0 r l) = argW m c (ix3 (lay t) (row t r) l) := by
  show V m c main_arg0 _ = m (c.tc.loc main_arg0) _
  rw [V_main_arg0]
  exact congrArg _ (Cert.Adam.at_ix3 128 _ _ _ l _ (full r (idxA t).1) _ rfl rfl rfl)
theorem iblk1_apply (c : Dev nD) (t : Fin cfg0.N) :
    (iblk m c 1 t : Vec Ideal S1x128x1024 .f32) (ix3 0 r l) = argM m c (ix3 (lay t) (row t r) l) := by
  show V m c main_arg1 _ = m (c.tc.loc main_arg1) _
  rw [V_main_arg1]
  exact congrArg _ (Cert.Adam.at_ix3 128 _ _ _ l _ (full r (idxA t).2.1) _ rfl rfl rfl)
theorem iblk2_apply (c : Dev nD) (t : Fin cfg0.N) :
    (iblk m c 2 t : Vec Ideal S1x128x1024 .f32) (ix3 0 r l) = argV m c (ix3 (lay t) (row t r) l) := by
  show V m c main_arg2 _ = m (c.tc.loc main_arg2) _
  rw [V_main_arg2]
  exact congrArg _ (Cert.Adam.at_ix3 128 _ _ _ l _ (full r (idxA t).2.2) _ rfl rfl rfl)
theorem iblk3_apply (c : Dev nD) (t : Fin cfg0.N) :
    (iblk m c 3 t : Vec Ideal S1x128x1024 .f32) (ix3 0 r l) = argX m c (ix3 (lay t) (half t r) l) := by
  show V m c main_arg3 _ = m (c.tc.loc main_arg3) _
  rw [V_main_arg3]
  exact congrArg _ (Cert.Adam.at_ix3 128 _ _ _ l _ (halves r (idxB t).1) _ rfl rfl rfl)
theorem iblk4_apply (c : Dev nD) (t : Fin cfg0.N) :
    (iblk m c 4 t : Vec Ideal S1x128x1024 .f32) (ix3 0 r l) = argY m c (ix3 (lay t) (half t r) l) := by
  show V m c main_arg4 _ = m (c.tc.loc main_arg4) _
  rw [V_main_arg4]
  exact congrArg _ (Cert.Adam.at_ix3 128 _ _ _ l _ (halves r (idxB t).2) _ rfl rfl rfl)

/-- The whole gradient. -/
abbrev grad (c : Dev nD) : Vec Ideal S2x256x1024 .f32 := joined (n := 2) (h := 128) (R := 256) (c := 1024) rfl (argX m c) (argY m c)

/-- The half a block reads is the half of the whole gradient it lies in. -/
theorem grad_blk (c : Dev nD) (t : Fin cfg0.N) :
    (if (grid0.coords t 1).val < 1 then (iblk m c 3 t : Vec Ideal S1x128x1024 .f32) (ix3 0 r l)
      else (iblk m c 4 t : Vec Ideal S1x128x1024 .f32) (ix3 0 r l)) = grad m c (ix3 (lay t) (row t r) l) := by
  rw [iblk3_apply, iblk4_apply, coord1]
  exact Cert.Adam.joined_tile (n := 2) (h := 128) (R := 256) (c := 1024) rfl _ _ 128 1 _ r.val rfl (by omega) _ _ _ _ rfl rfl

theorem ix_blk (j : S1x128x1024.Idx) : ∃ (r : Fin 128) (l : Fin 1024), j = (ix3 0 r l : S1x128x1024.Idx) :=
  ⟨j 1, j 2, (eq_ix3 j).trans (congrArg (fun s => (ix3 s (j 1) (j 2) : S1x128x1024.Idx)) (Subsingleton.elim (α := Fin 1) _ _))⟩

theorem flushed5_eq (c : Dev nD) (t : Fin cfg0.N) : (dats m 0 c).flushed 5 t
    = ((cfg0.win 5).blk t).view.read (Elt Ideal) (grad m c) := by
  rw [flushed5]; funext j
  obtain ⟨r, l, rfl⟩ := ix_blk j
  show (out0_5 (F := Ideal) (grid0.coords t) _ _ _ _ _ (ix3 0 r l) : EReal) = grad m c (((cfg0.win 5).blk t).view.emb (ix3 0 r l : S1x128x1024.Idx))
  rw [emb5, out5_apply, grad_blk]
theorem flushed6_eq (c : Dev nD) (t : Fin cfg0.N) : (dats m 0 c).flushed 6 t
    = ((cfg0.win 6).blk t).view.read (Elt Ideal) (deltas (argW m c) (grad m c) (argM m c) (argV m c)) := by
  rw [flushed6]; funext j
  obtain ⟨r, l, rfl⟩ := ix_blk j
  show (out0_6 (F := Ideal) (grid0.coords t) _ _ _ _ _ (ix3 0 r l) : EReal) = deltas _ (grad m c) _ _ (((cfg0.win 6).blk t).view.emb (ix3 0 r l : S1x128x1024.Idx))
  rw [emb6, out6_apply, grad_blk, iblk0_apply, iblk1_apply, iblk2_apply]
theorem flushed7_eq (c : Dev nD) (t : Fin cfg0.N) : (dats m 0 c).flushed 7 t
    = ((cfg0.win 7).blk t).view.read (Elt Ideal) (moms1 (grad m c) (argM m c)) := by
  rw [flushed7]; funext j
  obtain ⟨r, l, rfl⟩ := ix_blk j
  show (out0_7 (F := Ideal) (grid0.coords t) _ _ _ _ _ (ix3 0 r l) : EReal) = moms1 (grad m c) _ (((cfg0.win 7).blk t).view.emb (ix3 0 r l : S1x128x1024.Idx))
  rw [emb7, out7_apply, grad_blk, iblk1_apply]
theorem flushed8_eq (c : Dev nD) (t : Fin cfg0.N) : (dats m 0 c).flushed 8 t
    = ((cfg0.win 8).blk t).view.read (Elt Ideal) (moms2 (grad m c) (argV m c)) := by
  rw [flushed8]; funext j
  obtain ⟨r, l, rfl⟩ := ix_blk j
  show (out0_8 (F := Ideal) (grid0.coords t) _ _ _ _ _ (ix3 0 r l) : EReal) = moms2 (grad m c) _ (((cfg0.win 8).blk t).view.emb (ix3 0 r l : S1x128x1024.Idx))
  rw [emb8, out8_apply, grad_blk, iblk2_apply]

/-- Every index of the array is one of a block. -/
theorem cover (i : S2x256x1024.Idx) : ∃ (t : Fin cfg0.N) (r : Fin 128) (l : Fin 1024), i = (ix3 (lay t) (row t r) l : S2x256x1024.Idx) := by
  have h0 : (i 0).val < 2 := (i 0).isLt
  have h1 : (i 1).val < 256 := (i 1).isLt
  obtain ⟨t, ht⟩ : ∃ t : Fin cfg0.N, t.val = 2 * (i 0).val + (i 1).val / 128 := ⟨⟨2 * (i 0).val + (i 1).val / 128, by have : cfg0.N = 4 := N_0; omega⟩, rfl⟩
  refine ⟨t, ⟨(i 1).val % 128, by omega⟩, i 2, ?_⟩
  funext a; apply Fin.ext
  match a with
  | ⟨0, _⟩ => show (i 0).val = t.val / 2; omega
  | ⟨1, _⟩ => show (i 1).val = 128 * (t.val % 2) + (i 1).val % 128; omega
  | ⟨2, _⟩ => rfl

theorem final5 (c : Dev nD) : (dats m 0 c).arrAt 5 cfg0.N = grad m c :=
  (dats m 0 c).arrAt_eq_of_cover 5 _ (fun t _ => flushed5_eq m c t) fun i => by
    obtain ⟨t, r, l, hi⟩ := cover i
    exact ⟨t, flush0_5 t, by rw [hi, ← emb5]; exact ((cfg0.win 5).blk t).view.emb_mem_set _⟩
theorem final6 (c : Dev nD) : (dats m 0 c).arrAt 6 cfg0.N = deltas (argW m c) (grad m c) (argM m c) (argV m c) :=
  (dats m 0 c).arrAt_eq_of_cover 6 _ (fun t _ => flushed6_eq m c t) fun i => by
    obtain ⟨t, r, l, hi⟩ := cover i
    exact ⟨t, flush0_6 t, by rw [hi, ← emb6]; exact ((cfg0.win 6).blk t).view.emb_mem_set _⟩
theorem final7 (c : Dev nD) : (dats m 0 c).arrAt 7 cfg0.N = moms1 (grad m c) (argM m c) :=
  (dats m 0 c).arrAt_eq_of_cover 7 _ (fun t _ => flushed7_eq m c t) fun i => by
    obtain ⟨t, r, l, hi⟩ := cover i
    exact ⟨t, flush0_7 t, by rw [hi, ← emb7]; exact ((cfg0.win 7).blk t).view.emb_mem_set _⟩
theorem final8 (c : Dev nD) : (dats m 0 c).arrAt 8 cfg0.N = moms2 (grad m c) (argV m c) :=
  (dats m 0 c).arrAt_eq_of_cover 8 _ (fun t _ => flushed8_eq m c t) fun i => by
    obtain ⟨t, r, l, hi⟩ := cover i
    exact ⟨t, flush0_8 t, by rw [hi, ← emb8]; exact ((cfg0.win 8).blk t).view.emb_mem_set _⟩

end Cert.Kernel18Ideal.Adam

namespace Cert.Adam

open Cert.Kernel18Ideal.Adam

theorem algebraic18 : Cert.algebraic_Kernel18Ideal_Reference18Ideal (hKernel18Ideal := Cert.Kernel18Ideal.Gen.facts)
    (hReference18Ideal := Cert.Reference18Ideal.Gen.facts) := by
  intro m g m' g' _ hm
  refine ⟨fun c => grad m c, fun c => deltas (argW m c) (grad m c) (argM m c) (argV m c),
    fun c => moms1 (grad m c) (argM m c), fun c => moms2 (grad m c) (argV m c),
    (θ_run _ _ _).mono (fun r h c => ⟨(h c).1.trans (final5 m c), (h c).2.1.trans (final6 m c), (h c).2.2.1.trans (final7 m c),
      (h c).2.2.2.1.trans (final8 m c), (h c).2.2.2.2⟩) (Cert.Kernel18Ideal.Value.run_blocks m g),
    (θ_run _ _ _).mono (fun r h c => ?_) (Cert.Reference18Ideal.Value.run m' g')⟩
  obtain ⟨e0, e1, e2, e3, e4⟩ := hm c
  have hc := fun x y => concat_eq (n := 2) (h := 128) (R := 256) (c := 1024) rfl x y Cert.Reference18Ideal.Gen.concatenates_S2x128x1024_S2x128x1024_S2x256x1024_d1
  refine ⟨(h c).1.trans ?_, (h c).2.1.trans ?_, (h c).2.2.1.trans ?_, (h c).2.2.2.1.trans ?_, (h c).2.2.2.2⟩
  · rw [e3, e4]; exact hc _ _
  · rw [e0, e1, e2, e3, e4]
    refine (Cert.Reference18Ideal.Read.val_main_v24_eq (F := Ideal) _ _ _ _ _).trans (funext fun j => ?_)
    show _ = delta _ (joined _ _ _ j) _ _
    rw [← hc]; rfl
  · rw [e1, e3, e4]
    refine (Cert.Reference18Ideal.Read.val_main_v5_eq (F := Ideal) _ _ _).trans (funext fun j => ?_)
    show _ = mom1 (joined _ _ _ j) _
    rw [← hc]; rfl
  · rw [e2, e3, e4]
    refine (Cert.Reference18Ideal.Read.val_main_v11_eq (F := Ideal) _ _ _).trans (funext fun j => ?_)
    show _ = mom2 (joined _ _ _ j) _
    rw [← hc]; rfl

end Cert.Adam

end
-- ==== Proof.Halves19.lean ====
/-
  The optimiser's step on the stacked input projections of the HGRN2 layers, whose gradient arrives as two halves of the rows: the kernel's eight
  blocks take their gradient from the half they lie in, so the four results are the entries of the step at the two halves put
  together.
-/
module

public import proofs.«01_k».proof.Defs
public import proofs.«01_k».proof.Proof.AdamSpec
public import proofs.«01_k».proof.Proof.AdamJoin
public import proofs.«01_k».proof.Proof.AdamSmall
public import proofs.«01_k».proof.Proof.Gen.Kernel19Ideal.Value
public import proofs.«01_k».proof.Proof.Gen.Reference19Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)
open Cert.Adam (mom1 mom2 delta deltas moms1 moms2 joined)

namespace Cert.Kernel19Ideal.Adam

open Cert.Kernel19Ideal Cert.Kernel19Ideal.Gen Cert.Kernel19Ideal.Value

theorem off3 : (![0, 0, 0] : Fin 3 → Nat) = fun _ => 0 := by funext a; fin_cases a <;> rfl

/-- A block's gradient: the first half's below the second tile, the other half's from there. -/
theorem pay6_apply (i : grid0.Coords) (x y : Vec Ideal S1x256x1024 .f32) (r : Fin 256) (l : Fin 1024) :
    k0_pay6 i x y (ix2 r l) = if (i 1).val < 2 then x (ix3 0 r l) else y (ix3 0 r l) := by
  obtain ⟨q, hq⟩ : ∃ q : Fin 4, (i 1).val = q.val := ⟨⟨(i 1).val, (i 1).isLt⟩, rfl⟩
  have hx : (shapeCast S256x1024 x shapeCasts_S1x256x1024_S256x1024 : FVec Ideal S256x1024 .f32) (ix2 r l) = x (ix3 0 r l) := by pointwise
  have hy : (shapeCast S256x1024 y shapeCasts_S1x256x1024_S256x1024 : FVec Ideal S256x1024 .f32) (ix2 r l) = y (ix3 0 r l) := by pointwise
  unfold k0_pay6
  rw [hq, ← hx, ← hy]
  fin_cases q <;> rfl

variable (i : grid0.Coords) (w m v x y : Vec Ideal S1x256x1024 .f32) (r : Fin 256) (l : Fin 1024)

theorem out5_apply : out0_5 i w m v x y (ix3 0 r l) = if (i 1).val < 2 then x (ix3 0 r l) else y (ix3 0 r l) := by
  unfold out0_5
  rw [View.canon_unit_zero off3, View.ld_unit_zero (S := S1x256x1024) off3, View.ld_unit_zero (S := S1x256x1024) off3, ← pay6_apply]
  pointwise [k0_pay2]

theorem out7_apply : out0_7 i w m v x y (ix3 0 r l)
    = mom1 (if (i 1).val < 2 then x (ix3 0 r l) else y (ix3 0 r l)) (m (ix3 0 r l)) := by
  unfold out0_7 k0_pay10
  rw [View.canon_unit_zero off3, View.ld_unit_zero (S := S1x256x1024) off3, View.ld_unit_zero (S := S1x256x1024) off3,
    View.ld_unit_zero (S := S1x256x1024) off3, ← pay6_apply]
  pointwise [k0_pay4, k0_pay7]
  rfl

theorem out8_apply : out0_8 i w m v x y (ix3 0 r l)
    = mom2 (if (i 1).val < 2 then x (ix3 0 r l) else y (ix3 0 r l)) (v (ix3 0 r l)) := by
  unfold out0_8 k0_pay11 k0_pay12
  rw [View.canon_unit_zero off3, View.ld_unit_zero (S := S1x256x1024) off3, View.ld_unit_zero (S := S1x256x1024) off3,
    View.ld_unit_zero (S := S1x256x1024) off3, ← pay6_apply]
  pointwise [k0_pay5, k0_pay1, k0_pay8, k0_pay9]
  rfl

theorem out6_apply : out0_6 i w m v x y (ix3 0 r l)
    = delta (w (ix3 0 r l)) (if (i 1).val < 2 then x (ix3 0 r l) else y (ix3 0 r l)) (m (ix3 0 r l)) (v (ix3 0 r l)) := by
  rw [Cert.Adam.named_eq κ rfl rfl]
  unfold out0_6 k0_pay10 k0_pay11 k0_pay12
  rw [View.canon_unit_zero off3, View.ld_unit_zero (S := S1x256x1024) off3, View.ld_unit_zero (S := S1x256x1024) off3,
    View.ld_unit_zero (S := S1x256x1024) off3, View.ld_unit_zero (S := S1x256x1024) off3, View.ld_unit_zero (S := S1x256x1024) off3, ← pay6_apply]
  pointwise [k0_pay3, k0_pay1, k0_pay7, k0_pay8, k0_pay9]
  rfl

/-- Block `t` is that of layer `t / 4` and of the rows from `256 * (t % 4)`. -/
abbrev lay (t : Fin cfg0.N) : Fin 2 := ⟨t.val / 4, by have := t.isLt; have : cfg0.N = 8 := N_0; omega⟩
abbrev row (t : Fin cfg0.N) (r : Fin 256) : Fin 1024 := ⟨256 * (t.val % 4) + r.val, by omega⟩
abbrev half (t : Fin cfg0.N) (r : Fin 256) : Fin 512 := ⟨256 * (t.val % 4 % 2) + r.val, by omega⟩

abbrev Full (f : Fin 3 → Nat) (t : Nat) : Prop := f 0 = t / 4 ∧ f 1 = t % 4 ∧ f 2 = 0
abbrev Half (f : Fin 3 → Nat) (t : Nat) : Prop := f 0 = t / 4 ∧ f 1 = t % 4 % 2 ∧ f 2 = 0

theorem coord1 : ∀ t : Fin cfg0.N, (grid0.coords t 1).val = t.val % 4 := (by decide +kernel : ∀ t : Fin grid0.N, _)
theorem idxA : ∀ t : Fin cfg0.N, Full (win0_0.index t) t ∧ Full (win0_1.index t) t ∧ Full (win0_2.index t) t :=
  (by decide +kernel : ∀ t : Fin grid0.N, _)
theorem idxB : ∀ t : Fin cfg0.N, Half (win0_3.index t) t ∧ Half (win0_4.index t) t := (by decide +kernel : ∀ t : Fin grid0.N, _)
theorem idxC : ∀ t : Fin cfg0.N, Full (win0_5.index t) t ∧ Full (win0_6.index t) t ∧ Full (win0_7.index t) t ∧ Full (win0_8.index t) t :=
  (by decide +kernel : ∀ t : Fin grid0.N, _)

theorem full {f : Fin 3 → Nat} {t : Fin cfg0.N} (h : Full f t) : f 0 = (lay t).val ∧ f 1 * 256 + r.val = (row t r).val ∧ f 2 = 0 :=
  ⟨h.1, by show f 1 * 256 + r.val = 256 * (t.val % 4) + r.val; rw [h.2.1, Nat.mul_comm], h.2.2⟩
theorem halves {f : Fin 3 → Nat} {t : Fin cfg0.N} (h : Half f t) : f 0 = (lay t).val ∧ f 1 * 256 + r.val = (half t r).val ∧ f 2 = 0 :=
  ⟨h.1, by show f 1 * 256 + r.val = 256 * (t.val % 4 % 2) + r.val; rw [h.2.1, Nat.mul_comm], h.2.2⟩

theorem emb5 (t : Fin cfg0.N) : ((cfg0.win 5).blk t).view.emb (ix3 0 r l : S1x256x1024.Idx) = (ix3 (lay t) (row t r) l : S2x1024x1024.Idx) :=
  Cert.Adam.at_ix3 256 _ _ _ l _ (full r (idxC t).1) _ rfl rfl rfl
theorem emb6 (t : Fin cfg0.N) : ((cfg0.win 6).blk t).view.emb (ix3 0 r l : S1x256x1024.Idx) = (ix3 (lay t) (row t r) l : S2x1024x1024.Idx) :=
  Cert.Adam.at_ix3 256 _ _ _ l _ (full r (idxC t).2.1) _ rfl rfl rfl
theorem emb7 (t : Fin cfg0.N) : ((cfg0.win 7).blk t).view.emb (ix3 0 r l : S1x256x1024.Idx) = (ix3 (lay t) (row t r) l : S2x1024x1024.Idx) :=
  Cert.Adam.at_ix3 256 _ _ _ l _ (full r (idxC t).2.2.1) _ rfl rfl rfl
theorem emb8 (t : Fin cfg0.N) : ((cfg0.win 8).blk t).view.emb (ix3 0 r l : S1x256x1024.Idx) = (ix3 (lay t) (row t r) l : S2x1024x1024.Idx) :=
  Cert.Adam.at_ix3 256 _ _ _ l _ (full r (idxC t).2.2.2) _ rfl rfl rfl

variable (m : (ℓ : Loc nD τ sig) → Buf (Elt Ideal) ℓ) (ρ : Dev nD → PrngReg)

abbrev argW (c : Dev nD) : Vec Ideal S2x1024x1024 .f32 := m ((c : Thread nD τ).loc main_arg0)
abbrev argM (c : Dev nD) : Vec Ideal S2x1024x1024 .f32 := m ((c : Thread nD τ).loc main_arg1)
abbrev argV (c : Dev nD) : Vec Ideal S2x1024x1024 .f32 := m ((c : Thread nD τ).loc main_arg2)
abbrev argX (c : Dev nD) : Vec Ideal S2x512x1024 .f32 := m ((c : Thread nD τ).loc main_arg3)
abbrev argY (c : Dev nD) : Vec Ideal S2x512x1024 .f32 := m ((c : Thread nD τ).loc main_arg4)

theorem iblk0_apply (c : Dev nD) (t : Fin cfg0.N) :
    (iblk m c 0 t : Vec Ideal S1x256x1024 .f32) (ix3 0 r l) = argW m c (ix3 (lay t) (row t r) l) := by
  show V m c main_arg0 _ = m (c.tc.loc main_arg0) _
  rw [V_main_arg0]
  exact congrArg _ (Cert.Adam.at_ix3 256 _ _ _ l _ (full r (idxA t).1) _ rfl rfl rfl)
theorem iblk1_apply (c : Dev nD) (t : Fin cfg0.N) :
    (iblk m c 1 t : Vec Ideal S1x256x1024 .f32) (ix3 0 r l) = argM m c (ix3 (lay t) (row t r) l) := by
  show V m c main_arg1 _ = m (c.tc.loc main_arg1) _
  rw [V_main_arg1]
  exact congrArg _ (Cert.Adam.at_ix3 256 _ _ _ l _ (full r (idxA t).2.1) _ rfl rfl rfl)
theorem iblk2_apply (c : Dev nD) (t : Fin cfg0.N) :
    (iblk m c 2 t : Vec Ideal S1x256x1024 .f32) (ix3 0 r l) = argV m c (ix3 (lay t) (row t r) l) := by
  show V m c main_arg2 _ = m (c.tc.loc main_arg2) _
  rw [V_main_arg2]
  exact congrArg _ (Cert.Adam.at_ix3 256 _ _ _ l _ (full r (idxA t).2.2) _ rfl rfl rfl)
theorem iblk3_apply (c : Dev nD) (t : Fin cfg0.N) :
    (iblk m c 3 t : Vec Ideal S1x256x1024 .f32) (ix3 0 r l) = argX m c (ix3 (lay t) (half t r) l) := by
  show V m c main_arg3 _ = m (c.tc.loc main_arg3) _
  rw [V_main_arg3]
  exact congrArg _ (Cert.Adam.at_ix3 256 _ _ _ l _ (halves r (idxB t).1) _ rfl rfl rfl)
theorem iblk4_apply (c : Dev nD) (t : Fin cfg0.N) :
    (iblk m c 4 t : Vec Ideal S1x256x1024 .f32) (ix3 0 r l) = argY m c (ix3 (lay t) (half t r) l) := by
  show V m c main_arg4 _ = m (c.tc.loc main_arg4) _
  rw [V_main_arg4]
  exact congrArg _ (Cert.Adam.at_ix3 256 _ _ _ l _ (halves r (idxB t).2) _ rfl rfl rfl)

/-- The whole gradient. -/
abbrev grad (c : Dev nD) : Vec Ideal S2x1024x1024 .f32 := joined (n := 2) (h := 512) (R := 1024) (c := 1024) rfl (argX m c) (argY m c)

/-- The half a block reads is the half of the whole gradient it lies in. -/
theorem grad_blk (c : Dev nD) (t : Fin cfg0.N) :
    (if (grid0.coords t 1).val < 2 then (iblk m c 3 t : Vec Ideal S1x256x1024 .f32) (ix3 0 r l)
      else (iblk m c 4 t : Vec Ideal S1x256x1024 .f32) (ix3 0 r l)) = grad m c (ix3 (lay t) (row t r) l) := by
  rw [iblk3_apply, iblk4_apply, coord1]
  exact Cert.Adam.joined_tile (n := 2) (h := 512) (R := 1024) (c := 1024) rfl _ _ 256 2 _ r.val rfl (by omega) _ _ _ _ rfl rfl

theorem ix_blk (j : S1x256x1024.Idx) : ∃ (r : Fin 256) (l : Fin 1024), j = (ix3 0 r l : S1x256x1024.Idx) :=
  ⟨j 1, j 2, (eq_ix3 j).trans (congrArg (fun s => (ix3 s (j 1) (j 2) : S1x256x1024.Idx)) (Subsingleton.elim (α := Fin 1) _ _))⟩

theorem flushed5_eq (c : Dev nD) (t : Fin cfg0.N) : (dats m 0 c).flushed 5 t
    = ((cfg0.win 5).blk t).view.read (Elt Ideal) (grad m c) := by
  rw [flushed5]; funext j
  obtain ⟨r, l, rfl⟩ := ix_blk j
  show (out0_5 (F := Ideal) (grid0.coords t) _ _ _ _ _ (ix3 0 r l) : EReal) = grad m c (((cfg0.win 5).blk t).view.emb (ix3 0 r l : S1x256x1024.Idx))
  rw [emb5, out5_apply, grad_blk]
theorem flushed6_eq (c : Dev nD) (t : Fin cfg0.N) : (dats m 0 c).flushed 6 t
    = ((cfg0.win 6).blk t).view.read (Elt Ideal) (deltas (argW m c) (grad m c) (argM m c) (argV m c)) := by
  rw [flushed6]; funext j
  obtain ⟨r, l, rfl⟩ := ix_blk j
  show (out0_6 (F := Ideal) (grid0.coords t) _ _ _ _ _ (ix3 0 r l) : EReal) = deltas _ (grad m c) _ _ (((cfg0.win 6).blk t).view.emb (ix3 0 r l : S1x256x1024.Idx))
  rw [emb6, out6_apply, grad_blk, iblk0_apply, iblk1_apply, iblk2_apply]
theorem flushed7_eq (c : Dev nD) (t : Fin cfg0.N) : (dats m 0 c).flushed 7 t
    = ((cfg0.win 7).blk t).view.read (Elt Ideal) (moms1 (grad m c) (argM m c)) := by
  rw [flushed7]; funext j
  obtain ⟨r, l, rfl⟩ := ix_blk j
  show (out0_7 (F := Ideal) (grid0.coords t) _ _ _ _ _ (ix3 0 r l) : EReal) = moms1 (grad m c) _ (((cfg0.win 7).blk t).view.emb (ix3 0 r l : S1x256x1024.Idx))
  rw [emb7, out7_apply, grad_blk, iblk1_apply]
theorem flushed8_eq (c : Dev nD) (t : Fin cfg0.N) : (dats m 0 c).flushed 8 t
    = ((cfg0.win 8).blk t).view.read (Elt Ideal) (moms2 (grad m c) (argV m c)) := by
  rw [flushed8]; funext j
  obtain ⟨r, l, rfl⟩ := ix_blk j
  show (out0_8 (F := Ideal) (grid0.coords t) _ _ _ _ _ (ix3 0 r l) : EReal) = moms2 (grad m c) _ (((cfg0.win 8).blk t).view.emb (ix3 0 r l : S1x256x1024.Idx))
  rw [emb8, out8_apply, grad_blk, iblk2_apply]

/-- Every index of the array is one of a block. -/
theorem cover (i : S2x1024x1024.Idx) : ∃ (t : Fin cfg0.N) (r : Fin 256) (l : Fin 1024), i = (ix3 (lay t) (row t r) l : S2x1024x1024.Idx) := by
  have h0 : (i 0).val < 2 := (i 0).isLt
  have h1 : (i 1).val < 1024 := (i 1).isLt
  obtain ⟨t, ht⟩ : ∃ t : Fin cfg0.N, t.val = 4 * (i 0).val + (i 1).val / 256 := ⟨⟨4 * (i 0).val + (i 1).val / 256, by have : cfg0.N = 8 := N_0; omega⟩, rfl⟩
  refine ⟨t, ⟨(i 1).val % 256, by omega⟩, i 2, ?_⟩
  funext a; apply Fin.ext
  match a with
  | ⟨0, _⟩ => show (i 0).val = t.val / 4; omega
  | ⟨1, _⟩ => show (i 1).val = 256 * (t.val % 4) + (i 1).val % 256; omega
  | ⟨2, _⟩ => rfl

theorem final5 (c : Dev nD) : (dats m 0 c).arrAt 5 cfg0.N = grad m c :=
  (dats m 0 c).arrAt_eq_of_cover 5 _ (fun t _ => flushed5_eq m c t) fun i => by
    obtain ⟨t, r, l, hi⟩ := cover i
    exact ⟨t, flush0_5 t, by rw [hi, ← emb5]; exact ((cfg0.win 5).blk t).view.emb_mem_set _⟩
theorem final6 (c : Dev nD) : (dats m 0 c).arrAt 6 cfg0.N = deltas (argW m c) (grad m c) (argM m c) (argV m c) :=
  (dats m 0 c).arrAt_eq_of_cover 6 _ (fun t _ => flushed6_eq m c t) fun i => by
    obtain ⟨t, r, l, hi⟩ := cover i
    exact ⟨t, flush0_6 t, by rw [hi, ← emb6]; exact ((cfg0.win 6).blk t).view.emb_mem_set _⟩
theorem final7 (c : Dev nD) : (dats m 0 c).arrAt 7 cfg0.N = moms1 (grad m c) (argM m c) :=
  (dats m 0 c).arrAt_eq_of_cover 7 _ (fun t _ => flushed7_eq m c t) fun i => by
    obtain ⟨t, r, l, hi⟩ := cover i
    exact ⟨t, flush0_7 t, by rw [hi, ← emb7]; exact ((cfg0.win 7).blk t).view.emb_mem_set _⟩
theorem final8 (c : Dev nD) : (dats m 0 c).arrAt 8 cfg0.N = moms2 (grad m c) (argV m c) :=
  (dats m 0 c).arrAt_eq_of_cover 8 _ (fun t _ => flushed8_eq m c t) fun i => by
    obtain ⟨t, r, l, hi⟩ := cover i
    exact ⟨t, flush0_8 t, by rw [hi, ← emb8]; exact ((cfg0.win 8).blk t).view.emb_mem_set _⟩

end Cert.Kernel19Ideal.Adam

namespace Cert.Adam

open Cert.Kernel19Ideal.Adam

theorem algebraic19 : Cert.algebraic_Kernel19Ideal_Reference19Ideal (hKernel19Ideal := Cert.Kernel19Ideal.Gen.facts)
    (hReference19Ideal := Cert.Reference19Ideal.Gen.facts) := by
  intro m g m' g' _ hm
  refine ⟨fun c => grad m c, fun c => deltas (argW m c) (grad m c) (argM m c) (argV m c),
    fun c => moms1 (grad m c) (argM m c), fun c => moms2 (grad m c) (argV m c),
    (θ_run _ _ _).mono (fun r h c => ⟨(h c).1.trans (final5 m c), (h c).2.1.trans (final6 m c), (h c).2.2.1.trans (final7 m c),
      (h c).2.2.2.1.trans (final8 m c), (h c).2.2.2.2⟩) (Cert.Kernel19Ideal.Value.run_blocks m g),
    (θ_run _ _ _).mono (fun r h c => ?_) (Cert.Reference19Ideal.Value.run m' g')⟩
  obtain ⟨e0, e1, e2, e3, e4⟩ := hm c
  have hc := fun x y => concat_eq (n := 2) (h := 512) (R := 1024) (c := 1024) rfl x y Cert.Reference19Ideal.Gen.concatenates_S2x512x1024_S2x512x1024_S2x1024x1024_d1
  refine ⟨(h c).1.trans ?_, (h c).2.1.trans ?_, (h c).2.2.1.trans ?_, (h c).2.2.2.1.trans ?_, (h c).2.2.2.2⟩
  · rw [e3, e4]; exact hc _ _
  · rw [e0, e1, e2, e3, e4]
    refine (Cert.Reference19Ideal.Read.val_main_v24_eq (F := Ideal) _ _ _ _ _).trans (funext fun j => ?_)
    show _ = delta _ (joined _ _ _ j) _ _
    rw [← hc]; rfl
  · rw [e1, e3, e4]
    refine (Cert.Reference19Ideal.Read.val_main_v5_eq (F := Ideal) _ _ _).trans (funext fun j => ?_)
    show _ = mom1 (joined _ _ _ j) _
    rw [← hc]; rfl
  · rw [e2, e3, e4]
    refine (Cert.Reference19Ideal.Read.val_main_v11_eq (F := Ideal) _ _ _).trans (funext fun j => ?_)
    show _ = mom2 (joined _ _ _ j) _
    rw [← hc]; rfl

end Cert.Adam

end
-- ==== Proof.InGdn.lean ====
/-
  The DeltaNet layer's input product: the norm and the product with the weights. What the kernel's eight blocks
  leave, what the reference computes, and that both end with the same two arrays.
-/
module

public import proofs.«01_k».proof.Defs
public import proofs.«01_k».proof.Proof.NormSpec
public import proofs.«01_k».proof.Proof.Gen.Kernel20Ideal.Value
public import proofs.«01_k».proof.Proof.Gen.Reference20Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel20Ideal.In

open Cert.Kernel20Ideal Cert.Kernel20Ideal.Gen Cert.Kernel20Ideal.Value Cert.Norm

theorem off2 : (![0, 0] : Fin 2 → Nat) = fun _ => 0 := by funext a; fin_cases a <;> rfl

/-! ## One block at an entry -/

section Block

variable (h : Vec Ideal S512x1024 .f32) (nw : Vec Ideal S1x1024 .f32) (w : Vec Ideal S1024x4224 .bf16)

/-- An entry of the normed rows. -/
abbrev normed (a : Fin 512) (k : Fin 1024) : EReal := h (ix2 a k) * rsq (fun i => h (ix2 a i)) * nw (ix2 0 k)

theorem pay1_apply (a : Fin 512) (k : Fin 1024) : k0_pay1 h nw (ix2 a k) = normed h nw a k := by
  pointwise [k0_pay1]
  rfl

/-- An entry of the product's block. -/
theorem pay2_apply (a : Fin 512) (l : Fin 4224) : k0_pay2 h nw w (ix2 a l) = ∑ k : Fin 1024, normed h nw a k * w (ix2 k l) := by
  pointwise [k0_pay2]
  simp only [pay1_apply]

theorem out3_apply (a : Fin 512) (k : Fin 1024) : out0_3 h nw w (ix2 a k) = normed h nw a k := by
  unfold out0_3
  rw [View.canon_unit_zero off2, View.ld_unit_zero (S := S512x1024) off2, View.ld_unit_zero (S := S1x1024) off2]
  exact pay1_apply h nw a k

theorem out4_apply (a : Fin 512) (l : Fin 4224) : out0_4 h nw w (ix2 a l) = ∑ k : Fin 1024, normed h nw a k * w (ix2 k l) := by
  unfold out0_4
  rw [View.canon_unit_zero off2, View.ld_unit_zero (S := S512x1024) off2, View.ld_unit_zero (S := S1x1024) off2,
    View.ld_unit_zero (S := S1024x4224) off2]
  exact pay2_apply h nw w a l

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem emb3 (t : Fin cfg0.N) (r : Fin 512) (l : Fin 1024) :
    ((cfg0.win 3).blk t).view.emb (ix2 r l : S512x1024.Idx) = (ix2 (row t r) l : S4096x1024.Idx) := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

theorem mem3 (t : Fin cfg0.N) (r : Fin 512) (l : Fin 1024) :
    (ix2 (row t r) l : S4096x1024.Idx) ∈ ((cfg0.win 3).blk t).view.set := by
  rw [← emb3]; exact ((cfg0.win 3).blk t).view.emb_mem_set _

theorem emb4 (t : Fin cfg0.N) (r : Fin 512) (l : Fin 4224) :
    ((cfg0.win 4).blk t).view.emb (ix2 r l : S512x4224.Idx) = (ix2 (row t r) l : S4096x4224.Idx) := by
  obtain ⟨e0, e1⟩ := idx4 t
  funext a; apply Fin.ext
  match a with
  | ⟨0, _⟩ => show win0_4.index t (0 : Fin 2) * 512 + 1 * r.val = 512 * t.val + r.val; omega
  | ⟨1, _⟩ => show win0_4.index t (1 : Fin 2) * 4224 + 1 * l.val = l.val; omega

theorem mem4 (t : Fin cfg0.N) (r : Fin 512) (l : Fin 4224) :
    (ix2 (row t r) l : S4096x4224.Idx) ∈ ((cfg0.win 4).blk t).view.set := by
  rw [← emb4]; exact ((cfg0.win 4).blk t).view.emb_mem_set _

variable (m : (ℓ : Loc nD τ sig) → Buf (Elt Ideal) ℓ) (ρ : Dev nD → PrngReg)

abbrev argH (c : Dev nD) : Vec Ideal S4096x1024 .f32 := m ((c : Thread nD τ).loc main_arg0)
abbrev argN (c : Dev nD) : Vec Ideal S1x1024 .f32 := m ((c : Thread nD τ).loc main_arg1)
abbrev argW (c : Dev nD) : Vec Ideal S1024x4224 .bf16 := m ((c : Thread nD τ).loc main_arg2)

theorem iblk0_apply (c : Dev nD) (t : Fin cfg0.N) (r : Fin 512) (l : Fin 1024) :
    (iblk m c 0 t : Vec Ideal S512x1024 .f32) (ix2 r l) = argH m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (r : Fin 1) (l : Fin 1024) :
    (iblk m c 1 t : Vec Ideal S1x1024 .f32) (ix2 r l) = argN m c (ix2 r l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1 + 1 * r.val = r.val; omega
  | ⟨1, _⟩ => show win0_1.index t (1 : Fin 2) * 1024 + 1 * l.val = l.val; omega

theorem iblk2_apply (c : Dev nD) (t : Fin cfg0.N) (k : Fin 1024) (l : Fin 4224) :
    (iblk m c 2 t : Vec Ideal S1024x4224 .bf16) (ix2 k l) = argW m c (ix2 k l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 1024 + 1 * k.val = k.val; omega
  | ⟨1, _⟩ => show win0_2.index t (1 : Fin 2) * 4224 + 1 * l.val = l.val; omega

/-! ## What the result arrays hold -/

/-- An entry of the normed array. -/
abbrev norm (h : Vec Ideal S4096x1024 .f32) (nw : Vec Ideal S1x1024 .f32) (r : Fin 4096) (k : Fin 1024) : EReal :=
  h (ix2 r k) * rsq (fun i => h (ix2 r i)) * nw (ix2 0 k)

/-- The normed array. -/
def resY (h : Vec Ideal S4096x1024 .f32) (nw : Vec Ideal S1x1024 .f32) : Vec Ideal S4096x1024 .bf16 := fun j => norm h nw (j 0) (j 1)

/-- Its product with the weights. -/
def resP (h : Vec Ideal S4096x1024 .f32) (nw : Vec Ideal S1x1024 .f32) (w : Vec Ideal S1024x4224 .bf16) :
    Vec Ideal S4096x4224 .bf16 := fun j =>
  ∑ k : Fin 1024, norm h nw (j 0) k * w (ix2 k (j 1))

theorem flushed3_eq (c : Dev nD) (t : Fin cfg0.N) : (dats m 0 c).flushed 3 t
    = ((cfg0.win 3).blk t).view.read (Elt Ideal) (resY (argH m c) (argN m c)) := by
  rw [flushed3]
  funext j
  obtain ⟨r, l, rfl⟩ : ∃ (r : Fin 512) (l : Fin 1024), j = (ix2 r l : S512x1024.Idx) := ⟨j 0, j 1, eq_ix2 j⟩
  show out0_3 (iblk m c 0 t) (iblk m c 1 t) (iblk m c 2 t) (ix2 r l)
    = resY _ _ (((cfg0.win 3).blk t).view.emb (ix2 r l : S512x1024.Idx))
  rw [emb3, out3_apply]
  unfold normed
  simp only [iblk0_apply, iblk1_apply]
  rfl

theorem flushed4_eq (c : Dev nD) (t : Fin cfg0.N) : (dats m 0 c).flushed 4 t
    = ((cfg0.win 4).blk t).view.read (Elt Ideal) (resP (argH m c) (argN m c) (argW m c)) := by
  rw [flushed4]
  funext j
  obtain ⟨r, l, rfl⟩ : ∃ (r : Fin 512) (l : Fin 4224), j = (ix2 r l : S512x4224.Idx) := ⟨j 0, j 1, eq_ix2 j⟩
  show out0_4 (iblk m c 0 t) (iblk m c 1 t) (iblk m c 2 t) (ix2 r l)
    = resP _ _ _ (((cfg0.win 4).blk t).view.emb (ix2 r l : S512x4224.Idx))
  rw [emb4, out4_apply]
  unfold normed
  simp only [iblk0_apply, iblk1_apply, iblk2_apply]
  rfl

theorem final3 (c : Dev nD) : (dats m 0 c).arrAt 3 cfg0.N = resY (argH m c) (argN m c) :=
  (dats m 0 c).arrAt_eq_of_cover 3 _ (fun t _ => flushed3_eq m c t) fun i => by
    obtain ⟨t, r, h⟩ := row_surj (i 0)
    refine ⟨t, flush0_3 t, ?_⟩
    have hi : i = (ix2 (row t r) (i 1) : S4096x1024.Idx) := by rw [h]; exact eq_ix2 i
    rw [hi]
    exact mem3 t r (i 1)

theorem final4 (c : Dev nD) : (dats m 0 c).arrAt 4 cfg0.N = resP (argH m c) (argN m c) (argW m c) :=
  (dats m 0 c).arrAt_eq_of_cover 4 _ (fun t _ => flushed4_eq m c t) fun i => by
    obtain ⟨t, r, h⟩ := row_surj (i 0)
    refine ⟨t, flush0_4 t, ?_⟩
    have hi : i = (ix2 (row t r) (i 1) : S4096x4224.Idx) := by rw [h]; exact eq_ix2 i
    rw [hi]
    exact mem4 t r (i 1)

/-- The kernel's run, with its two result arrays at their values. -/
theorem run : θ_run defs (onTc (τ := τ) (main (F := Ideal))) ⟨m, fun _ => 0, ρ⟩ fun r => ∀ c : Dev nD,
      r.2.mem ((c : Thread nD τ).loc main_v0_0) = resY (argH m c) (argN m c)
      ∧ r.2.mem ((c : Thread nD τ).loc main_v0_1) = resP (argH m c) (argN m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩) (run_blocks m ρ)

end Cert.Kernel20Ideal.In

namespace Cert.InGdn

section Reference

open Cert.Reference20Ideal Cert.Reference20Ideal.Read Cert.Norm Cert.Kernel20Ideal.In

variable (h : Vec Ideal S4096x1024 .f32) (nw : Vec Ideal S1x1024 .f32) (w : Vec Ideal S1024x4224 .bf16)

theorem val14_apply (j : S4096x1024.Idx) : val_main_v14 (F := Ideal) h nw j = resY h nw j := by
  obtain ⟨a, l, rfl⟩ : ∃ (a : Fin 4096) (l : Fin 1024), j = ix2 a l := ⟨j 0, j 1, eq_ix2 j⟩
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17]
  rfl

theorem val17_apply (j : S4096x4224.Idx) : val_main_v17 (F := Ideal) h nw w j = resP h nw w j := by
  obtain ⟨a, l, rfl⟩ : ∃ (a : Fin 4096) (l : Fin 4224), j = ix2 a l := ⟨j 0, j 1, eq_ix2 j⟩
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17]
  rfl

end Reference

theorem algebraic : Cert.algebraic_Kernel20Ideal_Reference20Ideal (hKernel20Ideal := Cert.Kernel20Ideal.Gen.facts)
    (hReference20Ideal := Cert.Reference20Ideal.Gen.facts) := by
  intro m g m' g' _ hm
  refine ⟨fun c => Kernel20Ideal.In.resY _ _, fun c => Kernel20Ideal.In.resP _ _ _, Kernel20Ideal.In.run m g,
    (θ_run _ _ _).mono (fun r h c => ?_) (Reference20Ideal.Value.run m' g')⟩
  obtain ⟨e0, e1, e2⟩ := hm c
  refine ⟨(h c).1.trans ?_, (h c).2.1.trans ?_, (h c).2.2⟩
  · rw [e0, e1]
    exact (Reference20Ideal.Read.val_main_v14_eq (F := Ideal) _ _).trans (funext fun j => val14_apply _ _ j)
  · rw [e0, e1, e2]
    exact (Reference20Ideal.Read.val_main_v17_eq (F := Ideal) _ _ _).trans (funext fun j => val17_apply _ _ _ j)

end Cert.InGdn

end
-- ==== Proof.InHgrn.lean ====
/-
  The HGRN layer's input product: the norm and the product with the four slots of the weights. What the kernel's eight blocks
  leave, what the reference computes, and that both end with the same two arrays.
-/
module

public import proofs.«01_k».proof.Defs
public import proofs.«01_k».proof.Proof.NormSpec
public import proofs.«01_k».proof.Proof.Gen.Kernel21Ideal.Value
public import proofs.«01_k».proof.Proof.Gen.Reference21Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel21Ideal.In

open Cert.Kernel21Ideal Cert.Kernel21Ideal.Gen Cert.Kernel21Ideal.Value Cert.Norm

theorem off2 : (![0, 0] : Fin 2 → Nat) = fun _ => 0 := by funext a; fin_cases a <;> rfl
theorem off3 : (![0, 0, 0] : Fin 3 → Nat) = fun _ => 0 := by funext a; fin_cases a <;> rfl

/-! ## One block at an entry -/

section Block

variable (h : Vec Ideal S512x1024 .f32) (nw : Vec Ideal S1x1024 .f32) (w w0 w1 w2 w3 : Vec Ideal S1x1024x1024 .bf16)

/-- An entry of the normed rows. -/
abbrev normed (a : Fin 512) (k : Fin 1024) : EReal := h (ix2 a k) * rsq (fun i => h (ix2 a i)) * nw (ix2 0 k)

theorem pay2_apply (a : Fin 512) (k : Fin 1024) : k0_pay2 h nw (ix2 a k) = normed h nw a k := by
  pointwise [k0_pay2]
  rfl

/-- One quarter of the columns: the normed rows times one slot of the weights. -/
theorem pay1_apply (y : FVec Ideal S512x1024 .bf16) (a : Fin 512) (l : Fin 1024) : k0_pay1 y w (ix2 a l)
    = ∑ k : Fin 1024, y (ix2 a k) * w (ix3 0 k l) := by
  pointwise [k0_pay1]

theorem out6_apply (a : Fin 512) (k : Fin 1024) : out0_6 h nw w0 w1 w2 w3 (ix2 a k) = normed h nw a k := by
  unfold out0_6
  rw [View.canon_unit_zero off2, View.ld_unit_zero (S := S512x1024) off2, View.ld_unit_zero (S := S1x1024) off2]
  exact pay2_apply h nw a k

/-- Column `l`'s slot among the four. -/
abbrev slot (l : Fin 4096) : Vec Ideal S1x1024x1024 .bf16 :=
  if l.val < 1024 then w0 else if l.val < 2048 then w1 else if l.val < 3072 then w2 else w3

/-- An entry of the product's block. -/
abbrev prod (a : Fin 512) (l : Fin 4096) : EReal :=
  ∑ k : Fin 1024, normed h nw a k * slot w0 w1 w2 w3 l (ix3 0 k ⟨l.val % 1024, by omega⟩)

/-- The product's block. -/
abbrev prodV : Vec Ideal S512x4096 .bf16 := fun j => prod h nw w0 w1 w2 w3 (j 0) (j 1)

/-- The quarter that starts at column `o`, whichever slot `w` it is. -/
theorem quarter (o : ℕ) (ho : o % 1024 = 0) (inb : ∀ a, (![0, o] : Fin 2 → Nat) a + S512x1024.size a ≤ S512x4096.size a)
    (hw : ∀ (l : Fin 1024) (hl : o + l.val < 4096), slot w0 w1 w2 w3 ⟨o + l.val, hl⟩ = w) (x : S512x1024.Idx) :
    k0_pay1 (k0_pay2 h nw) w x
      = prod h nw w0 w1 w2 w3 ((Rect.unit (s := S512x4096) ![0, o] S512x1024.size inb).emb x 0)
          ((Rect.unit (s := S512x4096) ![0, o] S512x1024.size inb).emb x 1) := by
  obtain ⟨a, l, rfl⟩ : ∃ (a : Fin 512) (l : Fin 1024), x = (ix2 a l : S512x1024.Idx) := ⟨x 0, x 1, eq_ix2 x⟩
  have hl : o + l.val < 4096 := by have : o + 1024 ≤ 4096 := inb 1; omega
  have e0 : (Rect.unit (s := S512x4096) ![0, o] S512x1024.size inb).emb (ix2 a l : S512x1024.Idx) 0 = a :=
    Fin.ext (by show 0 + 1 * a.val = a.val; omega)
  have e1 : (Rect.unit (s := S512x4096) ![0, o] S512x1024.size inb).emb (ix2 a l : S512x1024.Idx) 1 = (⟨o + l.val, hl⟩ : Fin 4096) :=
    Fin.ext (by show o + 1 * l.val = o + l.val; omega)
  have e2 : (⟨(o + l.val) % 1024, by omega⟩ : Fin 1024) = l := Fin.ext (by show (o + l.val) % 1024 = l.val; omega)
  rw [e0, e1, pay1_apply]
  unfold prod
  rw [hw l hl, e2]
  simp only [pay2_apply]

theorem out7_apply (a : Fin 512) (l : Fin 4096) : out0_7 h nw w0 w1 w2 w3 (ix2 a l) = prod h nw w0 w1 w2 w3 a l := by
  unfold out0_7
  rw [View.ld_unit_zero (S := S512x1024) off2, View.ld_unit_zero (S := S1x1024) off2]
  simp only [View.ld_unit_zero (S := S1x1024x1024) off3]
  refine View.canon_apply_of_pieces (prodV h nw w0 w1 w2 w3) _ ?_ _ (cover0_7 _ _ _ _ _)
  intro pc hpc
  rcases List.mem_cons.mp hpc with rfl | hpc
  · exact quarter h nw w3 w0 w1 w2 w3 3072 rfl (by intro a; fin_cases a <;> decide) (fun l hl => by
      unfold slot; rw [if_neg (by dsimp only; omega), if_neg (by dsimp only; omega), if_neg (by dsimp only; omega)])
  rcases List.mem_cons.mp hpc with rfl | hpc
  · exact quarter h nw w2 w0 w1 w2 w3 2048 rfl (by intro a; fin_cases a <;> decide) (fun l hl => by
      unfold slot; rw [if_neg (by dsimp only; omega), if_neg (by dsimp only; omega), if_pos (by dsimp only; omega)])
  rcases List.mem_cons.mp hpc with rfl | hpc
  · exact quarter h nw w1 w0 w1 w2 w3 1024 rfl (by intro a; fin_cases a <;> decide) (fun l hl => by
      unfold slot; rw [if_neg (by dsimp only; omega), if_pos (by dsimp only; omega)])
  rcases List.mem_cons.mp hpc with rfl | hpc
  · exact quarter h nw w0 w0 w1 w2 w3 0 rfl (by intro a; fin_cases a <;> decide) (fun l hl => by
      unfold slot; rw [if_pos (by dsimp only; omega)])
  nomatch hpc

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 2 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 3 ∧ win0_5.index t (1 : Fin 3) = 0 ∧ win0_5.index t (2 : Fin 3) = 0 :=
  (by decide +kernel : ∀ t : Fin grid0.N, _)

theorem emb6 (t : Fin cfg0.N) (r : Fin 512) (l : Fin 1024) :
    ((cfg0.win 6).blk t).view.emb (ix2 r l : S512x1024.Idx) = (ix2 (row t r) l : S4096x1024.Idx) := by
  obtain ⟨e0, e1⟩ := idx6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega

theorem mem6 (t : Fin cfg0.N) (r : Fin 512) (l : Fin 1024) :
    (ix2 (row t r) l : S4096x1024.Idx) ∈ ((cfg0.win 6).blk t).view.set := by
  rw [← emb6]; exact ((cfg0.win 6).blk t).view.emb_mem_set _

theorem emb7 (t : Fin cfg0.N) (r : Fin 512) (l : Fin 4096) :
    ((cfg0.win 7).blk t).view.emb (ix2 r l : S512x4096.Idx) = (ix2 (row t r) l : S4096x4096.Idx) := by
  obtain ⟨e0, e1⟩ := idx7 t
  funext a; apply Fin.ext
  match a with
  | ⟨0, _⟩ => show win0_7.index t (0 : Fin 2) * 512 + 1 * r.val = 512 * t.val + r.val; omega
  | ⟨1, _⟩ => show win0_7.index t (1 : Fin 2) * 4096 + 1 * l.val = l.val; omega

theorem mem7 (t : Fin cfg0.N) (r : Fin 512) (l : Fin 4096) :
    (ix2 (row t r) l : S4096x4096.Idx) ∈ ((cfg0.win 7).blk t).view.set := by
  rw [← emb7]; exact ((cfg0.win 7).blk t).view.emb_mem_set _

variable (m : (ℓ : Loc nD τ sig) → Buf (Elt Ideal) ℓ) (ρ : Dev nD → PrngReg)

abbrev argH (c : Dev nD) : Vec Ideal S4096x1024 .f32 := m ((c : Thread nD τ).loc main_arg0)
abbrev argN (c : Dev nD) : Vec Ideal S1x1024 .f32 := m ((c : Thread nD τ).loc main_arg1)
abbrev argW (c : Dev nD) : Vec Ideal S4x1024x1024 .bf16 := m ((c : Thread nD τ).loc main_arg2)

theorem iblk0_apply (c : Dev nD) (t : Fin cfg0.N) (r : Fin 512) (l : Fin 1024) :
    (iblk m c 0 t : Vec Ideal S512x1024 .f32) (ix2 r l) = argH m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (r : Fin 1) (l : Fin 1024) :
    (iblk m c 1 t : Vec Ideal S1x1024 .f32) (ix2 r l) = argN m c (ix2 r l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1 + 1 * r.val = r.val; omega
  | ⟨1, _⟩ => show win0_1.index t (1 : Fin 2) * 1024 + 1 * l.val = l.val; omega

theorem iblk2_apply (c : Dev nD) (t : Fin cfg0.N) (l k : Fin 1024) :
    (iblk m c 2 t : Vec Ideal S1x1024x1024 .bf16) (ix3 0 l k) = argW m c (ix3 0 l k) := by
  obtain ⟨e0, e1, e2⟩ := idx2 t
  show V m c main_arg2 _ = m (c.tc.loc main_arg2) _
  rw [V_main_arg2]
  congr 1; funext a; apply Fin.ext
  match a with
  | ⟨0, _⟩ => show win0_2.index t (0 : Fin 3) * 1 + 1 * 0 = 0; omega
  | ⟨1, _⟩ => show win0_2.index t (1 : Fin 3) * 1024 + 1 * l.val = l.val; omega
  | ⟨2, _⟩ => show win0_2.index t (2 : Fin 3) * 1024 + 1 * k.val = k.val; omega

theorem iblk3_apply (c : Dev nD) (t : Fin cfg0.N) (l k : Fin 1024) :
    (iblk m c 3 t : Vec Ideal S1x1024x1024 .bf16) (ix3 0 l k) = argW m c (ix3 1 l k) := by
  obtain ⟨e0, e1, e2⟩ := idx3 t
  show V m c main_arg2 _ = m (c.tc.loc main_arg2) _
  rw [V_main_arg2]
  congr 1; funext a; apply Fin.ext
  match a with
  | ⟨0, _⟩ => show win0_3.index t (0 : Fin 3) * 1 + 1 * 0 = 1; omega
  | ⟨1, _⟩ => show win0_3.index t (1 : Fin 3) * 1024 + 1 * l.val = l.val; omega
  | ⟨2, _⟩ => show win0_3.index t (2 : Fin 3) * 1024 + 1 * k.val = k.val; omega

theorem iblk4_apply (c : Dev nD) (t : Fin cfg0.N) (l k : Fin 1024) :
    (iblk m c 4 t : Vec Ideal S1x1024x1024 .bf16) (ix3 0 l k) = argW m c (ix3 2 l k) := by
  obtain ⟨e0, e1, e2⟩ := idx4 t
  show V m c main_arg2 _ = m (c.tc.loc main_arg2) _
  rw [V_main_arg2]
  congr 1; funext a; apply Fin.ext
  match a with
  | ⟨0, _⟩ => show win0_4.index t (0 : Fin 3) * 1 + 1 * 0 = 2; omega
  | ⟨1, _⟩ => show win0_4.index t (1 : Fin 3) * 1024 + 1 * l.val = l.val; omega
  | ⟨2, _⟩ => show win0_4.index t (2 : Fin 3) * 1024 + 1 * k.val = k.val; omega

theorem iblk5_apply (c : Dev nD) (t : Fin cfg0.N) (l k : Fin 1024) :
    (iblk m c 5 t : Vec Ideal S1x1024x1024 .bf16) (ix3 0 l k) = argW m c (ix3 3 l k) := by
  obtain ⟨e0, e1, e2⟩ := idx5 t
  show V m c main_arg2 _ = m (c.tc.loc main_arg2) _
  rw [V_main_arg2]
  congr 1; funext a; apply Fin.ext
  match a with
  | ⟨0, _⟩ => show win0_5.index t (0 : Fin 3) * 1 + 1 * 0 = 3; omega
  | ⟨1, _⟩ => show win0_5.index t (1 : Fin 3) * 1024 + 1 * l.val = l.val; omega
  | ⟨2, _⟩ => show win0_5.index t (2 : Fin 3) * 1024 + 1 * k.val = k.val; omega

/-! ## What the result arrays hold -/

/-- An entry of the normed array. -/
abbrev norm (h : Vec Ideal S4096x1024 .f32) (nw : Vec Ideal S1x1024 .f32) (r : Fin 4096) (k : Fin 1024) : EReal :=
  h (ix2 r k) * rsq (fun i => h (ix2 r i)) * nw (ix2 0 k)

/-- The normed array. -/
def resY (h : Vec Ideal S4096x1024 .f32) (nw : Vec Ideal S1x1024 .f32) : Vec Ideal S4096x1024 .bf16 := fun j => norm h nw (j 0) (j 1)

/-- Its product with the weights: column `l` is column `l % 1024` of slot `l / 1024`. -/
def resP (h : Vec Ideal S4096x1024 .f32) (nw : Vec Ideal S1x1024 .f32) (w : Vec Ideal S4x1024x1024 .bf16) :
    Vec Ideal S4096x4096 .bf16 := fun j =>
  let l : Fin 4096 := j 1
  ∑ k : Fin 1024, norm h nw (j 0) k * w (ix3 ⟨l.val / 1024, by omega⟩ k ⟨l.val % 1024, by omega⟩)

/-- The slot that a column's entry is read from, in the array of the four slots. -/
theorem slot_apply (c : Dev nD) (t : Fin cfg0.N) (l : Fin 4096) (k : Fin 1024) :
    slot (iblk m c 2 t) (iblk m c 3 t) (iblk m c 4 t) (iblk m c 5 t) l (ix3 0 k ⟨l.val % 1024, by omega⟩)
      = argW m c (ix3 ⟨l.val / 1024, by omega⟩ k ⟨l.val % 1024, by omega⟩) := by
  have e : ∀ (s : Fin 4), l.val / 1024 = s.val → (⟨l.val / 1024, by omega⟩ : Fin 4) = s := fun s hs => Fin.ext hs
  have hl := l.isLt
  unfold slot
  split
  · rw [iblk2_apply, e 0 (by show l.val / 1024 = 0; omega)]
  split
  · rw [iblk3_apply, e 1 (by show l.val / 1024 = 1; omega)]
  split
  · rw [iblk4_apply, e 2 (by show l.val / 1024 = 2; omega)]
  · rw [iblk5_apply, e 3 (by show l.val / 1024 = 3; omega)]

theorem flushed6_eq (c : Dev nD) (t : Fin cfg0.N) : (dats m 0 c).flushed 6 t
    = ((cfg0.win 6).blk t).view.read (Elt Ideal) (resY (argH m c) (argN m c)) := by
  rw [flushed6]
  funext j
  obtain ⟨r, l, rfl⟩ : ∃ (r : Fin 512) (l : Fin 1024), j = (ix2 r l : S512x1024.Idx) := ⟨j 0, j 1, eq_ix2 j⟩
  show out0_6 (iblk m c 0 t) (iblk m c 1 t) (iblk m c 2 t) (iblk m c 3 t) (iblk m c 4 t) (iblk m c 5 t) (ix2 r l)
    = resY _ _ (((cfg0.win 6).blk t).view.emb (ix2 r l : S512x1024.Idx))
  rw [emb6, out6_apply]
  unfold normed
  simp only [iblk0_apply, iblk1_apply]
  rfl

theorem flushed7_eq (c : Dev nD) (t : Fin cfg0.N) : (dats m 0 c).flushed 7 t
    = ((cfg0.win 7).blk t).view.read (Elt Ideal) (resP (argH m c) (argN m c) (argW m c)) := by
  rw [flushed7]
  funext j
  obtain ⟨r, l, rfl⟩ : ∃ (r : Fin 512) (l : Fin 4096), j = (ix2 r l : S512x4096.Idx) := ⟨j 0, j 1, eq_ix2 j⟩
  show out0_7 (iblk m c 0 t) (iblk m c 1 t) (iblk m c 2 t) (iblk m c 3 t) (iblk m c 4 t) (iblk m c 5 t) (ix2 r l)
    = resP _ _ _ (((cfg0.win 7).blk t).view.emb (ix2 r l : S512x4096.Idx))
  rw [emb7, out7_apply]
  unfold prod normed
  simp only [slot_apply, iblk0_apply, iblk1_apply]
  rfl

theorem final6 (c : Dev nD) : (dats m 0 c).arrAt 6 cfg0.N = resY (argH m c) (argN m c) :=
  (dats m 0 c).arrAt_eq_of_cover 6 _ (fun t _ => flushed6_eq m c t) fun i => by
    obtain ⟨t, r, h⟩ := row_surj (i 0)
    refine ⟨t, flush0_6 t, ?_⟩
    have hi : i = (ix2 (row t r) (i 1) : S4096x1024.Idx) := by rw [h]; exact eq_ix2 i
    rw [hi]
    exact mem6 t r (i 1)

theorem final7 (c : Dev nD) : (dats m 0 c).arrAt 7 cfg0.N = resP (argH m c) (argN m c) (argW m c) :=
  (dats m 0 c).arrAt_eq_of_cover 7 _ (fun t _ => flushed7_eq m c t) fun i => by
    obtain ⟨t, r, h⟩ := row_surj (i 0)
    refine ⟨t, flush0_7 t, ?_⟩
    have hi : i = (ix2 (row t r) (i 1) : S4096x4096.Idx) := by rw [h]; exact eq_ix2 i
    rw [hi]
    exact mem7 t r (i 1)

/-- The kernel's run, with its two result arrays at their values. -/
theorem run : θ_run defs (onTc (τ := τ) (main (F := Ideal))) ⟨m, fun _ => 0, ρ⟩ fun r => ∀ c : Dev nD,
      r.2.mem ((c : Thread nD τ).loc main_v0_0) = resY (argH m c) (argN m c)
      ∧ r.2.mem ((c : Thread nD τ).loc main_v0_1) = resP (argH m c) (argN m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final6 m c), (h c).2.1.trans (final7 m c), (h c).2.2⟩) (run_blocks m ρ)

end Cert.Kernel21Ideal.In

namespace Cert.InHgrn

section Reference

open Cert.Reference21Ideal Cert.Reference21Ideal.Read Cert.Norm Cert.Kernel21Ideal.In

variable (h : Vec Ideal S4096x1024 .f32) (nw : Vec Ideal S1x1024 .f32) (w : Vec Ideal S4x1024x1024 .bf16)

theorem val17_apply (j : S4096x1024.Idx) : val_main_v17 (F := Ideal) h nw j = resY h nw j := by
  obtain ⟨a, l, rfl⟩ : ∃ (a : Fin 4096) (l : Fin 1024), j = ix2 a l := ⟨j 0, j 1, eq_ix2 j⟩
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_v19]
  rfl

theorem val19_apply (j : S4096x4096.Idx) : val_main_v19 (F := Ideal) h nw w j = resP h nw w j := by
  obtain ⟨a, l, rfl⟩ : ∃ (a l : Fin 4096), j = ix2 a l := ⟨j 0, j 1, eq_ix2 j⟩
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_v19]
  rfl

end Reference

theorem algebraic : Cert.algebraic_Kernel21Ideal_Reference21Ideal (hKernel21Ideal := Cert.Kernel21Ideal.Gen.facts)
    (hReference21Ideal := Cert.Reference21Ideal.Gen.facts) := by
  intro m g m' g' _ hm
  refine ⟨fun c => Kernel21Ideal.In.resY _ _, fun c => Kernel21Ideal.In.resP _ _ _, Kernel21Ideal.In.run m g,
    (θ_run _ _ _).mono (fun r h c => ?_) (Reference21Ideal.Value.run m' g')⟩
  obtain ⟨e0, e1, e2⟩ := hm c
  refine ⟨(h c).1.trans ?_, (h c).2.1.trans ?_, (h c).2.2⟩
  · rw [e0, e1]
    exact (Reference21Ideal.Read.val_main_v17_eq (F := Ideal) _ _).trans (funext fun j => val17_apply _ _ j)
  · rw [e0, e1, e2]
    exact (Reference21Ideal.Read.val_main_v19_eq (F := Ideal) _ _ _).trans (funext fun j => val19_apply _ _ _ j)

end Cert.InHgrn

end
-- ==== Proof.OutProj.lean ====
/-
  A mixer's output product: the kernel's four blocks, the reference's one product onto the residual stream, and that both end
  with the same array.
-/
module

public import proofs.«01_k».proof.Defs
public import proofs.«01_k».proof.Proof.Gen.Kernel22Ideal.Value
public import proofs.«01_k».proof.Proof.Gen.Reference22Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel22Ideal.Mm

open Cert.Kernel22Ideal Cert.Kernel22Ideal.Gen Cert.Kernel22Ideal.Value

theorem off2 : (![0, 0] : Fin 2 → Nat) = fun _ => 0 := by funext a; fin_cases a <;> rfl

/-- One block: the residual stream's, plus the product of the mixer's with the weights. -/
theorem out_apply (x : Vec Ideal S1024x1024 .bf16) (y : Vec Ideal S1024x1024 .bf16) (h : Vec Ideal S1024x1024 .f32)
    (r : Fin 1024) (l : Fin 1024) : out0_3 x y h (ix2 r l)
      = h (ix2 r l) + ∑ k : Fin 1024, x (ix2 r k) * y (ix2 k l) := by
  unfold out0_3
  rw [View.canon_unit_zero off2]
  simp only [View.ld_unit_zero (S := S1024x1024) off2]
  pointwise [k0_pay1]

/-- Block `t`'s rows. -/
abbrev row (t : Fin cfg0.N) (r : Fin 1024) : Fin 4096 := ⟨1024 * t.val + r.val, by have := t.isLt; have : cfg0.N = 4 := N_0; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem emb3 (t : Fin cfg0.N) (r : Fin 1024) (l : Fin 1024) :
    ((cfg0.win 3).blk t).view.emb (ix2 r l : S1024x1024.Idx) = (ix2 (row t r) l : S4096x1024.Idx) := by
  obtain ⟨e0, e1⟩ := idx3 t
  funext a; apply Fin.ext
  match a with
  | ⟨0, _⟩ => show win0_3.index t (0 : Fin 2) * 1024 + 1 * r.val = 1024 * t.val + r.val; omega
  | ⟨1, _⟩ => show win0_3.index t (1 : Fin 2) * 1024 + 1 * l.val = l.val; omega

theorem mem3 (t : Fin cfg0.N) (r : Fin 1024) (l : Fin 1024) :
    (ix2 (row t r) l : S4096x1024.Idx) ∈ ((cfg0.win 3).blk t).view.set := by
  rw [← emb3]; exact ((cfg0.win 3).blk t).view.emb_mem_set _

variable (m : (ℓ : Loc nD τ sig) → Buf (Elt Ideal) ℓ) (ρ : Dev nD → PrngReg)

abbrev argO (c : Dev nD) : Vec Ideal S4096x1024 .bf16 := m ((c : Thread nD τ).loc main_arg0)
abbrev argW (c : Dev nD) : Vec Ideal S1024x1024 .bf16 := m ((c : Thread nD τ).loc main_arg1)
abbrev argH (c : Dev nD) : Vec Ideal S4096x1024 .f32 := m ((c : Thread nD τ).loc main_arg2)

theorem iblk0_apply (c : Dev nD) (t : Fin cfg0.N) (r : Fin 1024) (k : Fin 1024) :
    (iblk m c 0 t : Vec Ideal S1024x1024 .bf16) (ix2 r k) = argO m c (ix2 (row t r) k) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 1024 + 1 * r.val = 1024 * t.val + r.val; omega
  | ⟨1, _⟩ => show win0_0.index t (1 : Fin 2) * 1024 + 1 * k.val = k.val; omega

theorem iblk1_apply (c : Dev nD) (t : Fin cfg0.N) (k : Fin 1024) (l : Fin 1024) :
    (iblk m c 1 t : Vec Ideal S1024x1024 .bf16) (ix2 k l) = argW m c (ix2 k l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1024 + 1 * k.val = k.val; omega
  | ⟨1, _⟩ => show win0_1.index t (1 : Fin 2) * 1024 + 1 * l.val = l.val; omega

theorem iblk2_apply (c : Dev nD) (t : Fin cfg0.N) (r : Fin 1024) (l : Fin 1024) :
    (iblk m c 2 t : Vec Ideal S1024x1024 .f32) (ix2 r l) = argH m c (ix2 (row t r) l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 1024 + 1 * r.val = 1024 * t.val + r.val; omega
  | ⟨1, _⟩ => show win0_2.index t (1 : Fin 2) * 1024 + 1 * l.val = l.val; omega

/-- The residual stream behind the mixer. -/
def res (x : Vec Ideal S4096x1024 .bf16) (w : Vec Ideal S1024x1024 .bf16) (h : Vec Ideal S4096x1024 .f32) :
    Vec Ideal S4096x1024 .f32 := fun j =>
  h (ix2 (j 0) (j 1)) + ∑ k : Fin 1024, x (ix2 (j 0) k) * w (ix2 k (j 1))

theorem flushed3_eq (c : Dev nD) (t : Fin cfg0.N) : (dats m 0 c).flushed 3 t
    = ((cfg0.win 3).blk t).view.read (Elt Ideal) (res (argO m c) (argW m c) (argH m c)) := by
  rw [flushed3]
  funext j
  obtain ⟨r, l, rfl⟩ : ∃ (r : Fin 1024) (l : Fin 1024), j = (ix2 r l : S1024x1024.Idx) := ⟨j 0, j 1, eq_ix2 j⟩
  show out0_3 (iblk m c 0 t) (iblk m c 1 t) (iblk m c 2 t) (ix2 r l) = res _ _ _ (((cfg0.win 3).blk t).view.emb (ix2 r l : S1024x1024.Idx))
  rw [emb3, out_apply]
  simp only [iblk0_apply, iblk1_apply, iblk2_apply]
  rfl

theorem final3 (c : Dev nD) : (dats m 0 c).arrAt 3 cfg0.N = res (argO m c) (argW m c) (argH m c) :=
  (dats m 0 c).arrAt_eq_of_cover 3 _ (fun t _ => flushed3_eq m c t) fun i => by
    have h0 : (i 0).val < 4096 := (i 0).isLt
    obtain ⟨t, ht⟩ : ∃ t : Fin cfg0.N, t.val = (i 0).val / 1024 :=
      ⟨⟨(i 0).val / 1024, by have : cfg0.N = 4 := N_0; omega⟩, rfl⟩
    refine ⟨t, flush0_3 t, ?_⟩
    have hi : i = (ix2 (row t ⟨(i 0).val % 1024, by omega⟩) (i 1) : S4096x1024.Idx) := by
      funext a; apply Fin.ext
      match a with
      | ⟨0, _⟩ => show (i 0).val = 1024 * t.val + (i 0).val % 1024; omega
      | ⟨1, _⟩ => rfl
    rw [hi]
    exact mem3 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argO m c) (argW m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Kernel22Ideal.Mm

namespace Cert.OutProj

open Cert.Reference22Ideal.Read in
theorem val_apply (x : Vec Ideal Reference22Ideal.S4096x1024 .bf16) (w : Vec Ideal Reference22Ideal.S1024x1024 .bf16)
    (h : Vec Ideal Reference22Ideal.S4096x1024 .f32) (j : Reference22Ideal.S4096x1024.Idx) :
    val_main_v3 (F := Ideal) x w h j = Kernel22Ideal.Mm.res x w h j := by
  obtain ⟨r, l, rfl⟩ : ∃ (r : Fin 4096) (l : Fin 1024), j = ix2 r l := ⟨j 0, j 1, eq_ix2 j⟩
  pointwise [val_main_v3, val_main_v2, val_main_v1, val_main_v0]
  rfl

theorem algebraic : Cert.algebraic_Kernel22Ideal_Reference22Ideal (hKernel22Ideal := Cert.Kernel22Ideal.Gen.facts)
    (hReference22Ideal := Cert.Reference22Ideal.Gen.facts) := by
  intro m g m' g' _ hm
  refine ⟨fun c => Kernel22Ideal.Mm.res _ _ _, Kernel22Ideal.Mm.run m g, (θ_run _ _ _).mono (fun r h c => ?_) (Reference22Ideal.Value.run m' g')⟩
  obtain ⟨e0, e1, e2⟩ := hm c
  refine ⟨(h c).1.trans ?_, (h c).2⟩
  rw [e0, e1, e2]
  exact (Reference22Ideal.Read.val_main_v3_eq (F := Ideal) _ _ _).trans (funext fun j => val_apply _ _ _ j)

end Cert.OutProj

end
-- ==== Proof.DwOut.lean ====
/-
  The weight gradient of a mixer's output product: the kernel's two blocks, the reference's one product, and that both end
  with the same array.
-/
module

public import proofs.«01_k».proof.Defs
public import proofs.«01_k».proof.Proof.Gen.Kernel23Ideal.Value
public import proofs.«01_k».proof.Proof.Gen.Reference23Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel23Ideal.Mm

open Cert.Kernel23Ideal Cert.Kernel23Ideal.Gen Cert.Kernel23Ideal.Value

theorem off2 : (![0, 0] : Fin 2 → Nat) = fun _ => 0 := by funext a; fin_cases a <;> rfl

/-- One block of the product. -/
theorem out_apply (x : Vec Ideal S4096x512 .bf16) (y : Vec Ideal S4096x1024 .bf16) (r : Fin 512) (l : Fin 1024) :
    out0_2 x y (ix2 r l) = ∑ k : Fin 4096, x (ix2 k r) * y (ix2 k l) := by
  unfold out0_2
  rw [View.canon_unit_zero off2, View.ld_unit_zero (S := S4096x512) off2, View.ld_unit_zero (S := S4096x1024) off2]
  pointwise [k0_pay1]

/-- Block `t`'s rows. -/
abbrev row (t : Fin cfg0.N) (r : Fin 512) : Fin 1024 := ⟨512 * t.val + r.val, by have := t.isLt; have : cfg0.N = 2 := N_0; omega⟩

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 512) (l : Fin 1024) :
    ((cfg0.win 2).blk t).view.emb (ix2 r l : S512x1024.Idx) = (ix2 (row t r) l : S1024x1024.Idx) := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

theorem mem2 (t : Fin cfg0.N) (r : Fin 512) (l : Fin 1024) :
    (ix2 (row t r) l : S1024x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argO (c : Dev nD) : Vec Ideal S4096x1024 .bf16 := m ((c : Thread nD τ).loc main_arg0)
abbrev argD (c : Dev nD) : Vec Ideal S4096x1024 .bf16 := m ((c : Thread nD τ).loc main_arg1)

theorem iblk0_apply (c : Dev nD) (t : Fin cfg0.N) (k : Fin 4096) (r : Fin 512) :
    (iblk m c 0 t : Vec Ideal S4096x512 .bf16) (ix2 k r) = argO m c (ix2 k (row t r)) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 4096 + 1 * k.val = k.val; omega
  | ⟨1, _⟩ => show win0_0.index t (1 : Fin 2) * 512 + 1 * r.val = 512 * t.val + r.val; omega

theorem iblk1_apply (c : Dev nD) (t : Fin cfg0.N) (k : Fin 4096) (l : Fin 1024) :
    (iblk m c 1 t : Vec Ideal S4096x1024 .bf16) (ix2 k l) = argD m c (ix2 k l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 4096 + 1 * k.val = k.val; omega
  | ⟨1, _⟩ => show win0_1.index t (1 : Fin 2) * 1024 + 1 * l.val = l.val; omega

/-- The gradient. -/
def res (x : Vec Ideal S4096x1024 .bf16) (d : Vec Ideal S4096x1024 .bf16) : Vec Ideal S1024x1024 .f32 := fun j =>
  ∑ k : Fin 4096, x (ix2 k (j 0)) * d (ix2 k (j 1))

theorem flushed2_eq (c : Dev nD) (t : Fin cfg0.N) : (dats m 0 c).flushed 2 t
    = ((cfg0.win 2).blk t).view.read (Elt Ideal) (res (argO m c) (argD m c)) := by
  rw [flushed2]
  funext j
  obtain ⟨r, l, rfl⟩ : ∃ (r : Fin 512) (l : Fin 1024), j = (ix2 r l : S512x1024.Idx) := ⟨j 0, j 1, eq_ix2 j⟩
  show out0_2 (iblk m c 0 t) (iblk m c 1 t) (ix2 r l) = res _ _ (((cfg0.win 2).blk t).view.emb (ix2 r l : S512x1024.Idx))
  rw [emb2, out_apply]
  simp only [iblk0_apply, iblk1_apply]
  rfl

theorem final2 (c : Dev nD) : (dats m 0 c).arrAt 2 cfg0.N = res (argO m c) (argD m c) :=
  (dats m 0 c).arrAt_eq_of_cover 2 _ (fun t _ => flushed2_eq m c t) fun i => by
    have h0 : (i 0).val < 1024 := (i 0).isLt
    obtain ⟨t, ht⟩ : ∃ t : Fin cfg0.N, t.val = (i 0).val / 512 :=
      ⟨⟨(i 0).val / 512, by have : cfg0.N = 2 := N_0; omega⟩, rfl⟩
    refine ⟨t, flush0_2 t, ?_⟩
    have hi : i = (ix2 (row t ⟨(i 0).val % 512, by omega⟩) (i 1) : S1024x1024.Idx) := by
      funext a; apply Fin.ext
      match a with
      | ⟨0, _⟩ => show (i 0).val = 512 * t.val + (i 0).val % 512; omega
      | ⟨1, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argO m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel23Ideal.Mm

namespace Cert.DwOut

open Cert.Reference23Ideal.Read in
theorem val_apply (x : Vec Ideal Reference23Ideal.S4096x1024 .bf16) (d : Vec Ideal Reference23Ideal.S4096x1024 .bf16)
    (j : Reference23Ideal.S1024x1024.Idx) : val_main_v5 (F := Ideal) x d j = Kernel23Ideal.Mm.res x d j := by
  obtain ⟨r, l, rfl⟩ : ∃ (r l : Fin 1024), j = ix2 r l := ⟨j 0, j 1, eq_ix2 j⟩
  pointwise [val_main_v5, val_main_v4, val_main_v3, val_main_v1, val_main_v0]
  exact Finset.sum_congr rfl fun k _ => mul_comm _ _

theorem algebraic : Cert.algebraic_Kernel23Ideal_Reference23Ideal (hKernel23Ideal := Cert.Kernel23Ideal.Gen.facts)
    (hReference23Ideal := Cert.Reference23Ideal.Gen.facts) := by
  intro m g m' g' _ hm
  refine ⟨fun c => Kernel23Ideal.Mm.res _ _, Kernel23Ideal.Mm.run m g, (θ_run _ _ _).mono (fun r h c => ?_) (Reference23Ideal.Value.run m' g')⟩
  obtain ⟨e0, e1⟩ := hm c
  refine ⟨(h c).1.trans ?_, (h c).2⟩
  rw [e0, e1]
  exact (Reference23Ideal.Read.val_main_v5_eq (F := Ideal) _ _).trans (funext fun j => val_apply _ _ j)

end Cert.DwOut

end
-- ==== Proof.DwIn.lean ====
/-
  The weight gradient of the DeltaNet layer's input product: the kernel's six blocks, the reference's one product, and that both end
  with the same array.
-/
module

public import proofs.«01_k».proof.Defs
public import proofs.«01_k».proof.Proof.Gen.Kernel24Ideal.Value
public import proofs.«01_k».proof.Proof.Gen.Reference24Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel24Ideal.Mm

open Cert.Kernel24Ideal Cert.Kernel24Ideal.Gen Cert.Kernel24Ideal.Value

theorem off2 : (![0, 0] : Fin 2 → Nat) = fun _ => 0 := by funext a; fin_cases a <;> rfl

/-- One block of the product. -/
theorem out_apply (x : Vec Ideal S4096x512 .bf16) (y : Vec Ideal S4096x1408 .bf16) (r : Fin 512) (l : Fin 1408) :
    out0_2 x y (ix2 r l) = ∑ k : Fin 4096, x (ix2 k r) * y (ix2 k l) := by
  unfold out0_2
  rw [View.canon_unit_zero off2, View.ld_unit_zero (S := S4096x512) off2, View.ld_unit_zero (S := S4096x1408) off2]
  pointwise [k0_pay1]

/-- Block `t` has the rows from `512 * (t / 3)` and the columns from `1408 * (t % 3)`. -/
abbrev row (t : Fin cfg0.N) (r : Fin 512) : Fin 1024 := ⟨512 * (t.val / 3) + r.val, by have := t.isLt; have : cfg0.N = 6 := N_0; omega⟩
abbrev col (t : Fin cfg0.N) (l : Fin 1408) : Fin 4224 := ⟨1408 * (t.val % 3) + l.val, by omega⟩

theorem idx0 : ∀ t : Fin cfg0.N, win0_0.index t (0 : Fin 2) = 0 ∧ win0_0.index t (1 : Fin 2) = t.val / 3 :=
  (by decide +kernel : ∀ t : Fin grid0.N, _)
theorem idx1 : ∀ t : Fin cfg0.N, win0_1.index t (0 : Fin 2) = 0 ∧ win0_1.index t (1 : Fin 2) = t.val % 3 :=
  (by decide +kernel : ∀ t : Fin grid0.N, _)
theorem idx2 : ∀ t : Fin cfg0.N, win0_2.index t (0 : Fin 2) = t.val / 3 ∧ win0_2.index t (1 : Fin 2) = t.val % 3 :=
  (by decide +kernel : ∀ t : Fin grid0.N, _)

theorem emb2 (t : Fin cfg0.N) (r : Fin 512) (l : Fin 1408) :
    ((cfg0.win 2).blk t).view.emb (ix2 r l : S512x1408.Idx) = (ix2 (row t r) (col t l) : S1024x4224.Idx) := by
  obtain ⟨e0, e1⟩ := idx2 t
  funext a; apply Fin.ext
  match a with
  | ⟨0, _⟩ => show win0_2.index t (0 : Fin 2) * 512 + 1 * r.val = 512 * (t.val / 3) + r.val; omega
  | ⟨1, _⟩ => show win0_2.index t (1 : Fin 2) * 1408 + 1 * l.val = 1408 * (t.val % 3) + l.val; omega

theorem mem2 (t : Fin cfg0.N) (r : Fin 512) (l : Fin 1408) :
    (ix2 (row t r) (col t l) : S1024x4224.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argY (c : Dev nD) : Vec Ideal S4096x1024 .bf16 := m ((c : Thread nD τ).loc main_arg0)
abbrev argD (c : Dev nD) : Vec Ideal S4096x4224 .bf16 := m ((c : Thread nD τ).loc main_arg1)

theorem iblk0_apply (c : Dev nD) (t : Fin cfg0.N) (k : Fin 4096) (r : Fin 512) :
    (iblk m c 0 t : Vec Ideal S4096x512 .bf16) (ix2 k r) = argY m c (ix2 k (row t r)) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 4096 + 1 * k.val = k.val; omega
  | ⟨1, _⟩ => show win0_0.index t (1 : Fin 2) * 512 + 1 * r.val = 512 * (t.val / 3) + r.val; omega

theorem iblk1_apply (c : Dev nD) (t : Fin cfg0.N) (k : Fin 4096) (l : Fin 1408) :
    (iblk m c 1 t : Vec Ideal S4096x1408 .bf16) (ix2 k l) = argD m c (ix2 k (col t l)) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 4096 + 1 * k.val = k.val; omega
  | ⟨1, _⟩ => show win0_1.index t (1 : Fin 2) * 1408 + 1 * l.val = 1408 * (t.val % 3) + l.val; omega

/-- The gradient. -/
def res (x : Vec Ideal S4096x1024 .bf16) (d : Vec Ideal S4096x4224 .bf16) : Vec Ideal S1024x4224 .f32 := fun j =>
  ∑ k : Fin 4096, x (ix2 k (j 0)) * d (ix2 k (j 1))

theorem flushed2_eq (c : Dev nD) (t : Fin cfg0.N) : (dats m 0 c).flushed 2 t
    = ((cfg0.win 2).blk t).view.read (Elt Ideal) (res (argY m c) (argD m c)) := by
  rw [flushed2]
  funext j
  obtain ⟨r, l, rfl⟩ : ∃ (r : Fin 512) (l : Fin 1408), j = (ix2 r l : S512x1408.Idx) := ⟨j 0, j 1, eq_ix2 j⟩
  show out0_2 (iblk m c 0 t) (iblk m c 1 t) (ix2 r l) = res _ _ (((cfg0.win 2).blk t).view.emb (ix2 r l : S512x1408.Idx))
  rw [emb2, out_apply]
  simp only [iblk0_apply, iblk1_apply]
  rfl

theorem final2 (c : Dev nD) : (dats m 0 c).arrAt 2 cfg0.N = res (argY m c) (argD m c) :=
  (dats m 0 c).arrAt_eq_of_cover 2 _ (fun t _ => flushed2_eq m c t) fun i => by
    have h0 : (i 0).val < 1024 := (i 0).isLt
    have h1 : (i 1).val < 4224 := (i 1).isLt
    obtain ⟨t, ht⟩ : ∃ t : Fin cfg0.N, t.val = 3 * ((i 0).val / 512) + (i 1).val / 1408 :=
      ⟨⟨3 * ((i 0).val / 512) + (i 1).val / 1408, by have : cfg0.N = 6 := N_0; omega⟩, rfl⟩
    refine ⟨t, flush0_2 t, ?_⟩
    have hi : i = (ix2 (row t ⟨(i 0).val % 512, by omega⟩) (col t ⟨(i 1).val % 1408, by omega⟩) : S1024x4224.Idx) := by
      funext a; apply Fin.ext
      match a with
      | ⟨0, _⟩ => show (i 0).val = 512 * (t.val / 3) + (i 0).val % 512; omega
      | ⟨1, _⟩ => show (i 1).val = 1408 * (t.val % 3) + (i 1).val % 1408; omega
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argY m c) (argD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel24Ideal.Mm

namespace Cert.DwIn

open Cert.Reference24Ideal.Read in
theorem val_apply (x : Vec Ideal Reference24Ideal.S4096x1024 .bf16) (d : Vec Ideal Reference24Ideal.S4096x4224 .bf16)
    (j : Reference24Ideal.S1024x4224.Idx) : val_main_v5 (F := Ideal) x d j = Kernel24Ideal.Mm.res x d j := by
  obtain ⟨r, l, rfl⟩ : ∃ (r : Fin 1024) (l : Fin 4224), j = ix2 r l := ⟨j 0, j 1, eq_ix2 j⟩
  pointwise [val_main_v5, val_main_v4, val_main_v3, val_main_v1, val_main_v0]
  exact Finset.sum_congr rfl fun k _ => mul_comm _ _

theorem algebraic : Cert.algebraic_Kernel24Ideal_Reference24Ideal (hKernel24Ideal := Cert.Kernel24Ideal.Gen.facts)
    (hReference24Ideal := Cert.Reference24Ideal.Gen.facts) := by
  intro m g m' g' _ hm
  refine ⟨fun c => Kernel24Ideal.Mm.res _ _, Kernel24Ideal.Mm.run m g, (θ_run _ _ _).mono (fun r h c => ?_) (Reference24Ideal.Value.run m' g')⟩
  obtain ⟨e0, e1⟩ := hm c
  refine ⟨(h c).1.trans ?_, (h c).2⟩
  rw [e0, e1]
  exact (Reference24Ideal.Read.val_main_v5_eq (F := Ideal) _ _).trans (funext fun j => val_apply _ _ j)

end Cert.DwIn

end
-- ==== Proof.PostForward.lean ====
/-
  The HGRN2 layer's gated output norm, forward: the kernel's eight blocks, the reference's lines, and that both end with the
  same array.
-/
module

public import proofs.«01_k».proof.Defs
public import proofs.«01_k».proof.Proof.NormSpec
public import proofs.«01_k».proof.Proof.Gen.Kernel25Ideal.Value
public import proofs.«01_k».proof.Proof.Gen.Reference25Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel25Ideal.Gate

open Cert.Kernel25Ideal Cert.Kernel25Ideal.Gen Cert.Kernel25Ideal.Value Cert.Norm

theorem off2 : (![0, 0] : Fin 2 → Nat) = fun _ => 0 := by funext a; fin_cases a <;> rfl

/-- The gated entry of a row `o` with the gate `z` and the weights `w`. -/
abbrev gated (o : Fin 1024 → EReal) (z : EReal) (w : EReal) (l : Fin 1024) : EReal := o l * rsq o * w * (z * logi z)

/-- One block. -/
theorem pay1_apply (o : Vec Ideal S512x1024 .f32) (z : Vec Ideal S512x1024 .bf16) (w : Vec Ideal S1x1024 .f32) (r : Fin 512) (l : Fin 1024) :
    (k0_pay1 o z w (ix2 r l) : EReal) = gated (fun k => o (ix2 r k)) (z (ix2 r l)) (w (ix2 0 l)) l := by
  pointwise [k0_pay1]
  rfl

theorem out_apply (o : Vec Ideal S512x1024 .f32) (z : Vec Ideal S512x1024 .bf16) (w : Vec Ideal S1x1024 .f32) (r : Fin 512) (l : Fin 1024) :
    (out0_3 o z w (ix2 r l) : EReal) = gated (fun k => o (ix2 r k)) (z (ix2 r l)) (w (ix2 0 l)) l := by
  unfold out0_3
  rw [View.canon_unit_zero off2, View.ld_unit_zero (S := S512x1024) off2, View.ld_unit_zero (S := S512x1024) off2,
    View.ld_unit_zero (S := S1x1024) off2]
  exact pay1_apply o z w r l

/-- Block `t`'s rows; the gate's columns are the last quarter. -/
abbrev row (t : Fin cfg0.N) (r : Fin 512) : Fin 4096 := ⟨512 * t.val + r.val, by have := t.isLt; have : cfg0.N = 8 := N_0; omega⟩
abbrev col (l : Fin 1024) : Fin 4096 := ⟨3072 + l.val, by omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 3 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem emb3 (t : Fin cfg0.N) (r : Fin 512) (l : Fin 1024) :
    ((cfg0.win 3).blk t).view.emb (ix2 r l : S512x1024.Idx) = (ix2 (row t r) l : S4096x1024.Idx) := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

theorem mem3 (t : Fin cfg0.N) (r : Fin 512) (l : Fin 1024) :
    (ix2 (row t r) l : S4096x1024.Idx) ∈ ((cfg0.win 3).blk t).view.set := by
  rw [← emb3]; exact ((cfg0.win 3).blk t).view.emb_mem_set _

variable (m : (ℓ : Loc nD τ sig) → Buf (Elt Ideal) ℓ) (ρ : Dev nD → PrngReg)

abbrev argO (c : Dev nD) : Vec Ideal S4096x1024 .f32 := m ((c : Thread nD τ).loc main_arg0)
abbrev argZ (c : Dev nD) : Vec Ideal S4096x4096 .bf16 := m ((c : Thread nD τ).loc main_arg1)
abbrev argW (c : Dev nD) : Vec Ideal S1x1024 .f32 := m ((c : Thread nD τ).loc main_arg2)

theorem iblk0_apply (c : Dev nD) (t : Fin cfg0.N) (r : Fin 512) (l : Fin 1024) :
    (iblk m c 0 t : Vec Ideal S512x1024 .f32) (ix2 r l) = argO m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (r : Fin 512) (l : Fin 1024) :
    (iblk m c 1 t : Vec Ideal S512x1024 .bf16) (ix2 r l) = argZ m c (ix2 (row t r) (col l)) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 512 + 1 * r.val = 512 * t.val + r.val; omega
  | ⟨1, _⟩ => show win0_1.index t (1 : Fin 2) * 1024 + 1 * l.val = 3072 + l.val; omega

theorem iblk2_apply (c : Dev nD) (t : Fin cfg0.N) (l : Fin 1024) :
    (iblk m c 2 t : Vec Ideal S1x1024 .f32) (ix2 0 l) = argW m c (ix2 0 l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 1 + 1 * 0 = 0; omega
  | ⟨1, _⟩ => show win0_2.index t (1 : Fin 2) * 1024 + 1 * l.val = l.val; omega

/-- The gated norm. -/
def res (o : Vec Ideal S4096x1024 .f32) (z : Vec Ideal S4096x4096 .bf16) (w : Vec Ideal S1x1024 .f32) : Vec Ideal S4096x1024 .bf16 := fun j =>
  gated (fun k => o (ix2 (j 0) k)) (z (ix2 (j 0) (col (j 1)))) (w (ix2 0 (j 1))) (j 1)

theorem flushed3_eq (c : Dev nD) (t : Fin cfg0.N) : (dats m 0 c).flushed 3 t
    = ((cfg0.win 3).blk t).view.read (Elt Ideal) (res (argO m c) (argZ m c) (argW m c)) := by
  rw [flushed3]
  funext j
  obtain ⟨r, l, rfl⟩ : ∃ (r : Fin 512) (l : Fin 1024), j = (ix2 r l : S512x1024.Idx) := ⟨j 0, j 1, eq_ix2 j⟩
  show (out0_3 (iblk m c 0 t) (iblk m c 1 t) (iblk m c 2 t) (ix2 r l) : EReal)
    = res _ _ _ (((cfg0.win 3).blk t).view.emb (ix2 r l : S512x1024.Idx))
  rw [emb3, out_apply]
  simp only [iblk0_apply, iblk1_apply, iblk2_apply]
  rfl

theorem final3 (c : Dev nD) : (dats m 0 c).arrAt 3 cfg0.N = res (argO m c) (argZ m c) (argW m c) :=
  (dats m 0 c).arrAt_eq_of_cover 3 _ (fun t _ => flushed3_eq m c t) fun i => by
    have h0 : (i 0).val < 4096 := (i 0).isLt
    obtain ⟨t, ht⟩ : ∃ t : Fin cfg0.N, t.val = (i 0).val / 512 :=
      ⟨⟨(i 0).val / 512, by have : cfg0.N = 8 := N_0; omega⟩, rfl⟩
    refine ⟨t, flush0_3 t, ?_⟩
    have hi : i = (ix2 (row t ⟨(i 0).val % 512, by omega⟩) (i 1) : S4096x1024.Idx) := by
      funext a; apply Fin.ext
      match a with
      | ⟨0, _⟩ => show (i 0).val = 512 * t.val + (i 0).val % 512; omega
      | ⟨1, _⟩ => rfl
    rw [hi]
    exact mem3 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argO m c) (argZ m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Kernel25Ideal.Gate

namespace Cert.PostForward

open Cert.Reference25Ideal.Read Cert.Norm in
theorem val_apply (o : Vec Ideal Reference25Ideal.S4096x1024 .f32) (z : Vec Ideal Reference25Ideal.S4096x4096 .bf16)
    (w : Vec Ideal Reference25Ideal.S1x1024 .f32) (j : Reference25Ideal.S4096x1024.Idx) :
    (val_main_v18 (F := Ideal) o z w j : EReal) = Kernel25Ideal.Gate.res o z w j := by
  obtain ⟨r, l, rfl⟩ : ∃ (r : Fin 4096) (l : Fin 1024), j = ix2 r l := ⟨j 0, j 1, eq_ix2 j⟩
  pointwise [
    val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14,
    val_main_v15, val_main_call0_v0, val_main_call0_v1, val_main_call0_cst, val_main_call0_v2, val_main_call0_v3,
    val_main_call0_cst_0, val_main_call0_v4, val_main_call0_v5, val_main_v16, val_main_v17, val_main_v18]
  unfold Kernel25Ideal.Gate.res Kernel25Ideal.Gate.gated logi
  simp only [zero_sub]
  rfl

theorem algebraic : Cert.algebraic_Kernel25Ideal_Reference25Ideal (hKernel25Ideal := Cert.Kernel25Ideal.Gen.facts)
    (hReference25Ideal := Cert.Reference25Ideal.Gen.facts) := by
  intro m g m' g' _ hm
  refine ⟨fun c => Kernel25Ideal.Gate.res _ _ _, Kernel25Ideal.Gate.run m g, (θ_run _ _ _).mono (fun r h c => ?_) (Reference25Ideal.Value.run m' g')⟩
  obtain ⟨e0, e1, e2⟩ := hm c
  refine ⟨(h c).1.trans ?_, (h c).2⟩
  rw [e0, e1, e2]
  exact (Reference25Ideal.Read.val_main_v18_eq (F := Ideal) _ _ _).trans (funext fun j => val_apply _ _ _ j)

end Cert.PostForward

end
-- ==== Proof.LossSpec.lean ====
/-
  The arithmetic of the loss head over the extended reals: dividing by the width is multiplying by a positive real number,
  and such a number goes into a sum whatever its terms are.
-/
module

public import proofs.«01_k».proof.Proof.NormSpec
public import proofs.«01_k».proof.Proof.Reals

@[expose] public section

noncomputable section

open Idealize.ShloMosaic

namespace Cert.Loss

open Cert.Norm Cert.Reals

abbrev half : EReal := Ideal.ofBits .f32 0x3F000000#32
abbrev two : EReal := Ideal.ofBits .f32 0x40000000#32
abbrev one : EReal := Ideal.ofBits .f32 0x3F800000#32

theorem half_eq : half = ((1 / 2 : ℝ) : EReal) := by
  unfold half
  simp [Ideal.ofBits, Ideal.ieee, -EReal.coe_mul]; norm_num

theorem two_eq : two = ((2 : ℝ) : EReal) := by
  unfold two
  simp [Ideal.ofBits, Ideal.ieee, -EReal.coe_mul]; norm_num

theorem one_eq : one = ((1 : ℝ) : EReal) := by
  unfold one
  simp [Ideal.ofBits, Ideal.ieee, -EReal.coe_mul]; norm_num

theorem div_width (a : EReal) : Ideal.div a width = a * ((1 / 1024 : ℝ) : EReal) := by
  rw [width_eq]
  unfold Ideal.div
  rw [if_neg (by exact_mod_cast (by norm_num : (1024 : ℝ) ≠ 0)), ← EReal.coe_inv, one_div]

/-- The derivative of half the mean of the squares is the difference over the width. -/
theorem slope (d : EReal) : Ideal.div (half * 1) width * (two * d) = Ideal.div d width := by
  rw [div_width, div_width, half_eq, two_eq, mul_one, ← mul_assoc, ← EReal.coe_mul, ← EReal.coe_mul, mul_comm d]
  norm_num

/-- A nonnegative real number goes into a sum. -/
theorem mul_sum_real {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- Half a sum over the width is the sum of the halves over the width. -/
theorem half_sum_div {ι : Type*} (s : Finset ι) (f : ι → EReal) :
    Ideal.div (half * ∑ i ∈ s, f i) width = ∑ i ∈ s, ((1 / 2048 : ℝ) : EReal) * f i := by
  rw [← mul_sum_real s _ (by norm_num), div_width, half_eq, mul_comm, ← mul_assoc, ← EReal.coe_mul]
  norm_num

/-- … and so is half the sum of the quotients. -/
theorem half_sum_of_div {ι : Type*} (s : Finset ι) (f : ι → EReal) :
    half * ∑ i ∈ s, Ideal.div (f i) width = ∑ i ∈ s, ((1 / 2048 : ℝ) : EReal) * f i := by
  rw [half_eq, mul_sum_real s _ (by norm_num)]
  refine Finset.sum_congr rfl fun i _ => ?_
  rw [div_width, mul_comm (f i), ← mul_assoc, ← EReal.coe_mul]
  norm_num

end Cert.Loss

end
-- ==== Proof.LossBlock.lean ====
/-
  The loss head's kernel, one block of rows: what its stores leave in the four result buffers, for the first block, which
  sets the two sums to zero, and for the later ones, which go on with them.
-/
module

public import proofs.«01_k».proof.Proof.Gen.Kernel26Ideal.Value
public import Idealize.ShloMosaic.Lib.Claim
public import Idealize.ShloMosaic.Lib.Pipeline.Value
public import Idealize.ShloMosaic.Lib.Tactic

@[expose] public section

noncomputable section

open Idealize.ShloMosaic Idealize.ShloMosaic.TcCoe Idealize.SL.Sem

namespace Cert.Kernel26Ideal.Loss

open Cert.Kernel26Ideal Cert.Kernel26Ideal.Gen

variable {F : FTy → Type} [FloatOps F]

theorem off2 : (![0, 0] : Fin 2 → Nat) = fun _ => 0 := by funext a; fin_cases a <;> rfl

/-- The sum of the loss, one block of rows further, -/
abbrev lossStep (acc : Vec F S1x128 .f32) (h : Vec F S512x1024 .f32) (w : Vec F S1x1024 .f32) (t : Vec F S512x1024 .f32) :
    Vec F S1x128 .f32 := k0_pay12 h w t acc

/-- … the block of the gradient of `h`, -/
abbrev dhBlk (h : Vec F S512x1024 .f32) (w : Vec F S1x1024 .f32) (t : Vec F S512x1024 .f32) : Vec F S512x1024 .f32 :=
  k0_pay2 h w (k0_pay8 h) (k0_pay9 h) (k0_pay11 h w t)

/-- … the same in the narrower format, -/
abbrev dhbBlk (h : Vec F S512x1024 .f32) (w : Vec F S1x1024 .f32) (t : Vec F S512x1024 .f32) : Vec F S512x1024 .bf16 :=
  k0_pay3 h w (k0_pay8 h) (k0_pay9 h) (k0_pay11 h w t)

/-- … and the sum for the norm weights' gradient. -/
abbrev dnwStep (acc : Vec F S1x1024 .f32) (h : Vec F S512x1024 .f32) (w : Vec F S1x1024 .f32) (t : Vec F S512x1024 .f32) :
    Vec F S1x1024 .f32 := k0_pay4 (k0_pay10 h) (k0_pay11 h w t) acc

section Cases

variable (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S1x128 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1x1024 .f32) (h7 : a7.IsWhole)
  (h : Vec F S512x1024 .f32) (w : Vec F S1x1024 .f32) (t : Vec F S512x1024 .f32) (loss : Vec F S1x128 .f32) (acc : Vec F S1x1024 .f32)

theorem first_loss (hc : cond0_0 i) : out0_A_3 c i a1 h1 a2 h2 a3 h3 a4 h4 a5 h5 a6 h6 a7 h7 hc h w t = lossStep k0_pay6 h w t := by
  unfold out0_A_3
  rw [View.read_writes_eq_canon _ _ _ (cover0_A_3 c i a1 h1 a2 h2 a3 h3 a4 h4 a5 h5 a6 h6 a7 h7 hc h w t)]
  unfold kernelRun0_A
  dsimp only
  sl_unfold_words
  rw [View.canon_cons_unit_zero (S := S1x128) off2, View.readCov_unit_zero (S := S1x128) _ off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem first_dh (hc : cond0_0 i) : out0_A_4 c i a1 h1 a2 h2 a3 h3 a4 h4 a5 h5 a6 h6 a7 h7 hc h w t = dhBlk h w t := by
  unfold out0_A_4
  rw [View.read_writes_eq_canon _ _ _ (cover0_A_4 c i a1 h1 a2 h2 a3 h3 a4 h4 a5 h5 a6 h6 a7 h7 hc h w t)]
  unfold kernelRun0_A
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem first_dhb (hc : cond0_0 i) : out0_A_5 c i a1 h1 a2 h2 a3 h3 a4 h4 a5 h5 a6 h6 a7 h7 hc h w t = dhbBlk h w t := by
  unfold out0_A_5
  rw [View.read_writes_eq_canon _ _ _ (cover0_A_5 c i a1 h1 a2 h2 a3 h3 a4 h4 a5 h5 a6 h6 a7 h7 hc h w t)]
  unfold kernelRun0_A
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem first_dnw (hc : cond0_0 i) : out0_A_6 c i a1 h1 a2 h2 a3 h3 a4 h4 a5 h5 a6 h6 a7 h7 hc h w t = dnwStep k0_pay5 h w t := by
  unfold out0_A_6
  rw [View.read_writes_eq_canon _ _ _ (cover0_A_6 c i a1 h1 a2 h2 a3 h3 a4 h4 a5 h5 a6 h6 a7 h7 hc h w t)]
  unfold kernelRun0_A
  dsimp only
  sl_unfold_words
  rw [View.canon_cons_unit_zero (S := S1x1024) off2, View.readCov_unit_zero (S := S1x1024) _ off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem later_loss (hc : ¬cond0_0 i) : out0_B_3 c i a1 h1 a2 h2 a3 h3 a4 h4 a5 h5 a6 h6 a7 h7 hc h w t loss acc = lossStep loss h w t := by
  unfold out0_B_3
  rw [View.read_writes_eq_canon _ _ _ (cover0_B_3 c i a1 h1 a2 h2 a3 h3 a4 h4 a5 h5 a6 h6 a7 h7 hc h w t loss acc)]
  unfold kernelRun0_B
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem later_dh (hc : ¬cond0_0 i) : out0_B_4 c i a1 h1 a2 h2 a3 h3 a4 h4 a5 h5 a6 h6 a7 h7 hc h w t loss acc = dhBlk h w t := by
  unfold out0_B_4
  rw [View.read_writes_eq_canon _ _ _ (cover0_B_4 c i a1 h1 a2 h2 a3 h3 a4 h4 a5 h5 a6 h6 a7 h7 hc h w t loss acc)]
  unfold kernelRun0_B
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem later_dhb (hc : ¬cond0_0 i) : out0_B_5 c i a1 h1 a2 h2 a3 h3 a4 h4 a5 h5 a6 h6 a7 h7 hc h w t loss acc = dhbBlk h w t := by
  unfold out0_B_5
  rw [View.read_writes_eq_canon _ _ _ (cover0_B_5 c i a1 h1 a2 h2 a3 h3 a4 h4 a5 h5 a6 h6 a7 h7 hc h w t loss acc)]
  unfold kernelRun0_B
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

theorem later_dnw (hc : ¬cond0_0 i) : out0_B_6 c i a1 h1 a2 h2 a3 h3 a4 h4 a5 h5 a6 h6 a7 h7 hc h w t loss acc = dnwStep acc h w t := by
  unfold out0_B_6
  rw [View.read_writes_eq_canon _ _ _ (cover0_B_6 c i a1 h1 a2 h2 a3 h3 a4 h4 a5 h5 a6 h6 a7 h7 hc h w t loss acc)]
  unfold kernelRun0_B
  dsimp only
  sl_unfold_words
  rw [View.canon_unit_zero off2]
  simp only [View.readAt_eq_ld, h1.read_unread, h2.read_unread, h3.read_unread, h4.read_unread, h7.read_unread,
    View.ld_unit_zero (S := S512x1024) off2, View.ld_unit_zero (S := S1x1024) off2, View.ld_unit_zero (S := S1x128) off2, shapeCast_self]

end Cases

end Cert.Kernel26Ideal.Loss

end
-- ==== Proof.LossHead.lean ====
/-
  The loss head over all eight blocks of rows: what the kernel's four result arrays hold when it has run, what the reference
  computes at an entry, and that these are the same.
-/
module

public import proofs.«01_k».proof.Defs
public import proofs.«01_k».proof.Proof.LossSpec
public import proofs.«01_k».proof.Proof.LossBlock
public import proofs.«01_k».proof.Proof.Gen.Reference26Ideal.Read
public import proofs.«01_k».proof.Proof.Gen.Reference26Ideal.Run
public import Idealize.ShloMosaic.Lib.Pointwise

@[expose] public section

noncomputable section

open Idealize.ShloMosaic Idealize.ShloMosaic.TcCoe Idealize.SL.Sem
open Idealize.ShloMosaic.Pipeline (Dat)

namespace Cert.Kernel26Ideal.Loss

open Cert.Kernel26Ideal Cert.Kernel26Ideal.Gen Cert.Kernel26Ideal.Value Cert.Norm Cert.Loss

/-- What the normed row lacks of the target. -/
abbrev diff (h w t : Fin 1024 → EReal) (l : Fin 1024) : EReal := h l * rsq h * w l - t l

/-- The sum of its squares. -/
abbrev sq (h w t : Fin 1024 → EReal) : EReal := ∑ l, diff h w t l * diff h w t l

/-- The gradient of the row. -/
abbrev gradH (h w t : Fin 1024 → EReal) (l : Fin 1024) : EReal := rowGrad h (fun k => Ideal.div (diff h w t k) width * w k) l

/-- The row's part of the gradient of the weights. -/
abbrev gradW (h w t : Fin 1024 → EReal) (l : Fin 1024) : EReal := h l * rsq h * Ideal.div (diff h w t l) width

/-! ## One block at an entry -/

section Block

variable (h : Vec Ideal S512x1024 .f32) (w : Vec Ideal S1x1024 .f32) (t : Vec Ideal S512x1024 .f32)
  (loss : Vec Ideal S1x128 .f32) (acc : Vec Ideal S1x1024 .f32)

theorem dh_apply (a : Fin 512) (l : Fin 1024) : dhBlk h w t (ix2 a l)
    = gradH (fun k => h (ix2 a k)) (fun k => w (ix2 0 k)) (fun k => t (ix2 a k)) l := by
  unfold dhBlk
  pointwise [k0_pay1, k0_pay2, k0_pay7, k0_pay8, k0_pay9, k0_pay10, k0_pay11]
  simp only [Finset.univ_unique, Finset.sum_singleton]
  rfl

theorem dhb_apply (a : Fin 512) (l : Fin 1024) : (dhbBlk h w t (ix2 a l) : EReal)
    = gradH (fun k => h (ix2 a k)) (fun k => w (ix2 0 k)) (fun k => t (ix2 a k)) l := by
  unfold dhbBlk k0_pay3
  exact dh_apply h w t a l

theorem dnw_apply (l : Fin 1024) : dnwStep acc h w t (ix2 0 l)
    = acc (ix2 0 l) + ∑ a : Fin 512, gradW (fun k => h (ix2 a k)) (fun k => w (ix2 0 k)) (fun k => t (ix2 a k)) l := by
  unfold dnwStep
  pointwise [k0_pay1, k0_pay4, k0_pay7, k0_pay8, k0_pay10, k0_pay11]
  rfl

theorem loss_apply (l : Fin 128) : lossStep loss h w t (ix2 0 l)
    = loss (ix2 0 l) + Ideal.div (half * ∑ a : Fin 512, sq (fun k => h (ix2 a k)) (fun k => w (ix2 0 k)) (fun k => t (ix2 a k))) width := by
  unfold lossStep
  pointwise [k0_pay12, k0_pay7, k0_pay8, k0_pay10, k0_pay11]
  rfl

end Block

/-! ## The blocks' places in the arrays -/

/-- Row `r` of block `t`. -/
abbrev row (t : Fin cfg0.N) (r : Fin 512) : Fin 4096 := ⟨512 * t.val + r.val, by have := t.isLt; have : cfg0.N = 8 := N_0; omega⟩

/-- Every row lies in one of the eight blocks. -/
theorem row_surj (i : Fin 4096) : ∃ (t : Fin cfg0.N) (r : Fin 512), row t r = i :=
  ⟨⟨i.val / 512, by have : cfg0.N = 8 := N_0; omega⟩, ⟨i.val % 512, by omega⟩, Fin.ext (by show 512 * (i.val / 512) + i.val % 512 = i.val; omega)⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem emb3 (t : Fin cfg0.N) (r : Fin 1) (l : Fin 128) :
    ((cfg0.win 3).blk t).view.emb (ix2 r l : S1x128.Idx) = (ix2 r l : S1x128.Idx) := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 128 + 1 * l.val = l.val; omega

theorem emb4 (t : Fin cfg0.N) (r : Fin 512) (l : Fin 1024) :
    ((cfg0.win 4).blk t).view.emb (ix2 r l : S512x1024.Idx) = (ix2 (row t r) l : S4096x1024.Idx) := by
  obtain ⟨e0, e1⟩ := idx4 t
  funext a; apply Fin.ext
  match a with
  | ⟨0, _⟩ => show win0_4.index t (0 : Fin 2) * 512 + 1 * r.val = 512 * t.val + r.val; omega
  | ⟨1, _⟩ => show win0_4.index t (1 : Fin 2) * 1024 + 1 * l.val = l.val; omega

theorem emb5 (t : Fin cfg0.N) (r : Fin 512) (l : Fin 1024) :
    ((cfg0.win 5).blk t).view.emb (ix2 r l : S512x1024.Idx) = (ix2 (row t r) l : S4096x1024.Idx) := by
  obtain ⟨e0, e1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem emb6 (t : Fin cfg0.N) (r : Fin 1) (l : Fin 1024) :
    ((cfg0.win 6).blk t).view.emb (ix2 r l : S1x1024.Idx) = (ix2 r l : S1x1024.Idx) := by
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 1024 + 1 * l.val = l.val; omega

theorem mem4 (t : Fin cfg0.N) (r : Fin 512) (l : Fin 1024) :
    (ix2 (row t r) l : S4096x1024.Idx) ∈ ((cfg0.win 4).blk t).view.set := by
  rw [← emb4]; exact ((cfg0.win 4).blk t).view.emb_mem_set _

theorem mem5 (t : Fin cfg0.N) (r : Fin 512) (l : Fin 1024) :
    (ix2 (row t r) l : S4096x1024.Idx) ∈ ((cfg0.win 5).blk t).view.set := by
  rw [← emb5]; exact ((cfg0.win 5).blk t).view.emb_mem_set _

variable (m : (ℓ : Loc nD τ sig) → Buf (Elt Ideal) ℓ) (ρ : Dev nD → PrngReg)

/-- The three argument arrays. -/
abbrev argH (c : Dev nD) : Vec Ideal S4096x1024 .f32 := m ((c : Thread nD τ).loc main_arg0)
abbrev argW (c : Dev nD) : Vec Ideal S1x1024 .f32 := m ((c : Thread nD τ).loc main_arg1)
abbrev argT (c : Dev nD) : Vec Ideal S4096x1024 .f32 := m ((c : Thread nD τ).loc main_arg2)

theorem iblk0_apply (c : Dev nD) (t : Fin cfg0.N) (r : Fin 512) (l : Fin 1024) :
    (iblk m c 0 t : Vec Ideal S512x1024 .f32) (ix2 r l) = argH m c (ix2 (row t r) l) := by
  obtain ⟨e0, e1⟩ := idx0 t
  show V m c main_arg0 _ = m (c.tc.loc main_arg0) _
  rw [V_main_arg0]
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (c : Dev nD) (t : Fin cfg0.N) (l : Fin 1024) :
    (iblk m c 1 t : Vec Ideal S1x1024 .f32) (ix2 0 l) = argW m c (ix2 0 l) := by
  obtain ⟨e0, e1⟩ := idx1 t
  show V m c main_arg1 _ = m (c.tc.loc main_arg1) _
  rw [V_main_arg1]
  congr 1; funext a; apply Fin.ext
  match a with
  | ⟨0, _⟩ => show win0_1.index t (0 : Fin 2) * 1 + 1 * 0 = 0; omega
  | ⟨1, _⟩ => show win0_1.index t (1 : Fin 2) * 1024 + 1 * l.val = l.val; omega

theorem iblk2_apply (c : Dev nD) (t : Fin cfg0.N) (r : Fin 512) (l : Fin 1024) :
    (iblk m c 2 t : Vec Ideal S512x1024 .f32) (ix2 r l) = argT m c (ix2 (row t r) l) := by
  obtain ⟨e0, e1⟩ := idx2 t
  show V m c main_arg2 _ = m (c.tc.loc main_arg2) _
  rw [V_main_arg2]
  congr 1; funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

/-! ## What the result arrays hold -/

section Res

variable (h : Vec Ideal S4096x1024 .f32) (w : Vec Ideal S1x1024 .f32) (t : Vec Ideal S4096x1024 .f32)

/-- Row `r`'s part of the loss. -/
abbrev rowL (r : Fin 4096) : EReal :=
  ((1 / 2048 : ℝ) : EReal) * sq (fun k => h (ix2 r k)) (fun k => w (ix2 0 k)) (fun k => t (ix2 r k))

/-- Row `r`'s part of the gradient of the norm's weights. -/
abbrev rowW (l : Fin 1024) (r : Fin 4096) : EReal := gradW (fun k => h (ix2 r k)) (fun k => w (ix2 0 k)) (fun k => t (ix2 r k)) l

/-- The loss, -/
def resL : Vec Ideal S1x128 .f32 := fun _ => ∑ r : Fin 4096, rowL h w t r

/-- … the gradient of `h`, -/
def resH : Vec Ideal S4096x1024 .f32 := fun j =>
  gradH (fun k => h (ix2 (j 0) k)) (fun k => w (ix2 0 k)) (fun k => t (ix2 (j 0) k)) (j 1)

/-- … the same in the narrower format, -/
def resB : Vec Ideal S4096x1024 .bf16 := fun j => resH h w t j

/-- … and the gradient of the norm's weights. -/
def resW : Vec Ideal S1x1024 .f32 := fun j => ∑ r : Fin 4096, rowW h w t (j 1) r

end Res

theorem flushed4_eq (c : Dev nD) (t : Fin cfg0.N) : (dats m 0 c).flushed 4 t
    = ((cfg0.win 4).blk t).view.read (Elt Ideal) (resH (argH m c) (argW m c) (argT m c)) := by
  have key : (dats m 0 c).flushed 4 t = (cfg0.win 4).cut (grid0.coords t)
      (dhBlk (iblk m c 0 t) (iblk m c 1 t) (iblk m c 2 t)) := by
    by_cases h : t.val % 8 = 0
    · rw [flushed4_A m c t h, first_dh]
    · rw [flushed4_B m c t h, later_dh]
  rw [key]
  funext j
  obtain ⟨r, l, rfl⟩ : ∃ (r : Fin 512) (l : Fin 1024), j = (ix2 r l : S512x1024.Idx) := ⟨j 0, j 1, eq_ix2 j⟩
  show dhBlk (iblk m c 0 t) (iblk m c 1 t) (iblk m c 2 t) (ix2 r l) = resH _ _ _ (((cfg0.win 4).blk t).view.emb (ix2 r l : S512x1024.Idx))
  rw [emb4, dh_apply]
  simp only [iblk0_apply, iblk1_apply, iblk2_apply]
  rfl

theorem flushed5_eq (c : Dev nD) (t : Fin cfg0.N) : (dats m 0 c).flushed 5 t
    = ((cfg0.win 5).blk t).view.read (Elt Ideal) (resB (argH m c) (argW m c) (argT m c)) := by
  have key : (dats m 0 c).flushed 5 t = (cfg0.win 5).cut (grid0.coords t)
      (dhbBlk (iblk m c 0 t) (iblk m c 1 t) (iblk m c 2 t)) := by
    by_cases h : t.val % 8 = 0
    · rw [flushed5_A m c t h, first_dhb]
    · rw [flushed5_B m c t h, later_dhb]
  rw [key]
  funext j
  obtain ⟨r, l, rfl⟩ : ∃ (r : Fin 512) (l : Fin 1024), j = (ix2 r l : S512x1024.Idx) := ⟨j 0, j 1, eq_ix2 j⟩
  show (dhbBlk (iblk m c 0 t) (iblk m c 1 t) (iblk m c 2 t) (ix2 r l) : EReal)
    = resB _ _ _ (((cfg0.win 5).blk t).view.emb (ix2 r l : S512x1024.Idx))
  rw [emb5, dhb_apply]
  simp only [iblk0_apply, iblk1_apply, iblk2_apply]
  rfl

theorem final4 (c : Dev nD) : (dats m 0 c).arrAt 4 cfg0.N = resH (argH m c) (argW m c) (argT m c) :=
  (dats m 0 c).arrAt_eq_of_cover 4 _ (fun t _ => flushed4_eq m c t) fun i => by
    obtain ⟨t, r, h⟩ := row_surj (i 0)
    refine ⟨t, flush0_4 t, ?_⟩
    have hi : i = (ix2 (row t r) (i 1) : S4096x1024.Idx) := by rw [h]; exact eq_ix2 i
    rw [hi]
    exact mem4 t r (i 1)

theorem final5 (c : Dev nD) : (dats m 0 c).arrAt 5 cfg0.N = resB (argH m c) (argW m c) (argT m c) :=
  (dats m 0 c).arrAt_eq_of_cover 5 _ (fun t _ => flushed5_eq m c t) fun i => by
    obtain ⟨t, r, h⟩ := row_surj (i 0)
    refine ⟨t, flush0_5 t, ?_⟩
    have hi : i = (ix2 (row t r) (i 1) : S4096x1024.Idx) := by rw [h]; exact eq_ix2 i
    rw [hi]
    exact mem5 t r (i 1)

/-- One block's part of the loss. -/
theorem loss_part (c : Dev nD) (t : Fin cfg0.N) (loss : Vec Ideal S1x128 .f32) (l : Fin 128) :
    lossStep loss (iblk m c 0 t) (iblk m c 1 t) (iblk m c 2 t) (ix2 0 l)
      = loss (ix2 0 l) + ∑ r : Fin 512, rowL (argH m c) (argW m c) (argT m c) (row t r) := by
  rw [loss_apply, half_sum_div]
  simp only [iblk0_apply, iblk1_apply, iblk2_apply]

/-- One block's part of the gradient of the weights. -/
theorem dnw_part (c : Dev nD) (t : Fin cfg0.N) (acc : Vec Ideal S1x1024 .f32) (l : Fin 1024) :
    dnwStep acc (iblk m c 0 t) (iblk m c 1 t) (iblk m c 2 t) (ix2 0 l)
      = acc (ix2 0 l) + ∑ r : Fin 512, rowW (argH m c) (argW m c) (argT m c) l (row t r) := by
  rw [dnw_apply]
  simp only [iblk0_apply, iblk1_apply, iblk2_apply]

/-- The running sum of the loss after block `n`: the first `512 * (n + 1)` rows' parts, -/
theorem loss_after (c : Dev nD) : ∀ (n : ℕ) (h : n < cfg0.N) (l : Fin 128), (outsAt0 m c n h).1 (ix2 0 l)
    = ∑ t : Fin (n + 1), ∑ r : Fin 512, rowL (argH m c) (argW m c) (argT m c) (row ⟨t.val, by omega⟩ r)
  | 0, h, l => by
    rw [show outsAt0 m c 0 h = _ from outsAt0_A m c ⟨0, h⟩ rfl]
    dsimp only
    rw [first_loss, loss_part, show (k0_pay6 : FVec Ideal S1x128 .f32) (ix2 0 l) = (0 : EReal) from by pointwise [k0_pay6],
      zero_add, Fin.sum_univ_one]
    rfl
  | n + 1, h, l => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [later_loss, loss_part, Fin.sum_univ_castSucc (n := n + 1)]
    exact congrArg₂ (· + ·) (loss_after c n (Nat.lt_of_succ_lt h) l) rfl

/-- … and that of the weights' gradient. -/
theorem dnw_after (c : Dev nD) : ∀ (n : ℕ) (h : n < cfg0.N) (l : Fin 1024), (outsAt0 m c n h).2.2.2 (ix2 0 l)
    = ∑ t : Fin (n + 1), ∑ r : Fin 512, rowW (argH m c) (argW m c) (argT m c) l (row ⟨t.val, by omega⟩ r)
  | 0, h, l => by
    rw [show outsAt0 m c 0 h = _ from outsAt0_A m c ⟨0, h⟩ rfl]
    dsimp only
    rw [first_dnw, dnw_part, show (k0_pay5 : FVec Ideal S1x1024 .f32) (ix2 0 l) = (0 : EReal) from by pointwise [k0_pay5],
      zero_add, Fin.sum_univ_one]
    rfl
  | n + 1, h, l => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [later_dnw, dnw_part, Fin.sum_univ_castSucc (n := n + 1)]
    exact congrArg₂ (· + ·) (dnw_after c n (Nat.lt_of_succ_lt h) l) rfl

/-- The eight blocks' sums are the sum over all rows. -/
theorem tiles (f : Fin 4096 → EReal) (h : 7 < cfg0.N) :
    ∑ t : Fin (7 + 1), ∑ r : Fin 512, f (row ⟨t.val, by have : cfg0.N = 8 := N_0; omega⟩ r) = ∑ r, f r := by
  rw [Fin.sum_univ_tiles 8 512 rfl]
  refine Finset.sum_congr rfl fun a _ => Finset.sum_congr rfl fun b _ => congrArg f (Fin.ext ?_)
  exact congrArg (· + b.val) (Nat.mul_comm 512 a.val)

theorem flushed3_eq (c : Dev nD) (t : Fin cfg0.N) (hf : (cfg0.win 3).flush t = true) : (dats m 0 c).flushed 3 t
    = ((cfg0.win 3).blk t).view.read (Elt Ideal) (resL (argH m c) (argW m c) (argT m c)) := by
  have hN : cfg0.N = 8 := N_0
  have h7 : t.val = 7 := by have := (flush0_3 t).mp hf; have := t.isLt; omega
  rw [flushed3]
  funext j
  obtain ⟨r, l, rfl⟩ : ∃ (r : Fin 1) (l : Fin 128), j = (ix2 r l : S1x128.Idx) := ⟨j 0, j 1, eq_ix2 j⟩
  obtain rfl : r = 0 := Subsingleton.elim _ _
  show (outsAt0 m c t.val t.isLt).1 (ix2 0 l) = resL _ _ _ (((cfg0.win 3).blk t).view.emb (ix2 0 l : S1x128.Idx))
  rw [emb3, loss_after]
  obtain ⟨t, ht⟩ := t
  obtain rfl : t = 7 := h7
  exact tiles _ ht

theorem flushed6_eq (c : Dev nD) (t : Fin cfg0.N) (hf : (cfg0.win 6).flush t = true) : (dats m 0 c).flushed 6 t
    = ((cfg0.win 6).blk t).view.read (Elt Ideal) (resW (argH m c) (argW m c) (argT m c)) := by
  have hN : cfg0.N = 8 := N_0
  have h7 : t.val = 7 := by have := (flush0_6 t).mp hf; have := t.isLt; omega
  rw [flushed6]
  funext j
  obtain ⟨r, l, rfl⟩ : ∃ (r : Fin 1) (l : Fin 1024), j = (ix2 r l : S1x1024.Idx) := ⟨j 0, j 1, eq_ix2 j⟩
  obtain rfl : r = 0 := Subsingleton.elim _ _
  show (outsAt0 m c t.val t.isLt).2.2.2 (ix2 0 l) = resW _ _ _ (((cfg0.win 6).blk t).view.emb (ix2 0 l : S1x1024.Idx))
  rw [emb6, dnw_after]
  obtain ⟨t, ht⟩ := t
  obtain rfl : t = 7 := h7
  exact tiles _ ht

theorem final3 (c : Dev nD) : (dats m 0 c).arrAt 3 cfg0.N = resL (argH m c) (argW m c) (argT m c) :=
  (dats m 0 c).arrAt_eq_of_cover 3 _ (flushed3_eq m c) fun i => by
    refine ⟨t0_7, (flush0_3 t0_7).mpr rfl, ?_⟩
    have hi : i = (ix2 (i 0) (i 1) : S1x128.Idx) := eq_ix2 i
    rw [hi, ← emb3 t0_7 (i 0) (i 1)]
    exact ((cfg0.win 3).blk t0_7).view.emb_mem_set _

theorem final6 (c : Dev nD) : (dats m 0 c).arrAt 6 cfg0.N = resW (argH m c) (argW m c) (argT m c) :=
  (dats m 0 c).arrAt_eq_of_cover 6 _ (flushed6_eq m c) fun i => by
    refine ⟨t0_7, (flush0_6 t0_7).mpr rfl, ?_⟩
    have hi : i = (ix2 (i 0) (i 1) : S1x1024.Idx) := eq_ix2 i
    rw [hi, ← emb6 t0_7 (i 0) (i 1)]
    exact ((cfg0.win 6).blk t0_7).view.emb_mem_set _

/-- The kernel's run, with its four result arrays at their values. -/
theorem run : θ_run defs (onTc (τ := τ) (main (F := Ideal))) ⟨m, fun _ => 0, ρ⟩ fun r => ∀ c : Dev nD,
      r.2.mem ((c : Thread nD τ).loc main_v0_0) = resL (argH m c) (argW m c) (argT m c)
      ∧ r.2.mem ((c : Thread nD τ).loc main_v0_1) = resH (argH m c) (argW m c) (argT m c)
      ∧ r.2.mem ((c : Thread nD τ).loc main_v0_2) = resB (argH m c) (argW m c) (argT m c)
      ∧ r.2.mem ((c : Thread nD τ).loc main_v0_3) = resW (argH m c) (argW m c) (argT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c),
    (h c).2.2.1.trans (final5 m c), (h c).2.2.2.1.trans (final6 m c), (h c).2.2.2.2⟩) (run_blocks m ρ)

end Cert.Kernel26Ideal.Loss

/-! ## The reference at an entry -/

namespace Cert.Reference26Ideal.Loss

open Cert.Reference26Ideal Cert.Reference26Ideal.Gen Cert.Reference26Ideal.Read Cert.Norm Cert.Loss

variable (h : Vec Ideal S4096x1024 .f32) (w : Vec Ideal S1x1024 .f32) (t : Vec Ideal S4096x1024 .f32)

/-- The gradient of the normed rows. -/
theorem val31_apply (a : Fin 4096) (l : Fin 1024) : val_main_v31 (F := Ideal) h w t (ix2 a l)
    = Ideal.div (Kernel26Ideal.Loss.diff (fun k => h (ix2 a k)) (fun k => w (ix2 0 k)) (fun k => t (ix2 a k)) l) width := by
  refine Eq.trans ?_ (slope _)
  pointwise [val_main_v0, val_main_v1, val_main_cst, val_main_v2, val_main_v3, val_main_cst_0, val_main_v4, val_main_v5,
    val_main_cst_1, val_main_v6, val_main_v7, val_main_v8, val_main_v12, val_main_v13, val_main_v14, val_main_v15, val_main_v16,
    val_main_v17, val_main_cst_3, val_main_v19, val_main_v20, val_main_cst_8, val_main_cst_9, val_main_v26, val_main_v27,
    val_main_cst_10, val_main_v28, val_main_v29, val_main_v30, val_main_v31]
  rfl

theorem val51_apply (a : Fin 4096) (l : Fin 1024) : val_main_v51 (F := Ideal) h w t (ix2 a l)
    = Kernel26Ideal.Loss.gradH (fun k => h (ix2 a k)) (fun k => w (ix2 0 k)) (fun k => t (ix2 a k)) l := by
  unfold Kernel26Ideal.Loss.gradH
  simp only [← val31_apply]
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v14, val_main_v35, val_main_v36, val_main_v38, val_main_cst_13, val_main_v39, val_main_v40, val_main_v41,
    val_main_v42, val_main_v43, val_main_cst_14, val_main_v44, val_main_v45, val_main_cst_15, val_main_v46, val_main_v47,
    val_main_v48, val_main_v49, val_main_v50, val_main_v51]
  simp only [Finset.univ_unique, Finset.sum_singleton]
  rfl

theorem val54_apply (a : Fin 1) (l : Fin 1024) : val_main_v54 (F := Ideal) h w t (ix2 a l)
    = ∑ r : Fin 4096, Kernel26Ideal.Loss.gradW (fun k => h (ix2 r k)) (fun k => w (ix2 0 k)) (fun k => t (ix2 r k)) l := by
  unfold Kernel26Ideal.Loss.gradW
  simp only [← val31_apply]
  pointwise [val_main_v1, val_main_cst, val_main_v2, val_main_v3, val_main_cst_0, val_main_v4, val_main_v5,
    val_main_cst_1, val_main_v6, val_main_v7, val_main_v8, val_main_v12, val_main_v13, val_main_v32, val_main_cst_11, val_main_v33,
    val_main_v34, val_main_cst_12, val_main_v37, val_main_v54]
  simp only [Finset.univ_unique, Finset.sum_singleton]
  rfl

theorem val52_apply (a : Fin 1) (l : Fin 128) : val_main_v52 (F := Ideal) h w t (ix2 a l)
    = half * ∑ r : Fin 4096, Ideal.div (Kernel26Ideal.Loss.sq (fun k => h (ix2 r k)) (fun k => w (ix2 0 k)) (fun k => t (ix2 r k))) width := by
  pointwise [val_main_v0, val_main_v1, val_main_cst, val_main_v2, val_main_v3, val_main_cst_0, val_main_v4, val_main_v5,
    val_main_cst_1, val_main_v6, val_main_v7, val_main_v8, val_main_v12, val_main_v13, val_main_v14, val_main_v15, val_main_v16,
    val_main_v17, val_main_v18, val_main_cst_4, val_main_v21, val_main_cst_5, val_main_v22, val_main_v23, val_main_cst_6, val_main_v24,
    val_main_cst_7, val_main_v25, val_main_v52]
  rfl

end Cert.Reference26Ideal.Loss

namespace Cert.LossHead

theorem algebraic : Cert.algebraic_Kernel26Ideal_Reference26Ideal (hKernel26Ideal := Cert.Kernel26Ideal.Gen.facts)
    (hReference26Ideal := Cert.Reference26Ideal.Gen.facts) := by
  intro m g m' g' _ hm
  refine ⟨fun c => Kernel26Ideal.Loss.resL _ _ _, fun c => Kernel26Ideal.Loss.resH _ _ _, fun c => Kernel26Ideal.Loss.resB _ _ _,
    fun c => Kernel26Ideal.Loss.resW _ _ _,
    Kernel26Ideal.Loss.run m g, (θ_run _ _ _).mono (fun r h c => ?_) (Reference26Ideal.Value.run m' g')⟩
  obtain ⟨e0, e1, e2⟩ := hm c
  refine ⟨(h c).1.trans ?_, (h c).2.1.trans ?_, (h c).2.2.1.trans ?_, (h c).2.2.2.1.trans ?_, (h c).2.2.2.2⟩
  · rw [e0, e1, e2]
    funext j
    obtain ⟨a, b, rfl⟩ : ∃ (a : Fin 1) (b : Fin 128), j = ix2 a b := ⟨j 0, j 1, eq_ix2 j⟩
    exact (congrFun (Reference26Ideal.Read.val_main_v52_eq (F := Ideal) _ _ _) _).trans
      ((Reference26Ideal.Loss.val52_apply _ _ _ a b).trans (Cert.Loss.half_sum_of_div _ _))
  · rw [Reference26Ideal.Read.val_main_v51_eq, e0, e1, e2]
    funext j
    obtain ⟨a, b, rfl⟩ : ∃ (a : Fin 4096) (b : Fin 1024), j = ix2 a b := ⟨j 0, j 1, eq_ix2 j⟩
    exact Reference26Ideal.Loss.val51_apply _ _ _ a b
  · rw [Reference26Ideal.Read.val_main_v53_eq, e0, e1, e2]
    funext j
    obtain ⟨a, b, rfl⟩ : ∃ (a : Fin 4096) (b : Fin 1024), j = ix2 a b := ⟨j 0, j 1, eq_ix2 j⟩
    exact Reference26Ideal.Loss.val51_apply _ _ _ a b
  · rw [e0, e1, e2]
    funext j
    obtain ⟨a, b, rfl⟩ : ∃ (a : Fin 1) (b : Fin 1024), j = ix2 a b := ⟨j 0, j 1, eq_ix2 j⟩
    exact (congrFun (Reference26Ideal.Read.val_main_v54_eq (F := Ideal) _ _ _) _).trans (Reference26Ideal.Loss.val54_apply _ _ _ a b)

end Cert.LossHead

end
-- ==== Proof.AddSmall.lean ====
/-
  The packed small gradients summed over the eight devices' slots: the kernel's one block, the reference's one sum, and that
  both end with the same array.
-/
module

public import proofs.«01_k».proof.Defs
public import proofs.«01_k».proof.Proof.Gen.Kernel27Ideal.Value
public import proofs.«01_k».proof.Proof.Gen.Reference27Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel27Ideal.Add

open Cert.Kernel27Ideal Cert.Kernel27Ideal.Gen Cert.Kernel27Ideal.Value

theorem off2 : (![0, 0] : Fin 2 → Nat) = fun _ => 0 := by funext a; fin_cases a <;> rfl

/-- The sum over the eight slots. -/
def res (x : Vec Ideal S8x96x1024 .f32) : Vec Ideal S96x1024 .f32 := fun j => ∑ s : Fin 8, x (ix3 s (j 0) (j 1))

/-- The load of slot `s`. -/
theorem ld_apply (x : Vec Ideal S8x96x1024 .f32) (s : Fin 8) (inb : ∀ a, (![s.val, 0, 0] : Fin 3 → Nat) a + S1x96x1024.size a ≤ S8x96x1024.size a)
    (r : Fin 96) (l : Fin 1024) :
    View.ld x (Rect.unit (s := S8x96x1024) ![s.val, 0, 0] S1x96x1024.size inb) (ix3 0 r l) = x (ix3 s r l) := by
  show x _ = x _
  congr 1; funext a; apply Fin.ext
  match a with
  | ⟨0, _⟩ => show s.val + 1 * 0 = s.val; omega
  | ⟨1, _⟩ => show 0 + 1 * r.val = r.val; omega
  | ⟨2, _⟩ => show 0 + 1 * l.val = l.val; omega

theorem pay_apply (v0 v1 v2 v3 v4 v5 v6 v7 : Vec Ideal S1x96x1024 .f32) (r : Fin 96) (l : Fin 1024) :
    k0_pay1 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay1]

theorem out_apply (x : Vec Ideal S8x96x1024 .f32) (r : Fin 96) (l : Fin 1024) : out0_1 x (ix2 r l) = ∑ s : Fin 8, x (ix3 s r l) := by
  unfold out0_1
  rw [View.canon_unit_zero off2, pay_apply, Fin.sum_univ_eight]
  exact congrArg₂ (· + ·) (congrArg₂ (· + ·) (congrArg₂ (· + ·) (congrArg₂ (· + ·) (congrArg₂ (· + ·) (congrArg₂ (· + ·)
    (congrArg₂ (· + ·) (ld_apply x 0 _ r l) (ld_apply x 1 _ r l)) (ld_apply x 2 _ r l)) (ld_apply x 3 _ r l)) (ld_apply x 4 _ r l))
    (ld_apply x 5 _ r l)) (ld_apply x 6 _ r l)) (ld_apply x 7 _ r l)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)

theorem emb1 (t : Fin cfg0.N) (r : Fin 96) (l : Fin 1024) :
    ((cfg0.win 1).blk t).view.emb (ix2 r l : S96x1024.Idx) = (ix2 r l : S96x1024.Idx) := by
  obtain ⟨e0, e1⟩ := idx1 t
  funext a; apply Fin.ext
  match a with
  | ⟨0, _⟩ => show win0_1.index t (0 : Fin 2) * 96 + 1 * r.val = r.val; omega
  | ⟨1, _⟩ => show win0_1.index t (1 : Fin 2) * 1024 + 1 * l.val = l.val; omega

theorem mem1 (t : Fin cfg0.N) (r : Fin 96) (l : Fin 1024) : (ix2 r l : S96x1024.Idx) ∈ ((cfg0.win 1).blk t).view.set := by
  have h := ((cfg0.win 1).blk t).view.emb_mem_set (ix2 r l : S96x1024.Idx)
  rwa [emb1] at h

variable (m : (ℓ : Loc nD τ sig) → Buf (Elt Ideal) ℓ) (ρ : Dev nD → PrngReg)

abbrev argX (c : Dev nD) : Vec Ideal S8x96x1024 .f32 := m ((c : Thread nD τ).loc main_arg0)

theorem iblk0_apply (c : Dev nD) (t : Fin cfg0.N) (s : Fin 8) (r : Fin 96) (l : Fin 1024) :
    (iblk m c 0 t : Vec Ideal S8x96x1024 .f32) (ix3 s r l) = argX m c (ix3 s r l) := by
  obtain ⟨e0, e1, e2⟩ := idx0 t
  show V m c main_arg0 _ = m (c.tc.loc main_arg0) _
  rw [V_main_arg0]
  congr 1; funext a; apply Fin.ext
  match a with
  | ⟨0, _⟩ => show win0_0.index t (0 : Fin 3) * 8 + 1 * s.val = s.val; omega
  | ⟨1, _⟩ => show win0_0.index t (1 : Fin 3) * 96 + 1 * r.val = r.val; omega
  | ⟨2, _⟩ => show win0_0.index t (2 : Fin 3) * 1024 + 1 * l.val = l.val; omega

theorem flushed1_eq (c : Dev nD) (t : Fin cfg0.N) : (dats m 0 c).flushed 1 t
    = ((cfg0.win 1).blk t).view.read (Elt Ideal) (res (argX m c)) := by
  rw [flushed1]
  funext j
  obtain ⟨r, l, rfl⟩ : ∃ (r : Fin 96) (l : Fin 1024), j = (ix2 r l : S96x1024.Idx) := ⟨j 0, j 1, eq_ix2 j⟩
  show out0_1 (iblk m c 0 t) (ix2 r l) = res _ (((cfg0.win 1).blk t).view.emb (ix2 r l : S96x1024.Idx))
  rw [emb1, out_apply]
  simp only [iblk0_apply]
  rfl

theorem final1 (c : Dev nD) : (dats m 0 c).arrAt 1 cfg0.N = res (argX m c) :=
  (dats m 0 c).arrAt_eq_of_cover 1 _ (fun t _ => flushed1_eq m c t) fun i => by
    have t : Fin cfg0.N := ⟨0, by have : cfg0.N = 1 := N_0; omega⟩
    refine ⟨t, flush0_1 t, ?_⟩
    have hi : i = (ix2 (i 0) (i 1) : S96x1024.Idx) := eq_ix2 i
    rw [hi]
    exact mem1 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argX m c)
      ∧ r.2.mem ((c : Thread nD τ).loc main_arg0) = m ((c : Thread nD τ).loc main_arg0) :=
  (θ_run defs _ _).mono (fun r h c => ⟨(h c).1.trans (final1 m c), (h c).2⟩) (run_blocks m ρ)

end Cert.Kernel27Ideal.Add

namespace Cert.AddSmall

open Cert.Reference27Ideal.Read in
theorem val_apply (x : Vec Ideal Reference27Ideal.S8x96x1024 .f32) (j : Reference27Ideal.S96x1024.Idx) :
    val_main_v0 (F := Ideal) x j = Kernel27Ideal.Add.res x j := by
  obtain ⟨r, l, rfl⟩ : ∃ (r : Fin 96) (l : Fin 1024), j = ix2 r l := ⟨j 0, j 1, eq_ix2 j⟩
  pointwise [val_main_v0, val_main_cst]
  rfl

theorem algebraic : Cert.algebraic_Kernel27Ideal_Reference27Ideal (hKernel27Ideal := Cert.Kernel27Ideal.Gen.facts)
    (hReference27Ideal := Cert.Reference27Ideal.Gen.facts) := by
  intro m g m' g' _ hm
  refine ⟨fun c => Kernel27Ideal.Add.res _, Kernel27Ideal.Add.run m g, (θ_run _ _ _).mono (fun r h c => ?_) (Reference27Ideal.Value.run m' g')⟩
  have e0 := hm c
  refine ⟨(h c).1.trans ?_, (h c).2⟩
  rw [e0]
  exact (Reference27Ideal.Read.val_main_v0_eq (F := Ideal) _).trans (funext fun j => val_apply _ j)

end Cert.AddSmall

end
-- ==== Proof.ChipSpec.lean ====
/-
  A layer's slots of the chips' partial sums, added: four loads of one block each, the sum of one layer, and the layers stacked.
-/
module

public import proofs.«01_k».proof.Proof.AdamJoin
public import Idealize.ShloMosaic.Lib.Claim
public import Idealize.ShloMosaic.Lib.Pipeline.Value
public import Idealize.ShloMosaic.Lib.Pointwise

@[expose] public section

noncomputable section

open Idealize.ShloMosaic
open Cert.Adam (A3)

namespace Cert.Chip

/-- The sum of the four slots at an entry. -/
def slots {r c : Nat} (x : (A3 4 r c).Idx → EReal) (p : Fin r) (l : Fin c) : EReal := ∑ s : Fin 4, x (ix3 s p l)

theorem slots_congr {r R c : Nat} (x : (A3 4 r c).Idx → EReal) (y : (A3 4 R c).Idx → EReal) (p : Fin r) (q : Fin R) (l : Fin c)
    (h : ∀ s : Fin 4, x (ix3 s p l) = y (ix3 s q l)) : slots x p l = slots y q l := Finset.sum_congr rfl fun s _ => h s

/-- Every layer's sum, the layers stacked. -/
def stacked {n r c : Nat} (xs : Fin n → (A3 4 r c).Idx → EReal) : (A3 n r c).Idx → EReal := fun j => slots (xs (j 0)) (j 1) (j 2)

variable {r c : Nat} (x : Vec Ideal (A3 4 r c) .bf16) (p : Fin r) (l : Fin c)

/-- The load of slot `s`. -/
theorem ld_slot (s : Fin 4) (inb : ∀ a, (![s.val, 0, 0] : Fin 3 → Nat) a + (A3 1 r c).size a ≤ (A3 4 r c).size a) :
    View.ld x (Rect.unit (s := A3 4 r c) ![s.val, 0, 0] (A3 1 r c).size inb) (ix3 0 p l : (A3 1 r c).Idx) = x (ix3 s p l) := by
  show x _ = x _
  congr 1; funext a; apply Fin.ext
  match a with
  | ⟨0, _⟩ => show s.val + 1 * 0 = s.val; omega
  | ⟨1, _⟩ => show 0 + 1 * p.val = p.val; omega
  | ⟨2, _⟩ => show 0 + 1 * l.val = l.val; omega

/-- The four loads' sum at an entry. -/
theorem four
    (b0 : ∀ a, (![0, 0, 0] : Fin 3 → Nat) a + (A3 1 r c).size a ≤ (A3 4 r c).size a)
    (b1 : ∀ a, (![1, 0, 0] : Fin 3 → Nat) a + (A3 1 r c).size a ≤ (A3 4 r c).size a)
    (b2 : ∀ a, (![2, 0, 0] : Fin 3 → Nat) a + (A3 1 r c).size a ≤ (A3 4 r c).size a)
    (b3 : ∀ a, (![3, 0, 0] : Fin 3 → Nat) a + (A3 1 r c).size a ≤ (A3 4 r c).size a) :
    (View.ld x (Rect.unit (s := A3 4 r c) ![0, 0, 0] (A3 1 r c).size b0) (ix3 0 p l : (A3 1 r c).Idx) : EReal)
      + View.ld x (Rect.unit (s := A3 4 r c) ![1, 0, 0] (A3 1 r c).size b1) (ix3 0 p l : (A3 1 r c).Idx)
      + View.ld x (Rect.unit (s := A3 4 r c) ![2, 0, 0] (A3 1 r c).size b2) (ix3 0 p l : (A3 1 r c).Idx)
      + View.ld x (Rect.unit (s := A3 4 r c) ![3, 0, 0] (A3 1 r c).size b3) (ix3 0 p l : (A3 1 r c).Idx) = slots x p l := by
  unfold slots
  rw [Fin.sum_univ_four]
  exact congrArg₂ (· + ·) (congrArg₂ (· + ·) (congrArg₂ (· + ·) (ld_slot x p l 0 b0) (ld_slot x p l 1 b1)) (ld_slot x p l 2 b2))
    (ld_slot x p l 3 b3)

end Cert.Chip

end
-- ==== Proof.Chips28.lean ====
/-
  The MLP weights' gradients: a chip's four slots added, for the four layers. The kernel's blocks, the reference's four
  sums, and that both end with the same array.
-/
module

public import proofs.«01_k».proof.Defs
public import proofs.«01_k».proof.Proof.ChipSpec
public import proofs.«01_k».proof.Proof.Gen.Kernel28Ideal.Value
public import proofs.«01_k».proof.Proof.Gen.Reference28Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel28Ideal.Chip

open Cert.Kernel28Ideal Cert.Kernel28Ideal.Gen Cert.Kernel28Ideal.Value
open Cert.Chip (slots slots_congr stacked four)

theorem off3 : (![0, 0, 0] : Fin 3 → Nat) = fun _ => 0 := by funext a; fin_cases a <;> rfl

theorem pay1_apply (v0 v1 v2 v3 : Vec Ideal S1x256x1024 .bf16) (p : Fin 256) (l : Fin 1024) :
    k0_pay1 v0 v1 v2 v3 (ix3 0 p l) = v0 (ix3 0 p l) + v1 (ix3 0 p l) + v2 (ix3 0 p l) + v3 (ix3 0 p l) := by
  pointwise [k0_pay1]

theorem pay2_apply (v0 v1 v2 v3 : Vec Ideal S1x256x1024 .bf16) (p : Fin 256) (l : Fin 1024) :
    k0_pay2 v0 v1 v2 v3 (ix3 0 p l) = v0 (ix3 0 p l) + v1 (ix3 0 p l) + v2 (ix3 0 p l) + v3 (ix3 0 p l) := pay1_apply v0 v1 v2 v3 p l

theorem pay3_apply (v0 v1 v2 v3 : Vec Ideal S1x256x1024 .bf16) (p : Fin 256) (l : Fin 1024) :
    k0_pay3 v0 v1 v2 v3 (ix3 0 p l) = v0 (ix3 0 p l) + v1 (ix3 0 p l) + v2 (ix3 0 p l) + v3 (ix3 0 p l) := pay1_apply v0 v1 v2 v3 p l

theorem pay4_apply (v0 v1 v2 v3 : Vec Ideal S1x256x1024 .bf16) (p : Fin 256) (l : Fin 1024) :
    k0_pay4 v0 v1 v2 v3 (ix3 0 p l) = v0 (ix3 0 p l) + v1 (ix3 0 p l) + v2 (ix3 0 p l) + v3 (ix3 0 p l) := pay1_apply v0 v1 v2 v3 p l

section Cases

variable (c : Dev nD) (i : grid0.Coords)
  (a0 : Memref sig .tc .vmem S4x256x1024 .bf16) (h0 : a0.IsWhole) (a1 : Memref sig .tc .vmem S4x256x1024 .bf16) (h1 : a1.IsWhole)
  (a2 : Memref sig .tc .vmem S4x256x1024 .bf16) (h2 : a2.IsWhole) (a3 : Memref sig .tc .vmem S4x256x1024 .bf16) (h3 : a3.IsWhole)
  (a4 : Memref sig .tc .vmem S1x256x1024 .f32) (h4 : a4.IsWhole) (x y z w : Vec Ideal S4x256x1024 .bf16) (p : Fin 256) (l : Fin 1024)

/-- A block of the first layer, -/
theorem out_A (c0 : cond0_0 i) (c1 : ¬cond0_1 i) (c2 : ¬cond0_2 i) (c3 : ¬cond0_3 i) :
    out0_A_4 c i a0 h0 a1 h1 a2 h2 a3 h3 a4 h4 c0 c1 c2 c3 x y z w (ix3 0 p l) = slots x p l := by
  unfold out0_A_4
  rw [View.read_writes_eq_canon _ _ _ (cover0_A_4 c i a0 h0 a1 h1 a2 h2 a3 h3 a4 h4 c0 c1 c2 c3 x y z w)]
  unfold kernelRun0_A
  dsimp only
  sl_unfold_words
  rw [View.canon_unit_zero off3, pay1_apply]
  simp only [View.readAt_eq_ld, h0.read_unread]
  exact four x p l _ _ _ _

/-- … of the second, -/
theorem out_B (c0 : ¬cond0_0 i) (c1 : cond0_1 i) (c2 : ¬cond0_2 i) (c3 : ¬cond0_3 i) :
    out0_B_4 c i a0 h0 a1 h1 a2 h2 a3 h3 a4 h4 c0 c1 c2 c3 x y z w (ix3 0 p l) = slots y p l := by
  unfold out0_B_4
  rw [View.read_writes_eq_canon _ _ _ (cover0_B_4 c i a0 h0 a1 h1 a2 h2 a3 h3 a4 h4 c0 c1 c2 c3 x y z w)]
  unfold kernelRun0_B
  dsimp only
  sl_unfold_words
  rw [View.canon_unit_zero off3, pay2_apply]
  simp only [View.readAt_eq_ld, h1.read_unread]
  exact four y p l _ _ _ _

/-- … of the third, -/
theorem out_C (c0 : ¬cond0_0 i) (c1 : ¬cond0_1 i) (c2 : cond0_2 i) (c3 : ¬cond0_3 i) :
    out0_C_4 c i a0 h0 a1 h1 a2 h2 a3 h3 a4 h4 c0 c1 c2 c3 x y z w (ix3 0 p l) = slots z p l := by
  unfold out0_C_4
  rw [View.read_writes_eq_canon _ _ _ (cover0_C_4 c i a0 h0 a1 h1 a2 h2 a3 h3 a4 h4 c0 c1 c2 c3 x y z w)]
  unfold kernelRun0_C
  dsimp only
  sl_unfold_words
  rw [View.canon_unit_zero off3, pay3_apply]
  simp only [View.readAt_eq_ld, h2.read_unread]
  exact four z p l _ _ _ _

/-- … and of the fourth. -/
theorem out_D (c0 : ¬cond0_0 i) (c1 : ¬cond0_1 i) (c2 : ¬cond0_2 i) (c3 : cond0_3 i) :
    out0_D_4 c i a0 h0 a1 h1 a2 h2 a3 h3 a4 h4 c0 c1 c2 c3 x y z w (ix3 0 p l) = slots w p l := by
  unfold out0_D_4
  rw [View.read_writes_eq_canon _ _ _ (cover0_D_4 c i a0 h0 a1 h1 a2 h2 a3 h3 a4 h4 c0 c1 c2 c3 x y z w)]
  unfold kernelRun0_D
  dsimp only
  sl_unfold_words
  rw [View.canon_unit_zero off3, pay4_apply]
  simp only [View.readAt_eq_ld, h3.read_unread]
  exact four w p l _ _ _ _

end Cases

/-- Point `t` has layer `t / 2` and, of its rows, the half `t % 2`. -/
abbrev lay (t : Fin cfg0.N) : Fin 4 := ⟨t.val / 2, by have := t.isLt; have : cfg0.N = 8 := N_0; omega⟩
abbrev row (t : Fin cfg0.N) (p : Fin 256) : Fin 512 := ⟨256 * (t.val % 2) + p.val, by omega⟩

theorem idx0 : ∀ t : Fin cfg0.N, t.val < 2 → win0_0.index t (0 : Fin 3) = 0 ∧ win0_0.index t (1 : Fin 3) = t.val % 2 ∧ win0_0.index t (2 : Fin 3) = 0 :=
  (by decide +kernel : ∀ t : Fin grid0.N, _)
theorem idx1 : ∀ t : Fin cfg0.N, t.val / 2 % 4 = 1 → win0_1.index t (0 : Fin 3) = 0 ∧ win0_1.index t (1 : Fin 3) = t.val % 2 ∧ win0_1.index t (2 : Fin 3) = 0 :=
  (by decide +kernel : ∀ t : Fin grid0.N, _)
theorem idx2 : ∀ t : Fin cfg0.N, t.val / 2 % 4 = 2 → win0_2.index t (0 : Fin 3) = 0 ∧ win0_2.index t (1 : Fin 3) = t.val % 2 ∧ win0_2.index t (2 : Fin 3) = 0 :=
  (by decide +kernel : ∀ t : Fin grid0.N, _)
theorem idx3 : ∀ t : Fin cfg0.N, 6 ≤ t.val → win0_3.index t (0 : Fin 3) = 0 ∧ win0_3.index t (1 : Fin 3) = t.val % 2 ∧ win0_3.index t (2 : Fin 3) = 0 :=
  (by decide +kernel : ∀ t : Fin grid0.N, _)
theorem idx4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)

theorem emb4 (t : Fin cfg0.N) (p : Fin 256) (l : Fin 1024) :
    ((cfg0.win 4).blk t).view.emb (ix3 0 p l : S1x256x1024.Idx) = (ix3 (lay t) (row t p) l : S4x512x1024.Idx) := by
  obtain ⟨e0, e1, e2⟩ := idx4 t
  funext a; apply Fin.ext
  match a with
  | ⟨0, _⟩ => show win0_4.index t (0 : Fin 3) * 1 + 1 * 0 = t.val / 2; omega
  | ⟨1, _⟩ => show win0_4.index t (1 : Fin 3) * 256 + 1 * p.val = 256 * (t.val % 2) + p.val; omega
  | ⟨2, _⟩ => show win0_4.index t (2 : Fin 3) * 1024 + 1 * l.val = l.val; omega

theorem mem4 (t : Fin cfg0.N) (p : Fin 256) (l : Fin 1024) :
    (ix3 (lay t) (row t p) l : S4x512x1024.Idx) ∈ ((cfg0.win 4).blk t).view.set := by
  rw [← emb4]; exact ((cfg0.win 4).blk t).view.emb_mem_set _

variable (m : (ℓ : Loc nD τ sig) → Buf (Elt Ideal) ℓ) (ρ : Dev nD → PrngReg)

abbrev argX (c : Dev nD) : Vec Ideal S4x512x1024 .bf16 := m ((c : Thread nD τ).loc main_arg0)
abbrev argY (c : Dev nD) : Vec Ideal S4x512x1024 .bf16 := m ((c : Thread nD τ).loc main_arg1)
abbrev argZ (c : Dev nD) : Vec Ideal S4x512x1024 .bf16 := m ((c : Thread nD τ).loc main_arg2)
abbrev argW (c : Dev nD) : Vec Ideal S4x512x1024 .bf16 := m ((c : Thread nD τ).loc main_arg3)

theorem iblk0_apply (c : Dev nD) (t : Fin cfg0.N) (ht : t.val < 2) (s : Fin 4) (p : Fin 256) (l : Fin 1024) :
    (iblk m c 0 t : Vec Ideal S4x256x1024 .bf16) (ix3 s p l) = argX m c (ix3 s (row t p) l) := by
  obtain ⟨e0, e1, e2⟩ := idx0 t ht
  show V m c main_arg0 _ = m (c.tc.loc main_arg0) _
  rw [V_main_arg0]
  congr 1; funext a; apply Fin.ext
  match a with
  | ⟨0, _⟩ => show win0_0.index t (0 : Fin 3) * 4 + 1 * s.val = s.val; omega
  | ⟨1, _⟩ => show win0_0.index t (1 : Fin 3) * 256 + 1 * p.val = 256 * (t.val % 2) + p.val; omega
  | ⟨2, _⟩ => show win0_0.index t (2 : Fin 3) * 1024 + 1 * l.val = l.val; omega

theorem iblk1_apply (c : Dev nD) (t : Fin cfg0.N) (ht : t.val / 2 % 4 = 1) (s : Fin 4) (p : Fin 256) (l : Fin 1024) :
    (iblk m c 1 t : Vec Ideal S4x256x1024 .bf16) (ix3 s p l) = argY m c (ix3 s (row t p) l) := by
  obtain ⟨e0, e1, e2⟩ := idx1 t ht
  show V m c main_arg1 _ = m (c.tc.loc main_arg1) _
  rw [V_main_arg1]
  congr 1; funext a; apply Fin.ext
  match a with
  | ⟨0, _⟩ => show win0_1.index t (0 : Fin 3) * 4 + 1 * s.val = s.val; omega
  | ⟨1, _⟩ => show win0_1.index t (1 : Fin 3) * 256 + 1 * p.val = 256 * (t.val % 2) + p.val; omega
  | ⟨2, _⟩ => show win0_1.index t (2 : Fin 3) * 1024 + 1 * l.val = l.val; omega

theorem iblk2_apply (c : Dev nD) (t : Fin cfg0.N) (ht : t.val / 2 % 4 = 2) (s : Fin 4) (p : Fin 256) (l : Fin 1024) :
    (iblk m c 2 t : Vec Ideal S4x256x1024 .bf16) (ix3 s p l) = argZ m c (ix3 s (row t p) l) := by
  obtain ⟨e0, e1, e2⟩ := idx2 t ht
  show V m c main_arg2 _ = m (c.tc.loc main_arg2) _
  rw [V_main_arg2]
  congr 1; funext a; apply Fin.ext
  match a with
  | ⟨0, _⟩ => show win0_2.index t (0 : Fin 3) * 4 + 1 * s.val = s.val; omega
  | ⟨1, _⟩ => show win0_2.index t (1 : Fin 3) * 256 + 1 * p.val = 256 * (t.val % 2) + p.val; omega
  | ⟨2, _⟩ => show win0_2.index t (2 : Fin 3) * 1024 + 1 * l.val = l.val; omega

theorem iblk3_apply (c : Dev nD) (t : Fin cfg0.N) (ht : 6 ≤ t.val) (s : Fin 4) (p : Fin 256) (l : Fin 1024) :
    (iblk m c 3 t : Vec Ideal S4x256x1024 .bf16) (ix3 s p l) = argW m c (ix3 s (row t p) l) := by
  obtain ⟨e0, e1, e2⟩ := idx3 t ht
  show V m c main_arg3 _ = m (c.tc.loc main_arg3) _
  rw [V_main_arg3]
  congr 1; funext a; apply Fin.ext
  match a with
  | ⟨0, _⟩ => show win0_3.index t (0 : Fin 3) * 4 + 1 * s.val = s.val; omega
  | ⟨1, _⟩ => show win0_3.index t (1 : Fin 3) * 256 + 1 * p.val = 256 * (t.val % 2) + p.val; omega
  | ⟨2, _⟩ => show win0_3.index t (2 : Fin 3) * 1024 + 1 * l.val = l.val; omega

/-- The four layers' sums. -/
abbrev res (x y z w : Vec Ideal S4x512x1024 .bf16) : Vec Ideal S4x512x1024 .f32 := stacked ![x, y, z, w]

/-- A block's index is its row and its column. -/
theorem idx_surj (j : S1x256x1024.Idx) : ∃ (p : Fin 256) (l : Fin 1024), j = (ix3 0 p l : S1x256x1024.Idx) :=
  ⟨j 1, j 2, (eq_ix3 j).trans (by congr 1; exact Subsingleton.elim _ _)⟩

theorem flushed4_eq (c : Dev nD) (t : Fin cfg0.N) : (dats m 0 c).flushed 4 t
    = ((cfg0.win 4).blk t).view.read (Elt Ideal) (res (argX m c) (argY m c) (argZ m c) (argW m c)) := by
  have hN : t.val < 8 := N_0 ▸ t.isLt
  have hk : t.val < 2 ∨ t.val / 2 % 4 = 1 ∨ t.val / 2 % 4 = 2 ∨ 6 ≤ t.val := by omega
  rcases hk with h | hk
  · have e : lay t = 0 := Fin.ext (by show t.val / 2 = 0; omega)
    rw [flushed4_A m c t h (by omega) (by omega) (by omega)]
    funext j
    obtain ⟨p, l, rfl⟩ := idx_surj j
    refine (out_A c _ _ _ _ _ _ _ _ _ _ _ _ _ _ _ p l _ _ _ _).trans ?_
    show _ = res _ _ _ _ (((cfg0.win 4).blk t).view.emb (ix3 0 p l : S1x256x1024.Idx))
    rw [emb4, e]
    exact slots_congr _ (argX m c) p (row t p) l fun s => iblk0_apply m c t h s p l
  rcases hk with h | hk
  · have e : lay t = 1 := Fin.ext (by show t.val / 2 = 1; omega)
    rw [flushed4_B m c t (by omega) h (by omega) (by omega)]
    funext j
    obtain ⟨p, l, rfl⟩ := idx_surj j
    refine (out_B c _ _ _ _ _ _ _ _ _ _ _ _ _ _ _ p l _ _ _ _).trans ?_
    show _ = res _ _ _ _ (((cfg0.win 4).blk t).view.emb (ix3 0 p l : S1x256x1024.Idx))
    rw [emb4, e]
    exact slots_congr _ (argY m c) p (row t p) l fun s => iblk1_apply m c t h s p l
  rcases hk with h | hk
  · have e : lay t = 2 := Fin.ext (by show t.val / 2 = 2; omega)
    rw [flushed4_C m c t (by omega) (by omega) h (by omega)]
    funext j
    obtain ⟨p, l, rfl⟩ := idx_surj j
    refine (out_C c _ _ _ _ _ _ _ _ _ _ _ _ _ _ _ p l _ _ _ _).trans ?_
    show _ = res _ _ _ _ (((cfg0.win 4).blk t).view.emb (ix3 0 p l : S1x256x1024.Idx))
    rw [emb4, e]
    exact slots_congr _ (argZ m c) p (row t p) l fun s => iblk2_apply m c t h s p l
  · have e : lay t = 3 := Fin.ext (by show t.val / 2 = 3; omega)
    rw [flushed4_D m c t (by omega) (by omega) (by omega) hk]
    funext j
    obtain ⟨p, l, rfl⟩ := idx_surj j
    refine (out_D c _ _ _ _ _ _ _ _ _ _ _ _ _ _ _ p l _ _ _ _).trans ?_
    show _ = res _ _ _ _ (((cfg0.win 4).blk t).view.emb (ix3 0 p l : S1x256x1024.Idx))
    rw [emb4, e]
    exact slots_congr _ (argW m c) p (row t p) l fun s => iblk3_apply m c t hk s p l

theorem final4 (c : Dev nD) : (dats m 0 c).arrAt 4 cfg0.N = res (argX m c) (argY m c) (argZ m c) (argW m c) :=
  (dats m 0 c).arrAt_eq_of_cover 4 _ (fun t _ => flushed4_eq m c t) fun i => by
    have h0 : (i 0).val < 4 := (i 0).isLt
    have h1 : (i 1).val < 512 := (i 1).isLt
    obtain ⟨t, ht⟩ : ∃ t : Fin cfg0.N, t.val = 2 * (i 0).val + (i 1).val / 256 :=
      ⟨⟨2 * (i 0).val + (i 1).val / 256, by have : cfg0.N = 8 := N_0; omega⟩, rfl⟩
    refine ⟨t, flush0_4 t, ?_⟩
    have hi : i = (ix3 (lay t) (row t ⟨(i 1).val % 256, by omega⟩) (i 2) : S4x512x1024.Idx) := by
      funext a; apply Fin.ext
      match a with
      | ⟨0, _⟩ => show (i 0).val = t.val / 2; omega
      | ⟨1, _⟩ => show (i 1).val = 256 * (t.val % 2) + (i 1).val % 256; omega
      | ⟨2, _⟩ => rfl
    rw [hi]
    exact mem4 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argX m c) (argY m c) (argZ m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.Kernel28Ideal.Chip

namespace Cert.Chip

open Cert.Reference28Ideal.Read in
theorem val28_apply (x y z w : Vec Ideal Reference28Ideal.S4x512x1024 .bf16) (j : Reference28Ideal.S4x512x1024.Idx) :
    val_main_v12 (F := Ideal) x y z w j = stacked ![x, y, z, w] j := by
  obtain ⟨q, p, l, rfl⟩ : ∃ (q : Fin 4) (p : Fin 512) (l : Fin 1024), j = ix3 q p l := ⟨j 0, j 1, j 2, eq_ix3 j⟩
  fin_cases q <;>
  · pointwise [val_main_v12, val_main_v11, val_main_v10, val_main_v9, val_main_v8, val_main_v7, val_main_v6, val_main_v5, val_main_v4,
      val_main_v3, val_main_v2, val_main_v1, val_main_v0, val_main_cst, val_main_cst_0, val_main_cst_1, val_main_cst_2]
    rfl

theorem algebraic28 : Cert.algebraic_Kernel28Ideal_Reference28Ideal (hKernel28Ideal := Cert.Kernel28Ideal.Gen.facts)
    (hReference28Ideal := Cert.Reference28Ideal.Gen.facts) := by
  intro m g m' g' _ hm
  refine ⟨fun c => Kernel28Ideal.Chip.res _ _ _ _, Kernel28Ideal.Chip.run m g, (θ_run _ _ _).mono (fun r h c => ?_) (Reference28Ideal.Value.run m' g')⟩
  obtain ⟨e0, e1, e2, e3⟩ := hm c
  refine ⟨(h c).1.trans ?_, (h c).2⟩
  rw [e0, e1, e2, e3]
  exact (Reference28Ideal.Read.val_main_v12_eq (F := Ideal) _ _ _ _).trans (funext fun j => val28_apply _ _ _ _ j)

end Cert.Chip

end
-- ==== Proof.Chips29.lean ====
/-
  The DeltaNet input projections' gradients: a chip's four slots added, for both layers. The kernel's blocks, the
  reference's two sums, and that both end with the same array.
-/
module

public import proofs.«01_k».proof.Defs
public import proofs.«01_k».proof.Proof.ChipSpec
public import proofs.«01_k».proof.Proof.Gen.Kernel29Ideal.Value
public import proofs.«01_k».proof.Proof.Gen.Reference29Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel29Ideal.Chip

open Cert.Kernel29Ideal Cert.Kernel29Ideal.Gen Cert.Kernel29Ideal.Value
open Cert.Chip (slots slots_congr stacked four)

theorem off3 : (![0, 0, 0] : Fin 3 → Nat) = fun _ => 0 := by funext a; fin_cases a <;> rfl

theorem pay1_apply (v0 v1 v2 v3 : Vec Ideal S1x256x1028 .bf16) (p : Fin 256) (l : Fin 1028) :
    k0_pay1 v0 v1 v2 v3 (ix3 0 p l) = v0 (ix3 0 p l) + v1 (ix3 0 p l) + v2 (ix3 0 p l) + v3 (ix3 0 p l) := by
  pointwise [k0_pay1]

theorem pay2_apply (v0 v1 v2 v3 : Vec Ideal S1x256x1028 .bf16) (p : Fin 256) (l : Fin 1028) :
    k0_pay2 v0 v1 v2 v3 (ix3 0 p l) = v0 (ix3 0 p l) + v1 (ix3 0 p l) + v2 (ix3 0 p l) + v3 (ix3 0 p l) := pay1_apply v0 v1 v2 v3 p l

section Cases

variable (c : Dev nD) (i : grid0.Coords)
  (a0 : Memref sig .tc .vmem S4x256x1028 .bf16) (h0 : a0.IsWhole) (a1 : Memref sig .tc .vmem S4x256x1028 .bf16) (h1 : a1.IsWhole)
  (a2 : Memref sig .tc .vmem S1x256x1028 .f32) (h2 : a2.IsWhole) (x y : Vec Ideal S4x256x1028 .bf16) (p : Fin 256) (l : Fin 1028)

/-- A block of the first layer, -/
theorem out_A (c0 : cond0_0 i) (c1 : ¬cond0_1 i) : out0_A_2 c i a0 h0 a1 h1 a2 h2 c0 c1 x y (ix3 0 p l) = slots x p l := by
  unfold out0_A_2
  rw [View.read_writes_eq_canon _ _ _ (cover0_A_2 c i a0 h0 a1 h1 a2 h2 c0 c1 x y)]
  unfold kernelRun0_A
  dsimp only
  sl_unfold_words
  rw [View.canon_unit_zero off3, pay1_apply]
  simp only [View.readAt_eq_ld, h0.read_unread]
  exact four x p l _ _ _ _

/-- … and of the second. -/
theorem out_B (c0 : ¬cond0_0 i) (c1 : cond0_1 i) : out0_B_2 c i a0 h0 a1 h1 a2 h2 c0 c1 x y (ix3 0 p l) = slots y p l := by
  unfold out0_B_2
  rw [View.read_writes_eq_canon _ _ _ (cover0_B_2 c i a0 h0 a1 h1 a2 h2 c0 c1 x y)]
  unfold kernelRun0_B
  dsimp only
  sl_unfold_words
  rw [View.canon_unit_zero off3, pay2_apply]
  simp only [View.readAt_eq_ld, h1.read_unread]
  exact four y p l _ _ _ _

end Cases

/-- Point `t` has layer `t / 2` and, of its rows, the half `t % 2`. -/
abbrev lay (t : Fin cfg0.N) : Fin 2 := ⟨t.val / 2, by have := t.isLt; have : cfg0.N = 4 := N_0; omega⟩
abbrev row (t : Fin cfg0.N) (p : Fin 256) : Fin 512 := ⟨256 * (t.val % 2) + p.val, by omega⟩

theorem idx0 : ∀ t : Fin cfg0.N, t.val < 2 → win0_0.index t (0 : Fin 3) = 0 ∧ win0_0.index t (1 : Fin 3) = t.val % 2 ∧ win0_0.index t (2 : Fin 3) = 0 :=
  (by decide +kernel : ∀ t : Fin grid0.N, _)
theorem idx1 : ∀ t : Fin cfg0.N, 2 ≤ t.val → win0_1.index t (0 : Fin 3) = 0 ∧ win0_1.index t (1 : Fin 3) = t.val % 2 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem emb2 (t : Fin cfg0.N) (p : Fin 256) (l : Fin 1028) :
    ((cfg0.win 2).blk t).view.emb (ix3 0 p l : S1x256x1028.Idx) = (ix3 (lay t) (row t p) l : S2x512x1028.Idx) := by
  obtain ⟨e0, e1, e2⟩ := idx2 t
  funext a; apply Fin.ext
  match a with
  | ⟨0, _⟩ => show win0_2.index t (0 : Fin 3) * 1 + 1 * 0 = t.val / 2; omega
  | ⟨1, _⟩ => show win0_2.index t (1 : Fin 3) * 256 + 1 * p.val = 256 * (t.val % 2) + p.val; omega
  | ⟨2, _⟩ => show win0_2.index t (2 : Fin 3) * 1028 + 1 * l.val = l.val; omega

theorem mem2 (t : Fin cfg0.N) (p : Fin 256) (l : Fin 1028) :
    (ix3 (lay t) (row t p) l : S2x512x1028.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argX (c : Dev nD) : Vec Ideal S4x512x1028 .bf16 := m ((c : Thread nD τ).loc main_arg0)
abbrev argY (c : Dev nD) : Vec Ideal S4x512x1028 .bf16 := m ((c : Thread nD τ).loc main_arg1)

theorem iblk0_apply (c : Dev nD) (t : Fin cfg0.N) (ht : t.val < 2) (s : Fin 4) (p : Fin 256) (l : Fin 1028) :
    (iblk m c 0 t : Vec Ideal S4x256x1028 .bf16) (ix3 s p l) = argX m c (ix3 s (row t p) l) := by
  obtain ⟨e0, e1, e2⟩ := idx0 t ht
  show V m c main_arg0 _ = m (c.tc.loc main_arg0) _
  rw [V_main_arg0]
  congr 1; funext a; apply Fin.ext
  match a with
  | ⟨0, _⟩ => show win0_0.index t (0 : Fin 3) * 4 + 1 * s.val = s.val; omega
  | ⟨1, _⟩ => show win0_0.index t (1 : Fin 3) * 256 + 1 * p.val = 256 * (t.val % 2) + p.val; omega
  | ⟨2, _⟩ => show win0_0.index t (2 : Fin 3) * 1028 + 1 * l.val = l.val; omega

theorem iblk1_apply (c : Dev nD) (t : Fin cfg0.N) (ht : 2 ≤ t.val) (s : Fin 4) (p : Fin 256) (l : Fin 1028) :
    (iblk m c 1 t : Vec Ideal S4x256x1028 .bf16) (ix3 s p l) = argY m c (ix3 s (row t p) l) := by
  obtain ⟨e0, e1, e2⟩ := idx1 t ht
  show V m c main_arg1 _ = m (c.tc.loc main_arg1) _
  rw [V_main_arg1]
  congr 1; funext a; apply Fin.ext
  match a with
  | ⟨0, _⟩ => show win0_1.index t (0 : Fin 3) * 4 + 1 * s.val = s.val; omega
  | ⟨1, _⟩ => show win0_1.index t (1 : Fin 3) * 256 + 1 * p.val = 256 * (t.val % 2) + p.val; omega
  | ⟨2, _⟩ => show win0_1.index t (2 : Fin 3) * 1028 + 1 * l.val = l.val; omega

/-- The two layers' sums. -/
abbrev res (x y : Vec Ideal S4x512x1028 .bf16) : Vec Ideal S2x512x1028 .f32 := stacked ![x, y]

theorem flushed2_eq (c : Dev nD) (t : Fin cfg0.N) : (dats m 0 c).flushed 2 t
    = ((cfg0.win 2).blk t).view.read (Elt Ideal) (res (argX m c) (argY m c)) := by
  have hN : t.val < 4 := N_0 ▸ t.isLt
  rcases Nat.lt_or_ge t.val 2 with h | h
  · have e : lay t = 0 := Fin.ext (by show t.val / 2 = 0; omega)
    rw [flushed2_A m c t h (by omega)]
    funext j
    obtain ⟨p, l, rfl⟩ : ∃ (p : Fin 256) (l : Fin 1028), j = (ix3 0 p l : S1x256x1028.Idx) := ⟨j 1, j 2, (eq_ix3 j).trans (by congr 1; exact Subsingleton.elim _ _)⟩
    refine (out_A c _ _ _ _ _ _ _ _ _ p l _ _).trans ?_
    show _ = res _ _ (((cfg0.win 2).blk t).view.emb (ix3 0 p l : S1x256x1028.Idx))
    rw [emb2, e]
    exact slots_congr _ (argX m c) p (row t p) l fun s => iblk0_apply m c t h s p l
  · have e : lay t = 1 := Fin.ext (by show t.val / 2 = 1; omega)
    rw [flushed2_B m c t (by omega) h]
    funext j
    obtain ⟨p, l, rfl⟩ : ∃ (p : Fin 256) (l : Fin 1028), j = (ix3 0 p l : S1x256x1028.Idx) := ⟨j 1, j 2, (eq_ix3 j).trans (by congr 1; exact Subsingleton.elim _ _)⟩
    refine (out_B c _ _ _ _ _ _ _ _ _ p l _ _).trans ?_
    show _ = res _ _ (((cfg0.win 2).blk t).view.emb (ix3 0 p l : S1x256x1028.Idx))
    rw [emb2, e]
    exact slots_congr _ (argY m c) p (row t p) l fun s => iblk1_apply m c t h s p l

theorem final2 (c : Dev nD) : (dats m 0 c).arrAt 2 cfg0.N = res (argX m c) (argY m c) :=
  (dats m 0 c).arrAt_eq_of_cover 2 _ (fun t _ => flushed2_eq m c t) fun i => by
    have h0 : (i 0).val < 2 := (i 0).isLt
    have h1 : (i 1).val < 512 := (i 1).isLt
    obtain ⟨t, ht⟩ : ∃ t : Fin cfg0.N, t.val = 2 * (i 0).val + (i 1).val / 256 :=
      ⟨⟨2 * (i 0).val + (i 1).val / 256, by have : cfg0.N = 4 := N_0; omega⟩, rfl⟩
    refine ⟨t, flush0_2 t, ?_⟩
    have hi : i = (ix3 (lay t) (row t ⟨(i 1).val % 256, by omega⟩) (i 2) : S2x512x1028.Idx) := by
      funext a; apply Fin.ext
      match a with
      | ⟨0, _⟩ => show (i 0).val = t.val / 2; omega
      | ⟨1, _⟩ => show (i 1).val = 256 * (t.val % 2) + (i 1).val % 256; omega
      | ⟨2, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel29Ideal.Chip

namespace Cert.Chip

open Cert.Reference29Ideal.Read in
theorem val29_apply (x y : Vec Ideal Reference29Ideal.S4x512x1028 .bf16) (j : Reference29Ideal.S2x512x1028.Idx) :
    val_main_v6 (F := Ideal) x y j = stacked ![x, y] j := by
  obtain ⟨q, p, l, rfl⟩ : ∃ (q : Fin 2) (p : Fin 512) (l : Fin 1028), j = ix3 q p l := ⟨j 0, j 1, j 2, eq_ix3 j⟩
  fin_cases q
  · pointwise [val_main_v6, val_main_v5, val_main_v4, val_main_v3, val_main_v2, val_main_v1, val_main_v0, val_main_cst, val_main_cst_0]
    rfl
  · pointwise [val_main_v6, val_main_v5, val_main_v4, val_main_v3, val_main_v2, val_main_v1, val_main_v0, val_main_cst, val_main_cst_0]
    rfl

theorem algebraic29 : Cert.algebraic_Kernel29Ideal_Reference29Ideal (hKernel29Ideal := Cert.Kernel29Ideal.Gen.facts)
    (hReference29Ideal := Cert.Reference29Ideal.Gen.facts) := by
  intro m g m' g' _ hm
  refine ⟨fun c => Kernel29Ideal.Chip.res _ _, Kernel29Ideal.Chip.run m g, (θ_run _ _ _).mono (fun r h c => ?_) (Reference29Ideal.Value.run m' g')⟩
  obtain ⟨e0, e1⟩ := hm c
  refine ⟨(h c).1.trans ?_, (h c).2⟩
  rw [e0, e1]
  exact (Reference29Ideal.Read.val_main_v6_eq (F := Ideal) _ _).trans (funext fun j => val29_apply _ _ j)

end Cert.Chip

end
-- ==== Proof.Chips30.lean ====
/-
  The mixers' output projections' gradients: a chip's four slots added, for both layers. The kernel's blocks, the
  reference's two sums, and that both end with the same array.
-/
module

public import proofs.«01_k».proof.Defs
public import proofs.«01_k».proof.Proof.ChipSpec
public import proofs.«01_k».proof.Proof.Gen.Kernel30Ideal.Value
public import proofs.«01_k».proof.Proof.Gen.Reference30Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel30Ideal.Chip

open Cert.Kernel30Ideal Cert.Kernel30Ideal.Gen Cert.Kernel30Ideal.Value
open Cert.Chip (slots slots_congr stacked four)

theorem off3 : (![0, 0, 0] : Fin 3 → Nat) = fun _ => 0 := by funext a; fin_cases a <;> rfl

theorem pay1_apply (v0 v1 v2 v3 : Vec Ideal S1x128x1024 .bf16) (p : Fin 128) (l : Fin 1024) :
    k0_pay1 v0 v1 v2 v3 (ix3 0 p l) = v0 (ix3 0 p l) + v1 (ix3 0 p l) + v2 (ix3 0 p l) + v3 (ix3 0 p l) := by
  pointwise [k0_pay1]

theorem pay2_apply (v0 v1 v2 v3 : Vec Ideal S1x128x1024 .bf16) (p : Fin 128) (l : Fin 1024) :
    k0_pay2 v0 v1 v2 v3 (ix3 0 p l) = v0 (ix3 0 p l) + v1 (ix3 0 p l) + v2 (ix3 0 p l) + v3 (ix3 0 p l) := pay1_apply v0 v1 v2 v3 p l

section Cases

variable (c : Dev nD) (i : grid0.Coords)
  (a0 : Memref sig .tc .vmem S4x128x1024 .bf16) (h0 : a0.IsWhole) (a1 : Memref sig .tc .vmem S4x128x1024 .bf16) (h1 : a1.IsWhole)
  (a2 : Memref sig .tc .vmem S1x128x1024 .f32) (h2 : a2.IsWhole) (x y : Vec Ideal S4x128x1024 .bf16) (p : Fin 128) (l : Fin 1024)

/-- A block of the first layer, -/
theorem out_A (c0 : cond0_0 i) (c1 : ¬cond0_1 i) : out0_A_2 c i a0 h0 a1 h1 a2 h2 c0 c1 x y (ix3 0 p l) = slots x p l := by
  unfold out0_A_2
  rw [View.read_writes_eq_canon _ _ _ (cover0_A_2 c i a0 h0 a1 h1 a2 h2 c0 c1 x y)]
  unfold kernelRun0_A
  dsimp only
  sl_unfold_words
  rw [View.canon_unit_zero off3, pay1_apply]
  simp only [View.readAt_eq_ld, h0.read_unread]
  exact four x p l _ _ _ _

/-- … and of the second. -/
theorem out_B (c0 : ¬cond0_0 i) (c1 : cond0_1 i) : out0_B_2 c i a0 h0 a1 h1 a2 h2 c0 c1 x y (ix3 0 p l) = slots y p l := by
  unfold out0_B_2
  rw [View.read_writes_eq_canon _ _ _ (cover0_B_2 c i a0 h0 a1 h1 a2 h2 c0 c1 x y)]
  unfold kernelRun0_B
  dsimp only
  sl_unfold_words
  rw [View.canon_unit_zero off3, pay2_apply]
  simp only [View.readAt_eq_ld, h1.read_unread]
  exact four y p l _ _ _ _

end Cases

/-- Point `t` has layer `t`. -/
abbrev lay (t : Fin cfg0.N) : Fin 2 := ⟨t.val, by have := t.isLt; have : cfg0.N = 2 := N_0; omega⟩

theorem idx0 : ∀ t : Fin cfg0.N, t.val % 2 = 0 → win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, t.val % 2 = 1 → win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin cfg0.N) (p : Fin 128) (l : Fin 1024) :
    ((cfg0.win 2).blk t).view.emb (ix3 0 p l : S1x128x1024.Idx) = (ix3 (lay t) p l : S2x128x1024.Idx) := by
  obtain ⟨e0, e1, e2⟩ := idx2 t
  funext a; apply Fin.ext
  match a with
  | ⟨0, _⟩ => show win0_2.index t (0 : Fin 3) * 1 + 1 * 0 = t.val; omega
  | ⟨1, _⟩ => show win0_2.index t (1 : Fin 3) * 128 + 1 * p.val = p.val; omega
  | ⟨2, _⟩ => show win0_2.index t (2 : Fin 3) * 1024 + 1 * l.val = l.val; omega

theorem mem2 (t : Fin cfg0.N) (p : Fin 128) (l : Fin 1024) :
    (ix3 (lay t) p l : S2x128x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argX (c : Dev nD) : Vec Ideal S4x128x1024 .bf16 := m ((c : Thread nD τ).loc main_arg0)
abbrev argY (c : Dev nD) : Vec Ideal S4x128x1024 .bf16 := m ((c : Thread nD τ).loc main_arg1)

theorem iblk0_apply (c : Dev nD) (t : Fin cfg0.N) (ht : t.val % 2 = 0) (s : Fin 4) (p : Fin 128) (l : Fin 1024) :
    (iblk m c 0 t : Vec Ideal S4x128x1024 .bf16) (ix3 s p l) = argX m c (ix3 s p l) := by
  obtain ⟨e0, e1, e2⟩ := idx0 t ht
  show V m c main_arg0 _ = m (c.tc.loc main_arg0) _
  rw [V_main_arg0]
  congr 1; funext a; apply Fin.ext
  match a with
  | ⟨0, _⟩ => show win0_0.index t (0 : Fin 3) * 4 + 1 * s.val = s.val; omega
  | ⟨1, _⟩ => show win0_0.index t (1 : Fin 3) * 128 + 1 * p.val = p.val; omega
  | ⟨2, _⟩ => show win0_0.index t (2 : Fin 3) * 1024 + 1 * l.val = l.val; omega

theorem iblk1_apply (c : Dev nD) (t : Fin cfg0.N) (ht : t.val % 2 = 1) (s : Fin 4) (p : Fin 128) (l : Fin 1024) :
    (iblk m c 1 t : Vec Ideal S4x128x1024 .bf16) (ix3 s p l) = argY m c (ix3 s p l) := by
  obtain ⟨e0, e1, e2⟩ := idx1 t ht
  show V m c main_arg1 _ = m (c.tc.loc main_arg1) _
  rw [V_main_arg1]
  congr 1; funext a; apply Fin.ext
  match a with
  | ⟨0, _⟩ => show win0_1.index t (0 : Fin 3) * 4 + 1 * s.val = s.val; omega
  | ⟨1, _⟩ => show win0_1.index t (1 : Fin 3) * 128 + 1 * p.val = p.val; omega
  | ⟨2, _⟩ => show win0_1.index t (2 : Fin 3) * 1024 + 1 * l.val = l.val; omega

/-- The two layers' sums. -/
abbrev res (x y : Vec Ideal S4x128x1024 .bf16) : Vec Ideal S2x128x1024 .f32 := stacked ![x, y]

theorem flushed2_eq (c : Dev nD) (t : Fin cfg0.N) : (dats m 0 c).flushed 2 t
    = ((cfg0.win 2).blk t).view.read (Elt Ideal) (res (argX m c) (argY m c)) := by
  have hN : t.val < 2 := N_0 ▸ t.isLt
  rcases Nat.mod_two_eq_zero_or_one t.val with h | h
  · have e : lay t = 0 := Fin.ext (by show t.val = 0; omega)
    rw [flushed2_A m c t h (by omega)]
    funext j
    obtain ⟨p, l, rfl⟩ : ∃ (p : Fin 128) (l : Fin 1024), j = (ix3 0 p l : S1x128x1024.Idx) := ⟨j 1, j 2, (eq_ix3 j).trans (by congr 1; exact Subsingleton.elim _ _)⟩
    refine (out_A c _ _ _ _ _ _ _ _ _ p l _ _).trans ?_
    show _ = res _ _ (((cfg0.win 2).blk t).view.emb (ix3 0 p l : S1x128x1024.Idx))
    rw [emb2, e]
    exact slots_congr _ (argX m c) p p l fun s => iblk0_apply m c t h s p l
  · have e : lay t = 1 := Fin.ext (by show t.val = 1; omega)
    rw [flushed2_B m c t (by omega) h]
    funext j
    obtain ⟨p, l, rfl⟩ : ∃ (p : Fin 128) (l : Fin 1024), j = (ix3 0 p l : S1x128x1024.Idx) := ⟨j 1, j 2, (eq_ix3 j).trans (by congr 1; exact Subsingleton.elim _ _)⟩
    refine (out_B c _ _ _ _ _ _ _ _ _ p l _ _).trans ?_
    show _ = res _ _ (((cfg0.win 2).blk t).view.emb (ix3 0 p l : S1x128x1024.Idx))
    rw [emb2, e]
    exact slots_congr _ (argY m c) p p l fun s => iblk1_apply m c t h s p l

theorem final2 (c : Dev nD) : (dats m 0 c).arrAt 2 cfg0.N = res (argX m c) (argY m c) :=
  (dats m 0 c).arrAt_eq_of_cover 2 _ (fun t _ => flushed2_eq m c t) fun i => by
    have h0 : (i 0).val < 2 := (i 0).isLt
    obtain ⟨t, ht⟩ : ∃ t : Fin cfg0.N, t.val = (i 0).val := ⟨⟨(i 0).val, by have : cfg0.N = 2 := N_0; omega⟩, rfl⟩
    refine ⟨t, flush0_2 t, ?_⟩
    have hi : i = (ix3 (lay t) (i 1) (i 2) : S2x128x1024.Idx) := by
      funext a; apply Fin.ext
      match a with
      | ⟨0, _⟩ => exact ht.symm
      | ⟨1, _⟩ => rfl
      | ⟨2, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel30Ideal.Chip

namespace Cert.Chip

open Cert.Reference30Ideal.Read in
theorem val30_apply (x y : Vec Ideal Reference30Ideal.S4x128x1024 .bf16) (j : Reference30Ideal.S2x128x1024.Idx) :
    val_main_v6 (F := Ideal) x y j = stacked ![x, y] j := by
  obtain ⟨q, p, l, rfl⟩ : ∃ (q : Fin 2) (p : Fin 128) (l : Fin 1024), j = ix3 q p l := ⟨j 0, j 1, j 2, eq_ix3 j⟩
  fin_cases q
  · pointwise [val_main_v6, val_main_v5, val_main_v4, val_main_v3, val_main_v2, val_main_v1, val_main_v0, val_main_cst, val_main_cst_0]
    rfl
  · pointwise [val_main_v6, val_main_v5, val_main_v4, val_main_v3, val_main_v2, val_main_v1, val_main_v0, val_main_cst, val_main_cst_0]
    rfl

theorem algebraic30 : Cert.algebraic_Kernel30Ideal_Reference30Ideal (hKernel30Ideal := Cert.Kernel30Ideal.Gen.facts)
    (hReference30Ideal := Cert.Reference30Ideal.Gen.facts) := by
  intro m g m' g' _ hm
  refine ⟨fun c => Kernel30Ideal.Chip.res _ _, Kernel30Ideal.Chip.run m g, (θ_run _ _ _).mono (fun r h c => ?_) (Reference30Ideal.Value.run m' g')⟩
  obtain ⟨e0, e1⟩ := hm c
  refine ⟨(h c).1.trans ?_, (h c).2⟩
  rw [e0, e1]
  exact (Reference30Ideal.Read.val_main_v6_eq (F := Ideal) _ _).trans (funext fun j => val30_apply _ _ j)

end Cert.Chip

end
-- ==== Proof.Chips31.lean ====
/-
  The HGRN input projections' gradients: a chip's four slots added, for both layers. The kernel's blocks, the
  reference's two sums, and that both end with the same array.
-/
module

public import proofs.«01_k».proof.Defs
public import proofs.«01_k».proof.Proof.ChipSpec
public import proofs.«01_k».proof.Proof.Gen.Kernel31Ideal.Value
public import proofs.«01_k».proof.Proof.Gen.Reference31Ideal.Read
public import Idealize.ShloMosaic.Lib.Claim
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Kernel31Ideal.Chip

open Cert.Kernel31Ideal Cert.Kernel31Ideal.Gen Cert.Kernel31Ideal.Value
open Cert.Chip (slots slots_congr stacked four)

theorem off3 : (![0, 0, 0] : Fin 3 → Nat) = fun _ => 0 := by funext a; fin_cases a <;> rfl

theorem pay1_apply (v0 v1 v2 v3 : Vec Ideal S1x256x1024 .bf16) (p : Fin 256) (l : Fin 1024) :
    k0_pay1 v0 v1 v2 v3 (ix3 0 p l) = v0 (ix3 0 p l) + v1 (ix3 0 p l) + v2 (ix3 0 p l) + v3 (ix3 0 p l) := by
  pointwise [k0_pay1]

theorem pay2_apply (v0 v1 v2 v3 : Vec Ideal S1x256x1024 .bf16) (p : Fin 256) (l : Fin 1024) :
    k0_pay2 v0 v1 v2 v3 (ix3 0 p l) = v0 (ix3 0 p l) + v1 (ix3 0 p l) + v2 (ix3 0 p l) + v3 (ix3 0 p l) := pay1_apply v0 v1 v2 v3 p l

section Cases

variable (c : Dev nD) (i : grid0.Coords)
  (a0 : Memref sig .tc .vmem S4x256x1024 .bf16) (h0 : a0.IsWhole) (a1 : Memref sig .tc .vmem S4x256x1024 .bf16) (h1 : a1.IsWhole)
  (a2 : Memref sig .tc .vmem S1x256x1024 .f32) (h2 : a2.IsWhole) (x y : Vec Ideal S4x256x1024 .bf16) (p : Fin 256) (l : Fin 1024)

/-- A block of the first layer, -/
theorem out_A (c0 : cond0_0 i) (c1 : ¬cond0_1 i) : out0_A_2 c i a0 h0 a1 h1 a2 h2 c0 c1 x y (ix3 0 p l) = slots x p l := by
  unfold out0_A_2
  rw [View.read_writes_eq_canon _ _ _ (cover0_A_2 c i a0 h0 a1 h1 a2 h2 c0 c1 x y)]
  unfold kernelRun0_A
  dsimp only
  sl_unfold_words
  rw [View.canon_unit_zero off3, pay1_apply]
  simp only [View.readAt_eq_ld, h0.read_unread]
  exact four x p l _ _ _ _

/-- … and of the second. -/
theorem out_B (c0 : ¬cond0_0 i) (c1 : cond0_1 i) : out0_B_2 c i a0 h0 a1 h1 a2 h2 c0 c1 x y (ix3 0 p l) = slots y p l := by
  unfold out0_B_2
  rw [View.read_writes_eq_canon _ _ _ (cover0_B_2 c i a0 h0 a1 h1 a2 h2 c0 c1 x y)]
  unfold kernelRun0_B
  dsimp only
  sl_unfold_words
  rw [View.canon_unit_zero off3, pay2_apply]
  simp only [View.readAt_eq_ld, h1.read_unread]
  exact four y p l _ _ _ _

end Cases

/-- Point `t` has layer `t / 2` and, of its rows, the half `t % 2`. -/
abbrev lay (t : Fin cfg0.N) : Fin 2 := ⟨t.val / 2, by have := t.isLt; have : cfg0.N = 4 := N_0; omega⟩
abbrev row (t : Fin cfg0.N) (p : Fin 256) : Fin 512 := ⟨256 * (t.val % 2) + p.val, by omega⟩

theorem idx0 : ∀ t : Fin cfg0.N, t.val < 2 → win0_0.index t (0 : Fin 3) = 0 ∧ win0_0.index t (1 : Fin 3) = t.val % 2 ∧ win0_0.index t (2 : Fin 3) = 0 :=
  (by decide +kernel : ∀ t : Fin grid0.N, _)
theorem idx1 : ∀ t : Fin cfg0.N, 2 ≤ t.val → win0_1.index t (0 : Fin 3) = 0 ∧ win0_1.index t (1 : Fin 3) = t.val % 2 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem emb2 (t : Fin cfg0.N) (p : Fin 256) (l : Fin 1024) :
    ((cfg0.win 2).blk t).view.emb (ix3 0 p l : S1x256x1024.Idx) = (ix3 (lay t) (row t p) l : S2x512x1024.Idx) := by
  obtain ⟨e0, e1, e2⟩ := idx2 t
  funext a; apply Fin.ext
  match a with
  | ⟨0, _⟩ => show win0_2.index t (0 : Fin 3) * 1 + 1 * 0 = t.val / 2; omega
  | ⟨1, _⟩ => show win0_2.index t (1 : Fin 3) * 256 + 1 * p.val = 256 * (t.val % 2) + p.val; omega
  | ⟨2, _⟩ => show win0_2.index t (2 : Fin 3) * 1024 + 1 * l.val = l.val; omega

theorem mem2 (t : Fin cfg0.N) (p : Fin 256) (l : Fin 1024) :
    (ix3 (lay t) (row t p) l : S2x512x1024.Idx) ∈ ((cfg0.win 2).blk t).view.set := by
  rw [← emb2]; exact ((cfg0.win 2).blk t).view.emb_mem_set _

variable (m : (ℓ : Loc nD τ sig) → Buf (Elt Ideal) ℓ) (ρ : Dev nD → PrngReg)

abbrev argX (c : Dev nD) : Vec Ideal S4x512x1024 .bf16 := m ((c : Thread nD τ).loc main_arg0)
abbrev argY (c : Dev nD) : Vec Ideal S4x512x1024 .bf16 := m ((c : Thread nD τ).loc main_arg1)

theorem iblk0_apply (c : Dev nD) (t : Fin cfg0.N) (ht : t.val < 2) (s : Fin 4) (p : Fin 256) (l : Fin 1024) :
    (iblk m c 0 t : Vec Ideal S4x256x1024 .bf16) (ix3 s p l) = argX m c (ix3 s (row t p) l) := by
  obtain ⟨e0, e1, e2⟩ := idx0 t ht
  show V m c main_arg0 _ = m (c.tc.loc main_arg0) _
  rw [V_main_arg0]
  congr 1; funext a; apply Fin.ext
  match a with
  | ⟨0, _⟩ => show win0_0.index t (0 : Fin 3) * 4 + 1 * s.val = s.val; omega
  | ⟨1, _⟩ => show win0_0.index t (1 : Fin 3) * 256 + 1 * p.val = 256 * (t.val % 2) + p.val; omega
  | ⟨2, _⟩ => show win0_0.index t (2 : Fin 3) * 1024 + 1 * l.val = l.val; omega

theorem iblk1_apply (c : Dev nD) (t : Fin cfg0.N) (ht : 2 ≤ t.val) (s : Fin 4) (p : Fin 256) (l : Fin 1024) :
    (iblk m c 1 t : Vec Ideal S4x256x1024 .bf16) (ix3 s p l) = argY m c (ix3 s (row t p) l) := by
  obtain ⟨e0, e1, e2⟩ := idx1 t ht
  show V m c main_arg1 _ = m (c.tc.loc main_arg1) _
  rw [V_main_arg1]
  congr 1; funext a; apply Fin.ext
  match a with
  | ⟨0, _⟩ => show win0_1.index t (0 : Fin 3) * 4 + 1 * s.val = s.val; omega
  | ⟨1, _⟩ => show win0_1.index t (1 : Fin 3) * 256 + 1 * p.val = 256 * (t.val % 2) + p.val; omega
  | ⟨2, _⟩ => show win0_1.index t (2 : Fin 3) * 1024 + 1 * l.val = l.val; omega

/-- The two layers' sums. -/
abbrev res (x y : Vec Ideal S4x512x1024 .bf16) : Vec Ideal S2x512x1024 .f32 := stacked ![x, y]

theorem flushed2_eq (c : Dev nD) (t : Fin cfg0.N) : (dats m 0 c).flushed 2 t
    = ((cfg0.win 2).blk t).view.read (Elt Ideal) (res (argX m c) (argY m c)) := by
  have hN : t.val < 4 := N_0 ▸ t.isLt
  rcases Nat.lt_or_ge t.val 2 with h | h
  · have e : lay t = 0 := Fin.ext (by show t.val / 2 = 0; omega)
    rw [flushed2_A m c t h (by omega)]
    funext j
    obtain ⟨p, l, rfl⟩ : ∃ (p : Fin 256) (l : Fin 1024), j = (ix3 0 p l : S1x256x1024.Idx) := ⟨j 1, j 2, (eq_ix3 j).trans (by congr 1; exact Subsingleton.elim _ _)⟩
    refine (out_A c _ _ _ _ _ _ _ _ _ p l _ _).trans ?_
    show _ = res _ _ (((cfg0.win 2).blk t).view.emb (ix3 0 p l : S1x256x1024.Idx))
    rw [emb2, e]
    exact slots_congr _ (argX m c) p (row t p) l fun s => iblk0_apply m c t h s p l
  · have e : lay t = 1 := Fin.ext (by show t.val / 2 = 1; omega)
    rw [flushed2_B m c t (by omega) h]
    funext j
    obtain ⟨p, l, rfl⟩ : ∃ (p : Fin 256) (l : Fin 1024), j = (ix3 0 p l : S1x256x1024.Idx) := ⟨j 1, j 2, (eq_ix3 j).trans (by congr 1; exact Subsingleton.elim _ _)⟩
    refine (out_B c _ _ _ _ _ _ _ _ _ p l _ _).trans ?_
    show _ = res _ _ (((cfg0.win 2).blk t).view.emb (ix3 0 p l : S1x256x1024.Idx))
    rw [emb2, e]
    exact slots_congr _ (argY m c) p (row t p) l fun s => iblk1_apply m c t h s p l

theorem final2 (c : Dev nD) : (dats m 0 c).arrAt 2 cfg0.N = res (argX m c) (argY m c) :=
  (dats m 0 c).arrAt_eq_of_cover 2 _ (fun t _ => flushed2_eq m c t) fun i => by
    have h0 : (i 0).val < 2 := (i 0).isLt
    have h1 : (i 1).val < 512 := (i 1).isLt
    obtain ⟨t, ht⟩ : ∃ t : Fin cfg0.N, t.val = 2 * (i 0).val + (i 1).val / 256 :=
      ⟨⟨2 * (i 0).val + (i 1).val / 256, by have : cfg0.N = 4 := N_0; omega⟩, rfl⟩
    refine ⟨t, flush0_2 t, ?_⟩
    have hi : i = (ix3 (lay t) (row t ⟨(i 1).val % 256, by omega⟩) (i 2) : S2x512x1024.Idx) := by
      funext a; apply Fin.ext
      match a with
      | ⟨0, _⟩ => show (i 0).val = t.val / 2; omega
      | ⟨1, _⟩ => show (i 1).val = 256 * (t.val % 2) + (i 1).val % 256; omega
      | ⟨2, _⟩ => rfl
    rw [hi]
    exact mem2 t _ _

/-- The kernel's run, with its result array at its value. -/
theorem run : θ_run defs (onTc (τ := τ) (main (F := Ideal))) ⟨m, fun _ => 0, ρ⟩ fun r => ∀ c : Dev nD,
      r.2.mem ((c : Thread nD τ).loc main_v0) = res (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.Kernel31Ideal.Chip

namespace Cert.Chip

open Cert.Reference31Ideal.Read in
theorem val31_apply (x y : Vec Ideal Reference31Ideal.S4x512x1024 .bf16) (j : Reference31Ideal.S2x512x1024.Idx) :
    val_main_v6 (F := Ideal) x y j = stacked ![x, y] j := by
  obtain ⟨q, p, l, rfl⟩ : ∃ (q : Fin 2) (p : Fin 512) (l : Fin 1024), j = ix3 q p l := ⟨j 0, j 1, j 2, eq_ix3 j⟩
  fin_cases q
  · pointwise [val_main_v6, val_main_v5, val_main_v4, val_main_v3, val_main_v2, val_main_v1, val_main_v0, val_main_cst, val_main_cst_0]
    rfl
  · pointwise [val_main_v6, val_main_v5, val_main_v4, val_main_v3, val_main_v2, val_main_v1, val_main_v0, val_main_cst, val_main_cst_0]
    rfl

theorem algebraic31 : Cert.algebraic_Kernel31Ideal_Reference31Ideal (hKernel31Ideal := Cert.Kernel31Ideal.Gen.facts)
    (hReference31Ideal := Cert.Reference31Ideal.Gen.facts) := by
  intro m g m' g' _ hm
  refine ⟨fun c => Kernel31Ideal.Chip.res _ _, Kernel31Ideal.Chip.run m g, (θ_run _ _ _).mono (fun r h c => ?_) (Reference31Ideal.Value.run m' g')⟩
  obtain ⟨e0, e1⟩ := hm c
  refine ⟨(h c).1.trans ?_, (h c).2⟩
  rw [e0, e1]
  exact (Reference31Ideal.Read.val_main_v6_eq (F := Ideal) _ _).trans (funext fun j => val31_apply _ _ j)

end Cert.Chip

end
-- ==== Proof.lean ====
/-
  The claims of `Cert.Claim`: every kernel and its reference run to the end and leave their arguments and every semaphore
  as they found them, and each kernel's results are its reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Reference2Ideal.Read
public import proofs.«01_k».proof.Proof.Gen.Reference2Ideal.Run
public import proofs.«01_k».proof.Proof.Gen.Kernel2Ideal.Value
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Read
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Read
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Read
public import proofs.«01_k».proof.Proof.Gen.Reference31Ideal.Run
public import proofs.«01_k».proof.Proof.PostClaim
public import proofs.«01_k».proof.Proof.MnbClaim
public import proofs.«01_k».proof.Proof.DwUp
public import proofs.«01_k».proof.Proof.DMlpAct
public import proofs.«01_k».proof.Proof.DwDown
public import proofs.«01_k».proof.Proof.GibClaim
public import proofs.«01_k».proof.Proof.MlpUp
public import proofs.«01_k».proof.Proof.MlpDown
public import proofs.«01_k».proof.Proof.DMixOut
public import proofs.«01_k».proof.Proof.AdamSmall
public import proofs.«01_k».proof.Proof.Halves16
public import proofs.«01_k».proof.Proof.Halves17
public import proofs.«01_k».proof.Proof.Halves18
public import proofs.«01_k».proof.Proof.Halves19
public import proofs.«01_k».proof.Proof.InGdn
public import proofs.«01_k».proof.Proof.InHgrn
public import proofs.«01_k».proof.Proof.OutProj
public import proofs.«01_k».proof.Proof.DwOut
public import proofs.«01_k».proof.Proof.DwIn
public import proofs.«01_k».proof.Proof.PostForward
public import proofs.«01_k».proof.Proof.LossHead
public import proofs.«01_k».proof.Proof.AddSmall
public import proofs.«01_k».proof.Proof.Chips28
public import proofs.«01_k».proof.Proof.Chips29
public import proofs.«01_k».proof.Proof.Chips30
public import proofs.«01_k».proof.Proof.Chips31
public import Idealize.ShloMosaic.Lib.Quiescent
public import Idealize.ShloMosaic.Adequacy
public import Idealize.ShloMosaic.Init

@[expose] public section

noncomputable section

namespace Cert.Proof

open Idealize.ShloMosaic Idealize.SL.Sem

/-- The first reference leaves its arguments alone; it has no semaphores. -/
theorem frame_reference : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run m ρ)

/-- So does the second. -/
theorem frame_reference2 : Cert.quiescent_Reference2Ideal (hReference2Ideal := Cert.Reference2Ideal.Gen.facts) := fun m ρ _ =>
  (θ_run _ _ _).mono (fun r h => ⟨fun c => (h c).2.2.2, sem_eq_zero_of_no_sems (by decide) r.2⟩) (Cert.Reference2Ideal.Value.run m ρ)

/-- The third. -/
theorem frame_reference3 : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The fourth. -/
theorem frame_reference4 : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The fifth. -/
theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The sixth. -/
theorem frame_reference6 : Cert.quiescent_Reference6Ideal (hReference6Ideal := Cert.Reference6Ideal.Gen.facts) := fun m ρ _ =>
  (θ_run _ _ _).mono (fun r h => ⟨fun c => (h c).2.2.2, sem_eq_zero_of_no_sems (by decide) r.2⟩) (Cert.Reference6Ideal.Value.run m ρ)

/-- The seventh. -/
theorem frame_reference7 : Cert.quiescent_Reference7Ideal (hReference7Ideal := Cert.Reference7Ideal.Gen.facts) := fun m ρ _ =>
  (θ_run _ _ _).mono (fun r h => ⟨fun c => (h c).2.2, sem_eq_zero_of_no_sems (by decide) r.2⟩) (Cert.Reference7Ideal.Value.run m ρ)

/-- The eighth. -/
theorem frame_reference8 : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

/-- The ninth. -/
theorem frame_reference9 : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)

/-- The tenth. -/
theorem frame_reference10 : Cert.quiescent_Reference10Ideal (hReference10Ideal := Cert.Reference10Ideal.Gen.facts) := fun m ρ _ =>
  (θ_run _ _ _).mono (fun r h => ⟨fun c => (h c).2.2.2, sem_eq_zero_of_no_sems (by decide) r.2⟩) (Cert.Reference10Ideal.Value.run m ρ)

/-- The eleventh. -/
theorem frame_reference11 : Cert.quiescent_Reference11Ideal (hReference11Ideal := Cert.Reference11Ideal.Gen.facts) := fun m ρ _ =>
  (θ_run _ _ _).mono (fun r h => ⟨fun c => (h c).2.2.2, sem_eq_zero_of_no_sems (by decide) r.2⟩) (Cert.Reference11Ideal.Value.run m ρ)

/-- The twelfth. -/
theorem frame_reference12 : Cert.quiescent_Reference12Ideal (hReference12Ideal := Cert.Reference12Ideal.Gen.facts) := fun m ρ _ =>
  (θ_run _ _ _).mono (fun r h => ⟨fun c => (h c).2.2.2, sem_eq_zero_of_no_sems (by decide) r.2⟩) (Cert.Reference12Ideal.Value.run m ρ)

/-- The thirteenth. -/
theorem frame_reference13 : Cert.quiescent_Reference13Ideal (hReference13Ideal := Cert.Reference13Ideal.Gen.facts) := fun m ρ _ =>
  (θ_run _ _ _).mono (fun r h => ⟨fun c => (h c).2.2.2, sem_eq_zero_of_no_sems (by decide) r.2⟩) (Cert.Reference13Ideal.Value.run m ρ)

/-- The fourteenth. -/
theorem frame_reference14 : Cert.quiescent_Reference14Ideal (hReference14Ideal := Cert.Reference14Ideal.Gen.facts) := fun m ρ _ =>
  (θ_run _ _ _).mono (fun r h => ⟨fun c => (h c).2.2.2, sem_eq_zero_of_no_sems (by decide) r.2⟩) (Cert.Reference14Ideal.Value.run m ρ)

/-- The fifteenth. -/
theorem frame_reference15 : Cert.quiescent_Reference15Ideal (hReference15Ideal := Cert.Reference15Ideal.Gen.facts) := fun m ρ _ =>
  (θ_run _ _ _).mono (fun r h => ⟨fun c => (h c).2.2.2, sem_eq_zero_of_no_sems (by decide) r.2⟩) (Cert.Reference15Ideal.Value.run m ρ)

/-- The sixteenth. -/
theorem frame_reference16 : Cert.quiescent_Reference16Ideal (hReference16Ideal := Cert.Reference16Ideal.Gen.facts) := fun m ρ _ =>
  (θ_run _ _ _).mono (fun r h => ⟨fun c => (h c).2.2.2.2, sem_eq_zero_of_no_sems (by decide) r.2⟩) (Cert.Reference16Ideal.Value.run m ρ)

/-- The seventeenth. -/
theorem frame_reference17 : Cert.quiescent_Reference17Ideal (hReference17Ideal := Cert.Reference17Ideal.Gen.facts) := fun m ρ _ =>
  (θ_run _ _ _).mono (fun r h => ⟨fun c => (h c).2.2.2.2, sem_eq_zero_of_no_sems (by decide) r.2⟩) (Cert.Reference17Ideal.Value.run m ρ)

/-- The eighteenth. -/
theorem frame_reference18 : Cert.quiescent_Reference18Ideal (hReference18Ideal := Cert.Reference18Ideal.Gen.facts) := fun m ρ _ =>
  (θ_run _ _ _).mono (fun r h => ⟨fun c => (h c).2.2.2.2, sem_eq_zero_of_no_sems (by decide) r.2⟩) (Cert.Reference18Ideal.Value.run m ρ)

/-- The nineteenth. -/
theorem frame_reference19 : Cert.quiescent_Reference19Ideal (hReference19Ideal := Cert.Reference19Ideal.Gen.facts) := fun m ρ _ =>
  (θ_run _ _ _).mono (fun r h => ⟨fun c => (h c).2.2.2.2, sem_eq_zero_of_no_sems (by decide) r.2⟩) (Cert.Reference19Ideal.Value.run m ρ)

/-- Reference20. -/
theorem frame_reference20 : Cert.quiescent_Reference20Ideal (hReference20Ideal := Cert.Reference20Ideal.Gen.facts) := fun m ρ _ =>
  (θ_run _ _ _).mono (fun r h => ⟨fun c => (h c).2.2, sem_eq_zero_of_no_sems (by decide) r.2⟩) (Cert.Reference20Ideal.Value.run m ρ)

/-- Reference21. -/
theorem frame_reference21 : Cert.quiescent_Reference21Ideal (hReference21Ideal := Cert.Reference21Ideal.Gen.facts) := fun m ρ _ =>
  (θ_run _ _ _).mono (fun r h => ⟨fun c => (h c).2.2, sem_eq_zero_of_no_sems (by decide) r.2⟩) (Cert.Reference21Ideal.Value.run m ρ)

/-- Reference22. -/
theorem frame_reference22 : Cert.quiescent_Reference22Ideal (hReference22Ideal := Cert.Reference22Ideal.Gen.facts) := fun m ρ _ =>
  (θ_run _ _ _).mono (fun r h => ⟨fun c => (h c).2, sem_eq_zero_of_no_sems (by decide) r.2⟩) (Cert.Reference22Ideal.Value.run m ρ)

/-- Reference23. -/
theorem frame_reference23 : Cert.quiescent_Reference23Ideal (hReference23Ideal := Cert.Reference23Ideal.Gen.facts) := fun m ρ _ =>
  (θ_run _ _ _).mono (fun r h => ⟨fun c => (h c).2, sem_eq_zero_of_no_sems (by decide) r.2⟩) (Cert.Reference23Ideal.Value.run m ρ)

/-- Reference24. -/
theorem frame_reference24 : Cert.quiescent_Reference24Ideal (hReference24Ideal := Cert.Reference24Ideal.Gen.facts) := fun m ρ _ =>
  (θ_run _ _ _).mono (fun r h => ⟨fun c => (h c).2, sem_eq_zero_of_no_sems (by decide) r.2⟩) (Cert.Reference24Ideal.Value.run m ρ)

/-- Reference25. -/
theorem frame_reference25 : Cert.quiescent_Reference25Ideal (hReference25Ideal := Cert.Reference25Ideal.Gen.facts) := fun m ρ _ =>
  (θ_run _ _ _).mono (fun r h => ⟨fun c => (h c).2, sem_eq_zero_of_no_sems (by decide) r.2⟩) (Cert.Reference25Ideal.Value.run m ρ)

/-- Reference26. -/
theorem frame_reference26 : Cert.quiescent_Reference26Ideal (hReference26Ideal := Cert.Reference26Ideal.Gen.facts) := fun m ρ _ =>
  (θ_run _ _ _).mono (fun r h => ⟨fun c => (h c).2.2.2.2, sem_eq_zero_of_no_sems (by decide) r.2⟩) (Cert.Reference26Ideal.Value.run m ρ)

/-- Reference27. -/
theorem frame_reference27 : Cert.quiescent_Reference27Ideal (hReference27Ideal := Cert.Reference27Ideal.Gen.facts) := fun m ρ _ =>
  (θ_run _ _ _).mono (fun r h => ⟨fun c => (h c).2, sem_eq_zero_of_no_sems (by decide) r.2⟩) (Cert.Reference27Ideal.Value.run m ρ)

/-- Reference28. -/
theorem frame_reference28 : Cert.quiescent_Reference28Ideal (hReference28Ideal := Cert.Reference28Ideal.Gen.facts) := fun m ρ _ =>
  (θ_run _ _ _).mono (fun r h => ⟨fun c => (h c).2, sem_eq_zero_of_no_sems (by decide) r.2⟩) (Cert.Reference28Ideal.Value.run m ρ)

/-- Reference29. -/
theorem frame_reference29 : Cert.quiescent_Reference29Ideal (hReference29Ideal := Cert.Reference29Ideal.Gen.facts) := fun m ρ _ =>
  (θ_run _ _ _).mono (fun r h => ⟨fun c => (h c).2, sem_eq_zero_of_no_sems (by decide) r.2⟩) (Cert.Reference29Ideal.Value.run m ρ)

/-- Reference30. -/
theorem frame_reference30 : Cert.quiescent_Reference30Ideal (hReference30Ideal := Cert.Reference30Ideal.Gen.facts) := fun m ρ _ =>
  (θ_run _ _ _).mono (fun r h => ⟨fun c => (h c).2, sem_eq_zero_of_no_sems (by decide) r.2⟩) (Cert.Reference30Ideal.Value.run m ρ)

/-- Reference31. -/
theorem frame_reference31 : Cert.quiescent_Reference31Ideal (hReference31Ideal := Cert.Reference31Ideal.Gen.facts) := fun m ρ _ =>
  (θ_run _ _ _).mono (fun r h => ⟨fun c => (h c).2, sem_eq_zero_of_no_sems (by decide) r.2⟩) (Cert.Reference31Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  fun m ρ _ => Cert.Kernel25.Gen.frame m ρ,
  fun m ρ _ => Cert.Kernel25Ideal.Gen.frame m ρ,
  frame_reference25,
  fun m ρ _ => Cert.Kernel26.Gen.frame m ρ,
  fun m ρ _ => Cert.Kernel26Ideal.Gen.frame m ρ,
  frame_reference26,
  fun m ρ _ => Cert.Kernel27.Gen.frame m ρ,
  fun m ρ _ => Cert.Kernel27Ideal.Gen.frame m ρ,
  frame_reference27,
  fun m ρ _ => Cert.Kernel28.Gen.frame m ρ,
  fun m ρ _ => Cert.Kernel28Ideal.Gen.frame m ρ,
  frame_reference28,
  fun m ρ _ => Cert.Kernel29.Gen.frame m ρ,
  fun m ρ _ => Cert.Kernel29Ideal.Gen.frame m ρ,
  frame_reference29,
  fun m ρ _ => Cert.Kernel30.Gen.frame m ρ,
  fun m ρ _ => Cert.Kernel30Ideal.Gen.frame m ρ,
  frame_reference30,
  fun m ρ _ => Cert.Kernel31.Gen.frame m ρ,
  fun m ρ _ => Cert.Kernel31Ideal.Gen.frame m ρ,
  frame_reference31,
  trivial,
  Cert.Post.algebraic,
  trivial,
  Cert.Mnb.algebraic,
  trivial,
  Cert.DwUp.algebraic,
  trivial,
  Cert.DMlpAct.algebraic,
  trivial,
  Cert.DwDown.algebraic,
  trivial,
  Cert.Gib.algebraic,
  trivial,
  Cert.MlpUp.algebraic,
  trivial,
  Cert.MlpDown.algebraic,
  trivial,
  Cert.DMixOut.algebraic,
  ⟨IdealRules.named_const.statement Cert.Kernel10Ideal.κ "inv_bias1" .f32 0x3FC48605#32 ((8388608 / 5463681 : ℝ) : EReal) rfl,
    IdealRules.named_const.statement Cert.Kernel10Ideal.κ "inv_bias2" .f32 0x42C8E6D3#32 ((268435456 / 2672307 : ℝ) : EReal) rfl⟩,
  Cert.Adam.algebraic10,
  ⟨IdealRules.named_const.statement Cert.Kernel11Ideal.κ "inv_bias1" .f32 0x3FC48605#32 ((8388608 / 5463681 : ℝ) : EReal) rfl,
    IdealRules.named_const.statement Cert.Kernel11Ideal.κ "inv_bias2" .f32 0x42C8E6D3#32 ((268435456 / 2672307 : ℝ) : EReal) rfl⟩,
  Cert.Adam.algebraic11,
  ⟨IdealRules.named_const.statement Cert.Kernel12Ideal.κ "inv_bias1" .f32 0x3FC48605#32 ((8388608 / 5463681 : ℝ) : EReal) rfl,
    IdealRules.named_const.statement Cert.Kernel12Ideal.κ "inv_bias2" .f32 0x42C8E6D3#32 ((268435456 / 2672307 : ℝ) : EReal) rfl⟩,
  Cert.Adam.algebraic12,
  ⟨IdealRules.named_const.statement Cert.Kernel13Ideal.κ "inv_bias1" .f32 0x3FC48605#32 ((8388608 / 5463681 : ℝ) : EReal) rfl,
    IdealRules.named_const.statement Cert.Kernel13Ideal.κ "inv_bias2" .f32 0x42C8E6D3#32 ((268435456 / 2672307 : ℝ) : EReal) rfl⟩,
  Cert.Adam.algebraic13,
  ⟨IdealRules.named_const.statement Cert.Kernel14Ideal.κ "inv_bias1" .f32 0x3FC48605#32 ((8388608 / 5463681 : ℝ) : EReal) rfl,
    IdealRules.named_const.statement Cert.Kernel14Ideal.κ "inv_bias2" .f32 0x42C8E6D3#32 ((268435456 / 2672307 : ℝ) : EReal) rfl⟩,
  Cert.Adam.algebraic14,
  ⟨IdealRules.named_const.statement Cert.Kernel15Ideal.κ "inv_bias1" .f32 0x3FC48605#32 ((8388608 / 5463681 : ℝ) : EReal) rfl,
    IdealRules.named_const.statement Cert.Kernel15Ideal.κ "inv_bias2" .f32 0x42C8E6D3#32 ((268435456 / 2672307 : ℝ) : EReal) rfl⟩,
  Cert.Adam.algebraic15,
  ⟨IdealRules.named_const.statement Cert.Kernel16Ideal.κ "inv_bias1" .f32 0x3FC48605#32 ((8388608 / 5463681 : ℝ) : EReal) rfl,
    IdealRules.named_const.statement Cert.Kernel16Ideal.κ "inv_bias2" .f32 0x42C8E6D3#32 ((268435456 / 2672307 : ℝ) : EReal) rfl⟩,
  Cert.Adam.algebraic16,
  ⟨IdealRules.named_const.statement Cert.Kernel17Ideal.κ "inv_bias1" .f32 0x3FC48605#32 ((8388608 / 5463681 : ℝ) : EReal) rfl,
    IdealRules.named_const.statement Cert.Kernel17Ideal.κ "inv_bias2" .f32 0x42C8E6D3#32 ((268435456 / 2672307 : ℝ) : EReal) rfl⟩,
  Cert.Adam.algebraic17,
  ⟨IdealRules.named_const.statement Cert.Kernel18Ideal.κ "inv_bias1" .f32 0x3FC48605#32 ((8388608 / 5463681 : ℝ) : EReal) rfl,
    IdealRules.named_const.statement Cert.Kernel18Ideal.κ "inv_bias2" .f32 0x42C8E6D3#32 ((268435456 / 2672307 : ℝ) : EReal) rfl⟩,
  Cert.Adam.algebraic18,
  ⟨IdealRules.named_const.statement Cert.Kernel19Ideal.κ "inv_bias1" .f32 0x3FC48605#32 ((8388608 / 5463681 : ℝ) : EReal) rfl,
    IdealRules.named_const.statement Cert.Kernel19Ideal.κ "inv_bias2" .f32 0x42C8E6D3#32 ((268435456 / 2672307 : ℝ) : EReal) rfl⟩,
  Cert.Adam.algebraic19,
  trivial,
  Cert.InGdn.algebraic,
  trivial,
  Cert.InHgrn.algebraic,
  trivial,
  Cert.OutProj.algebraic,
  trivial,
  Cert.DwOut.algebraic,
  trivial,
  Cert.DwIn.algebraic,
  trivial,
  Cert.PostForward.algebraic,
  trivial,
  Cert.LossHead.algebraic,
  trivial,
  Cert.AddSmall.algebraic,
  trivial,
  Cert.Chip.algebraic28,
  trivial,
  Cert.Chip.algebraic29,
  trivial,
  Cert.Chip.algebraic30,
  trivial,
  Cert.Chip.algebraic31⟩

end Cert.Proof

end
